-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_gates_finite [hPre_gates_finite : Cert.Pre_gates_finite.Facts] (m : (ℓ : Loc Cert.KernelIdeal.nD Cert.KernelIdeal.τ Cert.KernelIdeal.sig) → Buf (Elt Ideal) ℓ) : Prop :=
  ∀ c : Dev Cert.KernelIdeal.nD,
    (Cert.Pre_gates_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_gates_finite [hPre_gates_finite : Cert.Pre_gates_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_gates_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_inputs_finite [hPre_inputs_finite : Cert.Pre_inputs_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_inputs_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_inputs_finite [hPre_inputs_finite : Cert.Pre_inputs_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_inputs_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_gates_finite [hKernelIdeal : Cert.KernelIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_gates_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_gates_finite [hReferenceIdeal : Cert.ReferenceIdeal.Facts] [hPre_gates_finite : Cert.Pre_gates_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_gates_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Kernel4Ideal_pre_inputs_finite [hKernel4Ideal : Cert.Kernel4Ideal.Facts] [hPre_inputs_finite : Cert.Pre_inputs_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_inputs_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Reference4Ideal_pre_inputs_finite [hReference4Ideal : Cert.Reference4Ideal.Facts] [hPre_inputs_finite : Cert.Pre_inputs_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_inputs_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def preserves_Kernel_KernelIdeal : Prop :=
  True

def algebraic_KernelIdeal_ReferenceIdeal_pre_gates_finite [hKernelIdeal : Cert.KernelIdeal.Facts] [hReferenceIdeal : Cert.ReferenceIdeal.Facts] [hPre_gates_finite : Cert.Pre_gates_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_gates_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v147) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v5) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v31) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v28) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal_pre_inputs_finite [hKernel4Ideal : Cert.Kernel4Ideal.Facts] [hReference4Ideal : Cert.Reference4Ideal.Facts] [hPre_inputs_finite : Cert.Pre_inputs_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_inputs_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v31_0)) (v1 : (c : Dev Cert.Kernel4Ideal.nD) → Buf (Elt Ideal) ((c.tc : Thread Cert.Kernel4Ideal.nD Cert.Kernel4Ideal.τ).loc Cert.Kernel4Ideal.main_v31_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v31_0) = v0 c
          ∧ r.2.mem ((c.tc : Thread Cert.Kernel4Ideal.nD Cert.Kernel4Ideal.τ).loc Cert.Kernel4Ideal.main_v31_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v22) = v0 c
          ∧ r.2.mem ((c.tc : Thread Cert.Reference4Ideal.nD Cert.Reference4Ideal.τ).loc Cert.Reference4Ideal.main_v6) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_gates_finite : Cert.Pre_gates_finite.Facts) (hPre_inputs_finite : Cert.Pre_inputs_finite.Facts),
    quiescent_Kernel (hKernel := hKernel)
    ∧ quiescent_KernelIdeal (hKernelIdeal := hKernelIdeal)
    ∧ quiescent_KernelIdeal_pre_gates_finite (hKernelIdeal := hKernelIdeal) (hPre_gates_finite := hPre_gates_finite)
    ∧ quiescent_ReferenceIdeal (hReferenceIdeal := hReferenceIdeal)
    ∧ quiescent_ReferenceIdeal_pre_gates_finite (hReferenceIdeal := hReferenceIdeal) (hPre_gates_finite := hPre_gates_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_inputs_finite (hKernel4Ideal := hKernel4Ideal) (hPre_inputs_finite := hPre_inputs_finite)
    ∧ quiescent_Reference4Ideal (hReference4Ideal := hReference4Ideal)
    ∧ quiescent_Reference4Ideal_pre_inputs_finite (hReference4Ideal := hReference4Ideal) (hPre_inputs_finite := hPre_inputs_finite)
    ∧ preserves_Kernel_KernelIdeal
    ∧ algebraic_KernelIdeal_ReferenceIdeal_pre_gates_finite (hKernelIdeal := hKernelIdeal) (hReferenceIdeal := hReferenceIdeal) (hPre_gates_finite := hPre_gates_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_inputs_finite (hKernel4Ideal := hKernel4Ideal) (hReference4Ideal := hReference4Ideal) (hPre_inputs_finite := hPre_inputs_finite)
-- ==== Pre_gates_finite.lean ====
abbrev S32768x1024 : Shape := ⟨2, ![32768, 1024]⟩
abbrev S32768x8 : Shape := ⟨2, ![32768, 8]⟩
abbrev S8x1024x3584 : Shape := ⟨3, ![8, 1024, 3584]⟩
abbrev S8x3584x1024 : Shape := ⟨3, ![8, 3584, 1024]⟩
abbrev S1024 : Shape := ⟨1, ![1024]⟩
abbrev S_ : Shape := ⟨0, ![]⟩

class Facts : Prop where
  bcast_S_S32768x8 : S_.BroadcastsInDim S32768x8 (![] : Fin 0 → Fin S32768x8.rank)

variable [Facts]

def fn {F : FTy → Type} [FloatOps F] (main_arg0 : FVec F S32768x1024 .f32) (main_arg1 : FVec F S32768x8 .f32) (main_arg2 : FVec F S8x1024x3584 .f32) (main_arg3 : FVec F S8x1024x3584 .f32) (main_arg4 : FVec F S8x3584x1024 .f32) (main_arg5 : FVec F S1024 .f32) (main_arg6 : FVec F S1024 .f32) : IVec S32768x8 1 :=
  let main_cst : FVec F S_ .f32 := constant S_ .f32 0x00000000#32
  let main_v0 : FVec F S32768x8 .f32 := broadcastInDim S32768x8 ![] bcast_S_S32768x8 main_cst
  let main_v1 : IVec S32768x8 1 := cmpf .oge main_arg1 main_v0
  let main_cst_0 : FVec F S_ .f32 := constant S_ .f32 0x7F800000#32
  let main_v2 : FVec F S32768x8 .f32 := broadcastInDim S32768x8 ![] bcast_S_S32768x8 main_cst_0
  let main_v3 : IVec S32768x8 1 := cmpf .olt main_arg1 main_v2
  let main_v4 : IVec S32768x8 1 := andi main_v1 main_v3
  main_v4
-- ==== Pre_inputs_finite.lean ====
abbrev S32768x1024 : Shape := ⟨2, ![32768, 1024]⟩
abbrev S1024x3088 : Shape := ⟨2, ![1024, 3088]⟩
abbrev S1024x512 : Shape := ⟨2, ![1024, 512]⟩
abbrev S1024x8x2x32 : Shape := ⟨4, ![1024, 8, 2, 32]⟩
abbrev S1024x8x1x32 : Shape := ⟨4, ![1024, 8, 1, 32]⟩
abbrev S1024x8x32 : Shape := ⟨3, ![1024, 8, 32]⟩
abbrev S1024x256 : Shape := ⟨2, ![1024, 256]⟩
abbrev S256x1024 : Shape := ⟨2, ![256, 1024]⟩
abbrev S33024x1024 : Shape := ⟨2, ![33024, 1024]⟩
abbrev S_ : Shape := ⟨0, ![]⟩

class Facts : Prop where
  slices_S1024x3088_S1024x512_0_0 : S1024x3088.Slices ![0, 0] S1024x512
  shapeCasts_S1024x512_S1024x8x2x32 : S1024x512.ShapeCasts S1024x8x2x32
  slices_S1024x8x2x32_S1024x8x1x32_0_0_1_0 : S1024x8x2x32.Slices ![0, 0, 1, 0] S1024x8x1x32
  shapeCasts_S1024x8x1x32_S1024x8x32 : S1024x8x1x32.ShapeCasts S1024x8x32
  shapeCasts_S1024x8x32_S1024x256 : S1024x8x32.ShapeCasts S1024x256
  transposes_S1024x256_S256x1024_1_0 : S1024x256.Transposes [1, 0] S256x1024
  concatenates_S32768x1024_S256x1024_S33024x1024_d0 : Shape.Concatenates [S32768x1024, S256x1024] S33024x1024 0
  bcast_S_S33024x1024 : S_.BroadcastsInDim S33024x1024 (![] : Fin 0 → Fin S33024x1024.rank)

variable [Facts]

def fn {F : FTy → Type} [FloatOps F] (main_arg0 : FVec F S32768x1024 .f32) (main_arg1 : FVec F S1024x3088 .f32) : IVec S33024x1024 1 :=
  let main_v0 : FVec F S1024x512 .f32 := (extractStridedSlice S1024x512 ![0, 0] · slices_S1024x3088_S1024x512_0_0) main_arg1
  let main_v1 : FVec F S1024x8x2x32 .f32 := shapeCast S1024x8x2x32 main_v0 shapeCasts_S1024x512_S1024x8x2x32
  let main_v2 : FVec F S1024x8x1x32 .f32 := (extractStridedSlice S1024x8x1x32 ![0, 0, 1, 0] · slices_S1024x8x2x32_S1024x8x1x32_0_0_1_0) main_v1
  let main_v3 : FVec F S1024x8x32 .f32 := shapeCast S1024x8x32 main_v2 shapeCasts_S1024x8x1x32_S1024x8x32
  let main_v4 : FVec F S1024x256 .f32 := shapeCast S1024x256 main_v3 shapeCasts_S1024x8x32_S1024x256
  let main_v5 : FVec F S256x1024 .f32 := (transpose S256x1024 [1, 0] · transposes_S1024x256_S256x1024_1_0) main_v4
  let main_v6 : FVec F S33024x1024 .f32 := (fun a b => concatenate S33024x1024 0 [⟨S32768x1024, a⟩, ⟨S256x1024, b⟩] concatenates_S32768x1024_S256x1024_S33024x1024_d0) main_arg0 main_v5
  let main_cst : FVec F S_ .f32 := constant S_ .f32 0xFF800000#32
  let main_v7 : FVec F S33024x1024 .f32 := broadcastInDim S33024x1024 ![] bcast_S_S33024x1024 main_cst
  let main_v8 : IVec S33024x1024 1 := cmpf .ogt main_v6 main_v7
  let main_cst_0 : FVec F S_ .f32 := constant S_ .f32 0x7F800000#32
  let main_v9 : FVec F S33024x1024 .f32 := broadcastInDim S33024x1024 ![] bcast_S_S33024x1024 main_cst_0
  let main_v10 : IVec S33024x1024 1 := cmpf .olt main_v6 main_v9
  let main_v11 : IVec S33024x1024 1 := andi main_v8 main_v10
  main_v11
-- ==== Kernel.lean ====
abbrev S32768x1024 : Shape := ⟨2, ![32768, 1024]⟩
abbrev S32768x8 : Shape := ⟨2, ![32768, 8]⟩
abbrev S8x1024x3584 : Shape := ⟨3, ![8, 1024, 3584]⟩
abbrev S8x3584x1024 : Shape := ⟨3, ![8, 3584, 1024]⟩
abbrev S1024 : Shape := ⟨1, ![1024]⟩
abbrev S64x64 : Shape := ⟨2, ![64, 64]⟩
abbrev S_ : Shape := ⟨0, ![]⟩
abbrev S32768x128 : Shape := ⟨2, ![32768, 128]⟩
abbrev S33280x128 : Shape := ⟨2, ![33280, 128]⟩
abbrev S33280x8 : Shape := ⟨2, ![33280, 8]⟩
abbrev S40x832x8 : Shape := ⟨3, ![40, 832, 8]⟩
abbrev S40x8 : Shape := ⟨2, ![40, 8]⟩
abbrev S320 : Shape := ⟨1, ![320]⟩
abbrev S1x1024 : Shape := ⟨2, ![1, 1024]⟩
abbrev S1664x1024 : Shape := ⟨2, ![1664, 1024]⟩
abbrev S1664x128 : Shape := ⟨2, ![1664, 128]⟩
abbrev S1x896x1024 : Shape := ⟨3, ![1, 896, 1024]⟩
abbrev S1x1024x896 : Shape := ⟨3, ![1, 1024, 896]⟩
abbrev S8x1024x256 : Shape := ⟨3, ![8, 1024, 256]⟩
abbrev S8x8x256 : Shape := ⟨3, ![8, 8, 256]⟩
abbrev S1 : Shape := ⟨1, ![1]⟩
abbrev S832x1 : Shape := ⟨2, ![832, 1]⟩
abbrev S832x1024 : Shape := ⟨2, ![832, 1024]⟩
abbrev S1x128 : Shape := ⟨2, ![1, 128]⟩
abbrev S64x1 : Shape := ⟨2, ![64, 1]⟩
abbrev S64x128 : Shape := ⟨2, ![64, 128]⟩
abbrev S832x128 : Shape := ⟨2, ![832, 128]⟩
abbrev S832 : Shape := ⟨1, ![832]⟩
abbrev S832x256 : Shape := ⟨2, ![832, 256]⟩
abbrev S1024x256 : Shape := ⟨2, ![1024, 256]⟩
abbrev S1x1024x256 : Shape := ⟨3, ![1, 1024, 256]⟩
abbrev S256 : Shape := ⟨1, ![256]⟩
abbrev S1x256 : Shape := ⟨2, ![1, 256]⟩
abbrev S8x256 : Shape := ⟨2, ![8, 256]⟩
abbrev S1x8x256 : Shape := ⟨3, ![1, 8, 256]⟩
abbrev S896x1024 : Shape := ⟨2, ![896, 1024]⟩
abbrev S896x256 : Shape := ⟨2, ![896, 256]⟩
abbrev S1024x896 : Shape := ⟨2, ![1024, 896]⟩
abbrev S1664 : Shape := ⟨1, ![1664]⟩
abbrev S1664x1 : Shape := ⟨2, ![1664, 1]⟩

abbrev nBuf : Space → Nat
  | .hbm => 31
  | .vmem => 17
  | .smem => 1
  | _ => 0

abbrev bufTy : (tb : Table) → Fin (tcTables nBuf tb) → BufTy
  | .hbm, ⟨0, _⟩ => ⟨S32768x1024, .f32⟩
  | .hbm, ⟨1, _⟩ => ⟨S32768x8, .f32⟩
  | .hbm, ⟨2, _⟩ => ⟨S8x1024x3584, .f32⟩
  | .hbm, ⟨3, _⟩ => ⟨S8x1024x3584, .f32⟩
  | .hbm, ⟨4, _⟩ => ⟨S8x3584x1024, .f32⟩
  | .hbm, ⟨5, _⟩ => ⟨S1024, .f32⟩
  | .hbm, ⟨6, _⟩ => ⟨S1024, .f32⟩
  | .hbm, ⟨7, _⟩ => ⟨S64x64, .f32⟩
  | .hbm, ⟨8, _⟩ => ⟨S_, .i32⟩
  | .hbm, ⟨9, _⟩ => ⟨S_, .f32⟩
  | .hbm, ⟨10, _⟩ => ⟨S32768x128, .f32⟩
  | .hbm, ⟨11, _⟩ => ⟨S8x3584x1024, .f32⟩
  | .hbm, ⟨12, _⟩ => ⟨S8x3584x1024, .bf16⟩
  | .hbm, ⟨13, _⟩ => ⟨S8x3584x1024, .f32⟩
  | .hbm, ⟨14, _⟩ => ⟨S8x3584x1024, .bf16⟩
  | .hbm, ⟨15, _⟩ => ⟨S8x1024x3584, .f32⟩
  | .hbm, ⟨16, _⟩ => ⟨S8x1024x3584, .bf16⟩
  | .hbm, ⟨17, _⟩ => ⟨S_, .i32⟩
  | .hbm, ⟨18, _⟩ => ⟨S_, .f32⟩
  | .hbm, ⟨19, _⟩ => ⟨S33280x128, .f32⟩
  | .hbm, ⟨20, _⟩ => ⟨S33280x8, .f32⟩
  | .hbm, ⟨21, _⟩ => ⟨S_, .f32⟩
  | .hbm, ⟨22, _⟩ => ⟨S33280x8, .f32⟩
  | .hbm, ⟨23, _⟩ => ⟨S33280x8, .i1⟩
  | .hbm, ⟨24, _⟩ => ⟨S40x832x8, .i1⟩
  | .hbm, ⟨25, _⟩ => ⟨S40x832x8, .i32⟩
  | .hbm, ⟨26, _⟩ => ⟨S_, .i32⟩
  | .hbm, ⟨27, _⟩ => ⟨S40x8, .i32⟩
  | .hbm, ⟨28, _⟩ => ⟨S1x1024, .f32⟩
  | .hbm, ⟨29, _⟩ => ⟨S1x1024, .f32⟩
  | .hbm, ⟨30, _⟩ => ⟨S32768x1024, .f32⟩
  | .local _ .vmem, ⟨0, _⟩ => ⟨S1664x1024, .f32⟩
  | .local _ .vmem, ⟨1, _⟩ => ⟨S1664x128, .f32⟩
  | .local _ .vmem, ⟨2, _⟩ => ⟨S64x64, .f32⟩
  | .local _ .vmem, ⟨3, _⟩ => ⟨S1x896x1024, .bf16⟩
  | .local _ .vmem, ⟨4, _⟩ => ⟨S1x896x1024, .bf16⟩
  | .local _ .vmem, ⟨5, _⟩ => ⟨S1x896x1024, .bf16⟩
  | .local _ .vmem, ⟨6, _⟩ => ⟨S1x896x1024, .bf16⟩
  | .local _ .vmem, ⟨7, _⟩ => ⟨S1x1024x896, .bf16⟩
  | .local _ .vmem, ⟨8, _⟩ => ⟨S1x1024x896, .bf16⟩
  | .local _ .vmem, ⟨9, _⟩ => ⟨S1x1024, .f32⟩
  | .local _ .vmem, ⟨10, _⟩ => ⟨S1x1024, .f32⟩
  | .local _ .vmem, ⟨11, _⟩ => ⟨S1664x1024, .f32⟩
  | .local _ .vmem, ⟨12, _⟩ => ⟨S1664x1024, .bf16⟩
  | .local _ .vmem, ⟨13, _⟩ => ⟨S8x1024x256, .bf16⟩
  | .local _ .vmem, ⟨14, _⟩ => ⟨S8x1024x256, .f32⟩
  | .local _ .vmem, ⟨15, _⟩ => ⟨S8x8x256, .f32⟩
  | .local _ .vmem, ⟨16, _⟩ => ⟨S1664x128, .f32⟩
  | .local _ .smem, ⟨0, _⟩ => ⟨S320, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_call1_v0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v14 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨3, ![20, 8, 4], ![false, false, false]⟩

abbrev pre0 : Pipeline.Prefetch sig := ⟨1, ![main_v14.idx], fun | 0 => main_v14.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) (c0_i32 : BitVec 32) : Fin 1 → Nat :=
  let arg0 : BitVec 32 := BitVec.ofNat 32 (i 0).val
  let c2_i32 : BitVec 32 := 2#32
  let v0 : BitVec 32 := Scalar.muli arg0 c2_i32
  let v1 : BitVec 32 := Scalar.addi v0 c0_i32
  let c8_i32 : BitVec 32 := 8#32
  let v2 : BitVec 32 := Scalar.muli v1 c8_i32
  let arg1 : BitVec 32 := BitVec.ofNat 32 (i 1).val
  let v3 : BitVec 32 := Scalar.addi v2 arg1
  let v4 : Index := Scalar.indexCast v3
  ![v4.toNat]
def k0_cond2 (i : grid0.Coords) : BitVec 1 :=
  let arg2 : BitVec 32 := BitVec.ofNat 32 (i 2).val
  let c0_i32_19 : BitVec 32 := 0#32
  let v54 : BitVec 1 := Scalar.cmpi .eq arg2 c0_i32_19
  let v55 : BitVec 32 := Scalar.extui v54
  let c0_i32_20 : BitVec 32 := 0#32
  let v56 : BitVec 1 := Scalar.cmpi .ne v55 c0_i32_20
  v56

@[reducible] def k0_t1_loop (v5 : BitVec 32) : Scf.Loop 32 :=
  let c0_i32_35 : BitVec 32 := 0#32
  let c255_i32 : BitVec 32 := 255#32
  let v6 : BitVec 32 := Scalar.addi v5 c255_i32
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c256_i32 : BitVec 32 := 256#32
  let c0_i32_2 : BitVec 32 := 0#32
  let v13 : BitVec 1 := Scalar.cmpi .sgt c256_i32 c0_i32_2
  let v14 : BitVec 32 := Scalar.extui v13
  let c0_i32_3 : BitVec 32 := 0#32
  let v15 : BitVec 1 := Scalar.cmpi .slt c256_i32 c0_i32_3
  let v16 : BitVec 32 := Scalar.extui v15
  let v17 : BitVec 32 := Scalar.subi v14 v16
  let v18 : BitVec 1 := Scalar.cmpi .ne v12 v17
  let v19 : BitVec 32 := Scalar.remsi v6 c256_i32
  let c0_i32_4 : BitVec 32 := 0#32
  let v20 : BitVec 1 := Scalar.cmpi .ne v19 c0_i32_4
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v78 : BitVec 32 := Scalar.subi v23 c0_i32_35
  let c1_i32_36 : BitVec 32 := 1#32
  let v80 : BitVec 32 := Scalar.divsi v78 c1_i32_36
  let v81 : BitVec 32 := Scalar.muli v80 c1_i32_36
  let v82 : BitVec 32 := Scalar.addi c0_i32_35 v81
  let c1_i32_37 : BitVec 32 := 1#32
  ⟨c0_i32_35, v82, c1_i32_37⟩

def k0_off2 (v5 : BitVec 32) (k0_t1 : Fin (k0_t1_loop v5).trips) : Fin 3 → Nat :=
  let c0_i32_52 : BitVec 32 := 0#32
  let c0_i32_35 : BitVec 32 := 0#32
  let c1_i32_37 : BitVec 32 := 1#32
  let arg18 : BitVec 32 := Scf.iv c0_i32_35 c1_i32_37 k0_t1
  let v111 : BitVec 32 := Scalar.addi c0_i32_52 arg18
  let v119 : Index := Scalar.indexCast v111
  let c0_58 : Index := 0#32
  let c0_59 : Index := 0#32
  ![v119.toNat, 0, 0]
def k0_off3 (v5 : BitVec 32) (k0_t1 : Fin (k0_t1_loop v5).trips) : Fin 3 → Nat :=
  let c0_i32_52 : BitVec 32 := 0#32
  let c0_i32_35 : BitVec 32 := 0#32
  let c1_i32_37 : BitVec 32 := 1#32
  let arg18 : BitVec 32 := Scf.iv c0_i32_35 c1_i32_37 k0_t1
  let v111 : BitVec 32 := Scalar.addi c0_i32_52 arg18
  let v131 : Index := Scalar.indexCast v111
  let c0_62 : Index := 0#32
  let c0_63 : Index := 0#32
  ![v131.toNat, 0, 0]
@[reducible] def k0_t2_loop (v5 : BitVec 32) : Scf.Loop 32 :=
  let c0_i32_35 : BitVec 32 := 0#32
  let c255_i32 : BitVec 32 := 255#32
  let v6 : BitVec 32 := Scalar.addi v5 c255_i32
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c256_i32 : BitVec 32 := 256#32
  let c0_i32_2 : BitVec 32 := 0#32
  let v13 : BitVec 1 := Scalar.cmpi .sgt c256_i32 c0_i32_2
  let v14 : BitVec 32 := Scalar.extui v13
  let c0_i32_3 : BitVec 32 := 0#32
  let v15 : BitVec 1 := Scalar.cmpi .slt c256_i32 c0_i32_3
  let v16 : BitVec 32 := Scalar.extui v15
  let v17 : BitVec 32 := Scalar.subi v14 v16
  let v18 : BitVec 1 := Scalar.cmpi .ne v12 v17
  let v19 : BitVec 32 := Scalar.remsi v6 c256_i32
  let c0_i32_4 : BitVec 32 := 0#32
  let v20 : BitVec 1 := Scalar.cmpi .ne v19 c0_i32_4
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v78 : BitVec 32 := Scalar.subi v23 c0_i32_35
  let c1_i32_36 : BitVec 32 := 1#32
  let v80 : BitVec 32 := Scalar.divsi v78 c1_i32_36
  let v81 : BitVec 32 := Scalar.muli v80 c1_i32_36
  let v82 : BitVec 32 := Scalar.addi c0_i32_35 v81
  let v79 : BitVec 32 := Scalar.addi c0_i32_35 v78
  let c1_i32_38 : BitVec 32 := 1#32
  ⟨v82, v79, c1_i32_38⟩
def k0_off4 (v5 : BitVec 32) (k0_t2 : Fin (k0_t2_loop v5).trips) : Fin 3 → Nat :=
  let c0_i32_52 : BitVec 32 := 0#32
  let c0_i32_35 : BitVec 32 := 0#32
  let c255_i32 : BitVec 32 := 255#32
  let v6 : BitVec 32 := Scalar.addi v5 c255_i32
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c256_i32 : BitVec 32 := 256#32
  let c0_i32_2 : BitVec 32 := 0#32
  let v13 : BitVec 1 := Scalar.cmpi .sgt c256_i32 c0_i32_2
  let v14 : BitVec 32 := Scalar.extui v13
  let c0_i32_3 : BitVec 32 := 0#32
  let v15 : BitVec 1 := Scalar.cmpi .slt c256_i32 c0_i32_3
  let v16 : BitVec 32 := Scalar.extui v15
  let v17 : BitVec 32 := Scalar.subi v14 v16
  let v18 : BitVec 1 := Scalar.cmpi .ne v12 v17
  let v19 : BitVec 32 := Scalar.remsi v6 c256_i32
  let c0_i32_4 : BitVec 32 := 0#32
  let v20 : BitVec 1 := Scalar.cmpi .ne v19 c0_i32_4
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v78 : BitVec 32 := Scalar.subi v23 c0_i32_35
  let c1_i32_36 : BitVec 32 := 1#32
  let v80 : BitVec 32 := Scalar.divsi v78 c1_i32_36
  let v81 : BitVec 32 := Scalar.muli v80 c1_i32_36
  let v82 : BitVec 32 := Scalar.addi c0_i32_35 v81
  let c1_i32_38 : BitVec 32 := 1#32
  let arg18 : BitVec 32 := Scf.iv v82 c1_i32_38 k0_t2
  let v111 : BitVec 32 := Scalar.addi c0_i32_52 arg18
  let v119 : Index := Scalar.indexCast v111
  let c0_58 : Index := 0#32
  let c0_59 : Index := 0#32
  ![v119.toNat, 0, 0]
def k0_off5 (v5 : BitVec 32) (k0_t2 : Fin (k0_t2_loop v5).trips) : Fin 3 → Nat :=
  let c0_i32_52 : BitVec 32 := 0#32
  let c0_i32_35 : BitVec 32 := 0#32
  let c255_i32 : BitVec 32 := 255#32
  let v6 : BitVec 32 := Scalar.addi v5 c255_i32
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c256_i32 : BitVec 32 := 256#32
  let c0_i32_2 : BitVec 32 := 0#32
  let v13 : BitVec 1 := Scalar.cmpi .sgt c256_i32 c0_i32_2
  let v14 : BitVec 32 := Scalar.extui v13
  let c0_i32_3 : BitVec 32 := 0#32
  let v15 : BitVec 1 := Scalar.cmpi .slt c256_i32 c0_i32_3
  let v16 : BitVec 32 := Scalar.extui v15
  let v17 : BitVec 32 := Scalar.subi v14 v16
  let v18 : BitVec 1 := Scalar.cmpi .ne v12 v17
  let v19 : BitVec 32 := Scalar.remsi v6 c256_i32
  let c0_i32_4 : BitVec 32 := 0#32
  let v20 : BitVec 1 := Scalar.cmpi .ne v19 c0_i32_4
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v78 : BitVec 32 := Scalar.subi v23 c0_i32_35
  let c1_i32_36 : BitVec 32 := 1#32
  let v80 : BitVec 32 := Scalar.divsi v78 c1_i32_36
  let v81 : BitVec 32 := Scalar.muli v80 c1_i32_36
  let v82 : BitVec 32 := Scalar.addi c0_i32_35 v81
  let c1_i32_38 : BitVec 32 := 1#32
  let arg18 : BitVec 32 := Scf.iv v82 c1_i32_38 k0_t2
  let v111 : BitVec 32 := Scalar.addi c0_i32_52 arg18
  let v131 : Index := Scalar.indexCast v111
  let c0_62 : Index := 0#32
  let c0_63 : Index := 0#32
  ![v131.toNat, 0, 0]
@[reducible] def k0_t3_loop (v29 : BitVec 32) : Scf.Loop 32 :=
  let c0_i32_43 : BitVec 32 := 0#32
  let c255_i32_8 : BitVec 32 := 255#32
  let v30 : BitVec 32 := Scalar.addi v29 c255_i32_8
  let c0_i32_10 : BitVec 32 := 0#32
  let v32 : BitVec 1 := Scalar.cmpi .sgt v30 c0_i32_10
  let v33 : BitVec 32 := Scalar.extui v32
  let c0_i32_11 : BitVec 32 := 0#32
  let v34 : BitVec 1 := Scalar.cmpi .slt v30 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v30 c256_i32_9
  let c0_i32_14 : BitVec 32 := 0#32
  let v44 : BitVec 1 := Scalar.cmpi .ne v43 c0_i32_14
  let v45 : BitVec 1 := Scalar.andi v42 v44
  let v31 : BitVec 32 := Scalar.divsi v30 c256_i32_9
  let c1_i32_15 : BitVec 32 := 1#32
  let v46 : BitVec 32 := Scalar.subi v31 c1_i32_15
  let v47 : BitVec 32 := Scalar.select v45 v46 v31
  let v91 : BitVec 32 := Scalar.subi v47 c0_i32_43
  let c1_i32_44 : BitVec 32 := 1#32
  let v93 : BitVec 32 := Scalar.divsi v91 c1_i32_44
  let v94 : BitVec 32 := Scalar.muli v93 c1_i32_44
  let v95 : BitVec 32 := Scalar.addi c0_i32_43 v94
  let c1_i32_45 : BitVec 32 := 1#32
  ⟨c0_i32_43, v95, c1_i32_45⟩

def k0_off6 (v29 : BitVec 32) (k0_t3 : Fin (k0_t3_loop v29).trips) : Fin 3 → Nat :=
  let c4_i32 : BitVec 32 := 4#32
  let c0_i32_43 : BitVec 32 := 0#32
  let c1_i32_45 : BitVec 32 := 1#32
  let arg18 : BitVec 32 := Scf.iv c0_i32_43 c1_i32_45 k0_t3
  let v111 : BitVec 32 := Scalar.addi c4_i32 arg18
  let v119 : Index := Scalar.indexCast v111
  let c0_57 : Index := 0#32
  let c0_58 : Index := 0#32
  ![v119.toNat, 0, 0]
def k0_off7 (v29 : BitVec 32) (k0_t3 : Fin (k0_t3_loop v29).trips) : Fin 3 → Nat :=
  let c4_i32 : BitVec 32 := 4#32
  let c0_i32_43 : BitVec 32 := 0#32
  let c1_i32_45 : BitVec 32 := 1#32
  let arg18 : BitVec 32 := Scf.iv c0_i32_43 c1_i32_45 k0_t3
  let v111 : BitVec 32 := Scalar.addi c4_i32 arg18
  let v131 : Index := Scalar.indexCast v111
  let c0_61 : Index := 0#32
  let c0_62 : Index := 0#32
  ![v131.toNat, 0, 0]
@[reducible] def k0_t4_loop (v29 : BitVec 32) : Scf.Loop 32 :=
  let c0_i32_43 : BitVec 32 := 0#32
  let c255_i32_8 : BitVec 32 := 255#32
  let v30 : BitVec 32 := Scalar.addi v29 c255_i32_8
  let c0_i32_10 : BitVec 32 := 0#32
  let v32 : BitVec 1 := Scalar.cmpi .sgt v30 c0_i32_10
  let v33 : BitVec 32 := Scalar.extui v32
  let c0_i32_11 : BitVec 32 := 0#32
  let v34 : BitVec 1 := Scalar.cmpi .slt v30 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v30 c256_i32_9
  let c0_i32_14 : BitVec 32 := 0#32
  let v44 : BitVec 1 := Scalar.cmpi .ne v43 c0_i32_14
  let v45 : BitVec 1 := Scalar.andi v42 v44
  let v31 : BitVec 32 := Scalar.divsi v30 c256_i32_9
  let c1_i32_15 : BitVec 32 := 1#32
  let v46 : BitVec 32 := Scalar.subi v31 c1_i32_15
  let v47 : BitVec 32 := Scalar.select v45 v46 v31
  let v91 : BitVec 32 := Scalar.subi v47 c0_i32_43
  let c1_i32_44 : BitVec 32 := 1#32
  let v93 : BitVec 32 := Scalar.divsi v91 c1_i32_44
  let v94 : BitVec 32 := Scalar.muli v93 c1_i32_44
  let v95 : BitVec 32 := Scalar.addi c0_i32_43 v94
  let v92 : BitVec 32 := Scalar.addi c0_i32_43 v91
  let c1_i32_46 : BitVec 32 := 1#32
  ⟨v95, v92, c1_i32_46⟩
def k0_off8 (v29 : BitVec 32) (k0_t4 : Fin (k0_t4_loop v29).trips) : Fin 3 → Nat :=
  let c4_i32 : BitVec 32 := 4#32
  let c0_i32_43 : BitVec 32 := 0#32
  let c255_i32_8 : BitVec 32 := 255#32
  let v30 : BitVec 32 := Scalar.addi v29 c255_i32_8
  let c0_i32_10 : BitVec 32 := 0#32
  let v32 : BitVec 1 := Scalar.cmpi .sgt v30 c0_i32_10
  let v33 : BitVec 32 := Scalar.extui v32
  let c0_i32_11 : BitVec 32 := 0#32
  let v34 : BitVec 1 := Scalar.cmpi .slt v30 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v30 c256_i32_9
  let c0_i32_14 : BitVec 32 := 0#32
  let v44 : BitVec 1 := Scalar.cmpi .ne v43 c0_i32_14
  let v45 : BitVec 1 := Scalar.andi v42 v44
  let v31 : BitVec 32 := Scalar.divsi v30 c256_i32_9
  let c1_i32_15 : BitVec 32 := 1#32
  let v46 : BitVec 32 := Scalar.subi v31 c1_i32_15
  let v47 : BitVec 32 := Scalar.select v45 v46 v31
  let v91 : BitVec 32 := Scalar.subi v47 c0_i32_43
  let c1_i32_44 : BitVec 32 := 1#32
  let v93 : BitVec 32 := Scalar.divsi v91 c1_i32_44
  let v94 : BitVec 32 := Scalar.muli v93 c1_i32_44
  let v95 : BitVec 32 := Scalar.addi c0_i32_43 v94
  let c1_i32_46 : BitVec 32 := 1#32
  let arg18 : BitVec 32 := Scf.iv v95 c1_i32_46 k0_t4
  let v111 : BitVec 32 := Scalar.addi c4_i32 arg18
  let v119 : Index := Scalar.indexCast v111
  let c0_57 : Index := 0#32
  let c0_58 : Index := 0#32
  ![v119.toNat, 0, 0]
def k0_off9 (v29 : BitVec 32) (k0_t4 : Fin (k0_t4_loop v29).trips) : Fin 3 → Nat :=
  let c4_i32 : BitVec 32 := 4#32
  let c0_i32_43 : BitVec 32 := 0#32
  let c255_i32_8 : BitVec 32 := 255#32
  let v30 : BitVec 32 := Scalar.addi v29 c255_i32_8
  let c0_i32_10 : BitVec 32 := 0#32
  let v32 : BitVec 1 := Scalar.cmpi .sgt v30 c0_i32_10
  let v33 : BitVec 32 := Scalar.extui v32
  let c0_i32_11 : BitVec 32 := 0#32
  let v34 : BitVec 1 := Scalar.cmpi .slt v30 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v30 c256_i32_9
  let c0_i32_14 : BitVec 32 := 0#32
  let v44 : BitVec 1 := Scalar.cmpi .ne v43 c0_i32_14
  let v45 : BitVec 1 := Scalar.andi v42 v44
  let v31 : BitVec 32 := Scalar.divsi v30 c256_i32_9
  let c1_i32_15 : BitVec 32 := 1#32
  let v46 : BitVec 32 := Scalar.subi v31 c1_i32_15
  let v47 : BitVec 32 := Scalar.select v45 v46 v31
  let v91 : BitVec 32 := Scalar.subi v47 c0_i32_43
  let c1_i32_44 : BitVec 32 := 1#32
  let v93 : BitVec 32 := Scalar.divsi v91 c1_i32_44
  let v94 : BitVec 32 := Scalar.muli v93 c1_i32_44
  let v95 : BitVec 32 := Scalar.addi c0_i32_43 v94
  let c1_i32_46 : BitVec 32 := 1#32
  let arg18 : BitVec 32 := Scf.iv v95 c1_i32_46 k0_t4
  let v111 : BitVec 32 := Scalar.addi c4_i32 arg18
  let v131 : Index := Scalar.indexCast v111
  let c0_61 : Index := 0#32
  let c0_62 : Index := 0#32
  ![v131.toNat, 0, 0]
@[reducible] def k0_t5_loop (v5 : BitVec 32) : Scf.Loop 32 :=
  let c0_i32_22 : BitVec 32 := 0#32
  let c255_i32 : BitVec 32 := 255#32
  let v6 : BitVec 32 := Scalar.addi v5 c255_i32
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c256_i32 : BitVec 32 := 256#32
  let c0_i32_2 : BitVec 32 := 0#32
  let v13 : BitVec 1 := Scalar.cmpi .sgt c256_i32 c0_i32_2
  let v14 : BitVec 32 := Scalar.extui v13
  let c0_i32_3 : BitVec 32 := 0#32
  let v15 : BitVec 1 := Scalar.cmpi .slt c256_i32 c0_i32_3
  let v16 : BitVec 32 := Scalar.extui v15
  let v17 : BitVec 32 := Scalar.subi v14 v16
  let v18 : BitVec 1 := Scalar.cmpi .ne v12 v17
  let v19 : BitVec 32 := Scalar.remsi v6 c256_i32
  let c0_i32_4 : BitVec 32 := 0#32
  let v20 : BitVec 1 := Scalar.cmpi .ne v19 c0_i32_4
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v57 : BitVec 32 := Scalar.subi v23 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let c1_i32_24 : BitVec 32 := 1#32
  ⟨c0_i32_22, v61, c1_i32_24⟩
def k0_off10 (v5 : BitVec 32) (k0_t5 : Fin (k0_t5_loop v5).trips) : Fin 3 → Nat :=
  let c0_i32_32 : BitVec 32 := 0#32
  let c0_i32_22 : BitVec 32 := 0#32
  let c1_i32_24 : BitVec 32 := 1#32
  let arg18 : BitVec 32 := Scf.iv c0_i32_22 c1_i32_24 k0_t5
  let v70 : BitVec 32 := Scalar.addi c0_i32_32 arg18
  let v71 : Index := Scalar.indexCast v70
  let c0 : Index := 0#32
  let c0_33 : Index := 0#32
  ![v71.toNat, 0, 0]
def k0_off11 (v5 : BitVec 32) (k0_t5 : Fin (k0_t5_loop v5).trips) : Fin 3 → Nat :=
  let c0_i32_32 : BitVec 32 := 0#32
  let c0_i32_22 : BitVec 32 := 0#32
  let c1_i32_24 : BitVec 32 := 1#32
  let arg18 : BitVec 32 := Scf.iv c0_i32_22 c1_i32_24 k0_t5
  let v70 : BitVec 32 := Scalar.addi c0_i32_32 arg18
  let v89 : Index := Scalar.indexCast v70
  let c0_44 : Index := 0#32
  let c0_45 : Index := 0#32
  ![v89.toNat, 0, 0]
@[reducible] def k0_t6_loop (v5 : BitVec 32) : Scf.Loop 32 :=
  let c0_i32_22 : BitVec 32 := 0#32
  let c255_i32 : BitVec 32 := 255#32
  let v6 : BitVec 32 := Scalar.addi v5 c255_i32
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c256_i32 : BitVec 32 := 256#32
  let c0_i32_2 : BitVec 32 := 0#32
  let v13 : BitVec 1 := Scalar.cmpi .sgt c256_i32 c0_i32_2
  let v14 : BitVec 32 := Scalar.extui v13
  let c0_i32_3 : BitVec 32 := 0#32
  let v15 : BitVec 1 := Scalar.cmpi .slt c256_i32 c0_i32_3
  let v16 : BitVec 32 := Scalar.extui v15
  let v17 : BitVec 32 := Scalar.subi v14 v16
  let v18 : BitVec 1 := Scalar.cmpi .ne v12 v17
  let v19 : BitVec 32 := Scalar.remsi v6 c256_i32
  let c0_i32_4 : BitVec 32 := 0#32
  let v20 : BitVec 1 := Scalar.cmpi .ne v19 c0_i32_4
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v57 : BitVec 32 := Scalar.subi v23 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let v58 : BitVec 32 := Scalar.addi c0_i32_22 v57
  let c1_i32_25 : BitVec 32 := 1#32
  ⟨v61, v58, c1_i32_25⟩
def k0_off12 (v5 : BitVec 32) (k0_t6 : Fin (k0_t6_loop v5).trips) : Fin 3 → Nat :=
  let c0_i32_32 : BitVec 32 := 0#32
  let c0_i32_22 : BitVec 32 := 0#32
  let c255_i32 : BitVec 32 := 255#32
  let v6 : BitVec 32 := Scalar.addi v5 c255_i32
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c256_i32 : BitVec 32 := 256#32
  let c0_i32_2 : BitVec 32 := 0#32
  let v13 : BitVec 1 := Scalar.cmpi .sgt c256_i32 c0_i32_2
  let v14 : BitVec 32 := Scalar.extui v13
  let c0_i32_3 : BitVec 32 := 0#32
  let v15 : BitVec 1 := Scalar.cmpi .slt c256_i32 c0_i32_3
  let v16 : BitVec 32 := Scalar.extui v15
  let v17 : BitVec 32 := Scalar.subi v14 v16
  let v18 : BitVec 1 := Scalar.cmpi .ne v12 v17
  let v19 : BitVec 32 := Scalar.remsi v6 c256_i32
  let c0_i32_4 : BitVec 32 := 0#32
  let v20 : BitVec 1 := Scalar.cmpi .ne v19 c0_i32_4
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v57 : BitVec 32 := Scalar.subi v23 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let c1_i32_25 : BitVec 32 := 1#32
  let arg18 : BitVec 32 := Scf.iv v61 c1_i32_25 k0_t6
  let v70 : BitVec 32 := Scalar.addi c0_i32_32 arg18
  let v71 : Index := Scalar.indexCast v70
  let c0 : Index := 0#32
  let c0_33 : Index := 0#32
  ![v71.toNat, 0, 0]
def k0_off13 (v5 : BitVec 32) (k0_t6 : Fin (k0_t6_loop v5).trips) : Fin 3 → Nat :=
  let c0_i32_32 : BitVec 32 := 0#32
  let c0_i32_22 : BitVec 32 := 0#32
  let c255_i32 : BitVec 32 := 255#32
  let v6 : BitVec 32 := Scalar.addi v5 c255_i32
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c256_i32 : BitVec 32 := 256#32
  let c0_i32_2 : BitVec 32 := 0#32
  let v13 : BitVec 1 := Scalar.cmpi .sgt c256_i32 c0_i32_2
  let v14 : BitVec 32 := Scalar.extui v13
  let c0_i32_3 : BitVec 32 := 0#32
  let v15 : BitVec 1 := Scalar.cmpi .slt c256_i32 c0_i32_3
  let v16 : BitVec 32 := Scalar.extui v15
  let v17 : BitVec 32 := Scalar.subi v14 v16
  let v18 : BitVec 1 := Scalar.cmpi .ne v12 v17
  let v19 : BitVec 32 := Scalar.remsi v6 c256_i32
  let c0_i32_4 : BitVec 32 := 0#32
  let v20 : BitVec 1 := Scalar.cmpi .ne v19 c0_i32_4
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v57 : BitVec 32 := Scalar.subi v23 c0_i32_22
  let c1_i32_23 : BitVec 32 := 1#32
  let v59 : BitVec 32 := Scalar.divsi v57 c1_i32_23
  let v60 : BitVec 32 := Scalar.muli v59 c1_i32_23
  let v61 : BitVec 32 := Scalar.addi c0_i32_22 v60
  let c1_i32_25 : BitVec 32 := 1#32
  let arg18 : BitVec 32 := Scf.iv v61 c1_i32_25 k0_t6
  let v70 : BitVec 32 := Scalar.addi c0_i32_32 arg18
  let v89 : Index := Scalar.indexCast v70
  let c0_44 : Index := 0#32
  let c0_45 : Index := 0#32
  ![v89.toNat, 0, 0]
@[reducible] def k0_t7_loop (v29 : BitVec 32) : Scf.Loop 32 :=
  let c0_i32_27 : BitVec 32 := 0#32
  let c255_i32_8 : BitVec 32 := 255#32
  let v30 : BitVec 32 := Scalar.addi v29 c255_i32_8
  let c0_i32_10 : BitVec 32 := 0#32
  let v32 : BitVec 1 := Scalar.cmpi .sgt v30 c0_i32_10
  let v33 : BitVec 32 := Scalar.extui v32
  let c0_i32_11 : BitVec 32 := 0#32
  let v34 : BitVec 1 := Scalar.cmpi .slt v30 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v30 c256_i32_9
  let c0_i32_14 : BitVec 32 := 0#32
  let v44 : BitVec 1 := Scalar.cmpi .ne v43 c0_i32_14
  let v45 : BitVec 1 := Scalar.andi v42 v44
  let v31 : BitVec 32 := Scalar.divsi v30 c256_i32_9
  let c1_i32_15 : BitVec 32 := 1#32
  let v46 : BitVec 32 := Scalar.subi v31 c1_i32_15
  let v47 : BitVec 32 := Scalar.select v45 v46 v31
  let v62 : BitVec 32 := Scalar.subi v47 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_29 : BitVec 32 := 1#32
  ⟨c0_i32_27, v66, c1_i32_29⟩
def k0_off14 (v29 : BitVec 32) (k0_t7 : Fin (k0_t7_loop v29).trips) : Fin 3 → Nat :=
  let c4_i32 : BitVec 32 := 4#32
  let c0_i32_27 : BitVec 32 := 0#32
  let c1_i32_29 : BitVec 32 := 1#32
  let arg18 : BitVec 32 := Scf.iv c0_i32_27 c1_i32_29 k0_t7
  let v70 : BitVec 32 := Scalar.addi c4_i32 arg18
  let v71 : Index := Scalar.indexCast v70
  let c0 : Index := 0#32
  let c0_32 : Index := 0#32
  ![v71.toNat, 0, 0]
def k0_off15 (v29 : BitVec 32) (k0_t7 : Fin (k0_t7_loop v29).trips) : Fin 3 → Nat :=
  let c4_i32 : BitVec 32 := 4#32
  let c0_i32_27 : BitVec 32 := 0#32
  let c1_i32_29 : BitVec 32 := 1#32
  let arg18 : BitVec 32 := Scf.iv c0_i32_27 c1_i32_29 k0_t7
  let v70 : BitVec 32 := Scalar.addi c4_i32 arg18
  let v89 : Index := Scalar.indexCast v70
  let c0_43 : Index := 0#32
  let c0_44 : Index := 0#32
  ![v89.toNat, 0, 0]
@[reducible] def k0_t8_loop (v29 : BitVec 32) : Scf.Loop 32 :=
  let c0_i32_27 : BitVec 32 := 0#32
  let c255_i32_8 : BitVec 32 := 255#32
  let v30 : BitVec 32 := Scalar.addi v29 c255_i32_8
  let c0_i32_10 : BitVec 32 := 0#32
  let v32 : BitVec 1 := Scalar.cmpi .sgt v30 c0_i32_10
  let v33 : BitVec 32 := Scalar.extui v32
  let c0_i32_11 : BitVec 32 := 0#32
  let v34 : BitVec 1 := Scalar.cmpi .slt v30 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v30 c256_i32_9
  let c0_i32_14 : BitVec 32 := 0#32
  let v44 : BitVec 1 := Scalar.cmpi .ne v43 c0_i32_14
  let v45 : BitVec 1 := Scalar.andi v42 v44
  let v31 : BitVec 32 := Scalar.divsi v30 c256_i32_9
  let c1_i32_15 : BitVec 32 := 1#32
  let v46 : BitVec 32 := Scalar.subi v31 c1_i32_15
  let v47 : BitVec 32 := Scalar.select v45 v46 v31
  let v62 : BitVec 32 := Scalar.subi v47 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let v63 : BitVec 32 := Scalar.addi c0_i32_27 v62
  let c1_i32_30 : BitVec 32 := 1#32
  ⟨v66, v63, c1_i32_30⟩
def k0_off16 (v29 : BitVec 32) (k0_t8 : Fin (k0_t8_loop v29).trips) : Fin 3 → Nat :=
  let c4_i32 : BitVec 32 := 4#32
  let c0_i32_27 : BitVec 32 := 0#32
  let c255_i32_8 : BitVec 32 := 255#32
  let v30 : BitVec 32 := Scalar.addi v29 c255_i32_8
  let c0_i32_10 : BitVec 32 := 0#32
  let v32 : BitVec 1 := Scalar.cmpi .sgt v30 c0_i32_10
  let v33 : BitVec 32 := Scalar.extui v32
  let c0_i32_11 : BitVec 32 := 0#32
  let v34 : BitVec 1 := Scalar.cmpi .slt v30 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v30 c256_i32_9
  let c0_i32_14 : BitVec 32 := 0#32
  let v44 : BitVec 1 := Scalar.cmpi .ne v43 c0_i32_14
  let v45 : BitVec 1 := Scalar.andi v42 v44
  let v31 : BitVec 32 := Scalar.divsi v30 c256_i32_9
  let c1_i32_15 : BitVec 32 := 1#32
  let v46 : BitVec 32 := Scalar.subi v31 c1_i32_15
  let v47 : BitVec 32 := Scalar.select v45 v46 v31
  let v62 : BitVec 32 := Scalar.subi v47 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_30 : BitVec 32 := 1#32
  let arg18 : BitVec 32 := Scf.iv v66 c1_i32_30 k0_t8
  let v70 : BitVec 32 := Scalar.addi c4_i32 arg18
  let v71 : Index := Scalar.indexCast v70
  let c0 : Index := 0#32
  let c0_32 : Index := 0#32
  ![v71.toNat, 0, 0]
def k0_off17 (v29 : BitVec 32) (k0_t8 : Fin (k0_t8_loop v29).trips) : Fin 3 → Nat :=
  let c4_i32 : BitVec 32 := 4#32
  let c0_i32_27 : BitVec 32 := 0#32
  let c255_i32_8 : BitVec 32 := 255#32
  let v30 : BitVec 32 := Scalar.addi v29 c255_i32_8
  let c0_i32_10 : BitVec 32 := 0#32
  let v32 : BitVec 1 := Scalar.cmpi .sgt v30 c0_i32_10
  let v33 : BitVec 32 := Scalar.extui v32
  let c0_i32_11 : BitVec 32 := 0#32
  let v34 : BitVec 1 := Scalar.cmpi .slt v30 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v30 c256_i32_9
  let c0_i32_14 : BitVec 32 := 0#32
  let v44 : BitVec 1 := Scalar.cmpi .ne v43 c0_i32_14
  let v45 : BitVec 1 := Scalar.andi v42 v44
  let v31 : BitVec 32 := Scalar.divsi v30 c256_i32_9
  let c1_i32_15 : BitVec 32 := 1#32
  let v46 : BitVec 32 := Scalar.subi v31 c1_i32_15
  let v47 : BitVec 32 := Scalar.select v45 v46 v31
  let v62 : BitVec 32 := Scalar.subi v47 c0_i32_27
  let c1_i32_28 : BitVec 32 := 1#32
  let v64 : BitVec 32 := Scalar.divsi v62 c1_i32_28
  let v65 : BitVec 32 := Scalar.muli v64 c1_i32_28
  let v66 : BitVec 32 := Scalar.addi c0_i32_27 v65
  let c1_i32_30 : BitVec 32 := 1#32
  let arg18 : BitVec 32 := Scf.iv v66 c1_i32_30 k0_t8
  let v70 : BitVec 32 := Scalar.addi c4_i32 arg18
  let v89 : Index := Scalar.indexCast v70
  let c0_43 : Index := 0#32
  let c0_44 : Index := 0#32
  ![v89.toNat, 0, 0]
def k0_cond3 (i : grid0.Coords) : BitVec 1 :=
  let arg2 : BitVec 32 := BitVec.ofNat 32 (i 2).val
  let c3_i32 : BitVec 32 := 3#32
  let v67 : BitVec 1 := Scalar.cmpi .eq arg2 c3_i32
  let v68 : BitVec 32 := Scalar.extui v67
  let c0_i32_31 : BitVec 32 := 0#32
  let v69 : BitVec 1 := Scalar.cmpi .ne v68 c0_i32_31
  v69

@[reducible] def k0_t9_loop (v5 : BitVec 32) : Scf.Loop 32 :=
  let c0_i32_33 : BitVec 32 := 0#32
  let c255_i32 : BitVec 32 := 255#32
  let v6 : BitVec 32 := Scalar.addi v5 c255_i32
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c256_i32 : BitVec 32 := 256#32
  let c0_i32_2 : BitVec 32 := 0#32
  let v13 : BitVec 1 := Scalar.cmpi .sgt c256_i32 c0_i32_2
  let v14 : BitVec 32 := Scalar.extui v13
  let c0_i32_3 : BitVec 32 := 0#32
  let v15 : BitVec 1 := Scalar.cmpi .slt c256_i32 c0_i32_3
  let v16 : BitVec 32 := Scalar.extui v15
  let v17 : BitVec 32 := Scalar.subi v14 v16
  let v18 : BitVec 1 := Scalar.cmpi .ne v12 v17
  let v19 : BitVec 32 := Scalar.remsi v6 c256_i32
  let c0_i32_4 : BitVec 32 := 0#32
  let v20 : BitVec 1 := Scalar.cmpi .ne v19 c0_i32_4
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v70 : BitVec 32 := Scalar.subi v23 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_35 : BitVec 32 := 1#32
  ⟨c0_i32_33, v74, c1_i32_35⟩
def k0_off18 (v5 : BitVec 32) (k0_t9 : Fin (k0_t9_loop v5).trips) : Fin 3 → Nat :=
  let c0_i32_50 : BitVec 32 := 0#32
  let c0_i32_33 : BitVec 32 := 0#32
  let c1_i32_35 : BitVec 32 := 1#32
  let arg18 : BitVec 32 := Scf.iv c0_i32_33 c1_i32_35 k0_t9
  let v104 : BitVec 32 := Scalar.addi c0_i32_50 arg18
  let v105 : Index := Scalar.indexCast v104
  let c0_51 : Index := 0#32
  let c0_52 : Index := 0#32
  ![v105.toNat, 0, 0]
@[reducible] def k0_t10_loop (v5 : BitVec 32) : Scf.Loop 32 :=
  let c0_i32_33 : BitVec 32 := 0#32
  let c255_i32 : BitVec 32 := 255#32
  let v6 : BitVec 32 := Scalar.addi v5 c255_i32
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c256_i32 : BitVec 32 := 256#32
  let c0_i32_2 : BitVec 32 := 0#32
  let v13 : BitVec 1 := Scalar.cmpi .sgt c256_i32 c0_i32_2
  let v14 : BitVec 32 := Scalar.extui v13
  let c0_i32_3 : BitVec 32 := 0#32
  let v15 : BitVec 1 := Scalar.cmpi .slt c256_i32 c0_i32_3
  let v16 : BitVec 32 := Scalar.extui v15
  let v17 : BitVec 32 := Scalar.subi v14 v16
  let v18 : BitVec 1 := Scalar.cmpi .ne v12 v17
  let v19 : BitVec 32 := Scalar.remsi v6 c256_i32
  let c0_i32_4 : BitVec 32 := 0#32
  let v20 : BitVec 1 := Scalar.cmpi .ne v19 c0_i32_4
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v70 : BitVec 32 := Scalar.subi v23 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let v71 : BitVec 32 := Scalar.addi c0_i32_33 v70
  let c1_i32_36 : BitVec 32 := 1#32
  ⟨v74, v71, c1_i32_36⟩
def k0_off19 (v5 : BitVec 32) (k0_t10 : Fin (k0_t10_loop v5).trips) : Fin 3 → Nat :=
  let c0_i32_50 : BitVec 32 := 0#32
  let c0_i32_33 : BitVec 32 := 0#32
  let c255_i32 : BitVec 32 := 255#32
  let v6 : BitVec 32 := Scalar.addi v5 c255_i32
  let c0_i32_0 : BitVec 32 := 0#32
  let v8 : BitVec 1 := Scalar.cmpi .sgt v6 c0_i32_0
  let v9 : BitVec 32 := Scalar.extui v8
  let c0_i32_1 : BitVec 32 := 0#32
  let v10 : BitVec 1 := Scalar.cmpi .slt v6 c0_i32_1
  let v11 : BitVec 32 := Scalar.extui v10
  let v12 : BitVec 32 := Scalar.subi v9 v11
  let c256_i32 : BitVec 32 := 256#32
  let c0_i32_2 : BitVec 32 := 0#32
  let v13 : BitVec 1 := Scalar.cmpi .sgt c256_i32 c0_i32_2
  let v14 : BitVec 32 := Scalar.extui v13
  let c0_i32_3 : BitVec 32 := 0#32
  let v15 : BitVec 1 := Scalar.cmpi .slt c256_i32 c0_i32_3
  let v16 : BitVec 32 := Scalar.extui v15
  let v17 : BitVec 32 := Scalar.subi v14 v16
  let v18 : BitVec 1 := Scalar.cmpi .ne v12 v17
  let v19 : BitVec 32 := Scalar.remsi v6 c256_i32
  let c0_i32_4 : BitVec 32 := 0#32
  let v20 : BitVec 1 := Scalar.cmpi .ne v19 c0_i32_4
  let v21 : BitVec 1 := Scalar.andi v18 v20
  let v7 : BitVec 32 := Scalar.divsi v6 c256_i32
  let c1_i32 : BitVec 32 := 1#32
  let v22 : BitVec 32 := Scalar.subi v7 c1_i32
  let v23 : BitVec 32 := Scalar.select v21 v22 v7
  let v70 : BitVec 32 := Scalar.subi v23 c0_i32_33
  let c1_i32_34 : BitVec 32 := 1#32
  let v72 : BitVec 32 := Scalar.divsi v70 c1_i32_34
  let v73 : BitVec 32 := Scalar.muli v72 c1_i32_34
  let v74 : BitVec 32 := Scalar.addi c0_i32_33 v73
  let c1_i32_36 : BitVec 32 := 1#32
  let arg18 : BitVec 32 := Scf.iv v74 c1_i32_36 k0_t10
  let v104 : BitVec 32 := Scalar.addi c0_i32_50 arg18
  let v105 : Index := Scalar.indexCast v104
  let c0_51 : Index := 0#32
  let c0_52 : Index := 0#32
  ![v105.toNat, 0, 0]

def k0_chk1 (i : grid0.Coords) (v5 : BitVec 32) : Prop :=
  (∀ (k0_h2 : k0_cond2 i = 1#1), (k0_t1_loop v5).OK) ∧
  (∀ k0_t1 : Fin (k0_t1_loop v5).trips, ∀ (k0_h2 : k0_cond2 i = 1#1), ∀ a, (k0_off2 v5 k0_t1) a + S1x1024x256.size a ≤ S8x1024x256.size a) ∧
  (∀ k0_t1 : Fin (k0_t1_loop v5).trips, ∀ (k0_h2 : k0_cond2 i = 1#1), ∀ (hinb : ∀ a, (k0_off2 v5 k0_t1) a + S1x1024x256.size a ≤ S8x1024x256.size a), (Rect.unit (s := S8x1024x256) (k0_off2 v5 k0_t1) S1x1024x256.size hinb).PackedRows (EltTy.packing .bf16)) ∧
  (∀ k0_t1 : Fin (k0_t1_loop v5).trips, ∀ (k0_h2 : k0_cond2 i = 1#1), ∀ a, (k0_off3 v5 k0_t1) a + S1x8x256.size a ≤ S8x8x256.size a) ∧
  (∀ (k0_h2 : k0_cond2 i = 1#1), (k0_t2_loop v5).OK) ∧
  (∀ k0_t2 : Fin (k0_t2_loop v5).trips, ∀ (k0_h2 : k0_cond2 i = 1#1), ∀ a, (k0_off4 v5 k0_t2) a + S1x1024x256.size a ≤ S8x1024x256.size a) ∧
  (∀ k0_t2 : Fin (k0_t2_loop v5).trips, ∀ (k0_h2 : k0_cond2 i = 1#1), ∀ (hinb : ∀ a, (k0_off4 v5 k0_t2) a + S1x1024x256.size a ≤ S8x1024x256.size a), (Rect.unit (s := S8x1024x256) (k0_off4 v5 k0_t2) S1x1024x256.size hinb).PackedRows (EltTy.packing .bf16)) ∧
  (∀ k0_t2 : Fin (k0_t2_loop v5).trips, ∀ (k0_h2 : k0_cond2 i = 1#1), ∀ a, (k0_off5 v5 k0_t2) a + S1x8x256.size a ≤ S8x8x256.size a) ∧
  ((k0_t5_loop v5).OK) ∧
  (∀ k0_t5 : Fin (k0_t5_loop v5).trips, ∀ a, (k0_off10 v5 k0_t5) a + S1x1024x256.size a ≤ S8x1024x256.size a) ∧
  (∀ k0_t5 : Fin (k0_t5_loop v5).trips, ∀ a, (k0_off11 v5 k0_t5) a + S1x8x256.size a ≤ S8x8x256.size a) ∧
  ((k0_t6_loop v5).OK) ∧
  (∀ k0_t6 : Fin (k0_t6_loop v5).trips, ∀ a, (k0_off12 v5 k0_t6) a + S1x1024x256.size a ≤ S8x1024x256.size a) ∧
  (∀ k0_t6 : Fin (k0_t6_loop v5).trips, ∀ a, (k0_off13 v5 k0_t6) a + S1x8x256.size a ≤ S8x8x256.size a) ∧
  (∀ (k0_h3 : k0_cond3 i = 1#1), (k0_t9_loop v5).OK) ∧
  (∀ k0_t9 : Fin (k0_t9_loop v5).trips, ∀ (k0_h3 : k0_cond3 i = 1#1), ∀ a, (k0_off18 v5 k0_t9) a + S1x1024x256.size a ≤ S8x1024x256.size a) ∧
  (∀ (k0_h3 : k0_cond3 i = 1#1), (k0_t10_loop v5).OK) ∧
  (∀ k0_t10 : Fin (k0_t10_loop v5).trips, ∀ (k0_h3 : k0_cond3 i = 1#1), ∀ a, (k0_off19 v5 k0_t10) a + S1x1024x256.size a ≤ S8x1024x256.size a)
theorem k0_t1_ok : ∀ (i : grid0.Coords) (v5 : BitVec 32) (k0_hw1 : k0_chk1 i v5), ∀ (k0_h2 : k0_cond2 i = 1#1), (k0_t1_loop v5).OK := fun i v5 k0_hw1 k0_h2 => k0_hw1.1 k0_h2
theorem k0_off2_inb : ∀ (i : grid0.Coords) (v5 : BitVec 32) (k0_hw1 : k0_chk1 i v5) (k0_t1 : Fin (k0_t1_loop v5).trips), ∀ (k0_h2 : k0_cond2 i = 1#1), ∀ a, (k0_off2 v5 k0_t1) a + S1x1024x256.size a ≤ S8x1024x256.size a := fun i v5 k0_hw1 k0_t1 k0_h2 => k0_hw1.2.1 k0_t1 k0_h2
theorem k0_off2_packedbf16 : ∀ (i : grid0.Coords) (v5 : BitVec 32) (k0_hw1 : k0_chk1 i v5) (k0_t1 : Fin (k0_t1_loop v5).trips), ∀ (k0_h2 : k0_cond2 i = 1#1), (Rect.unit (s := S8x1024x256) (k0_off2 v5 k0_t1) S1x1024x256.size (k0_off2_inb i v5 k0_hw1 k0_t1 k0_h2)).PackedRows (EltTy.packing .bf16) := fun i v5 k0_hw1 k0_t1 k0_h2 => k0_hw1.2.2.1 k0_t1 k0_h2 (k0_off2_inb i v5 k0_hw1 k0_t1 k0_h2)
theorem k0_off3_inb : ∀ (i : grid0.Coords) (v5 : BitVec 32) (k0_hw1 : k0_chk1 i v5) (k0_t1 : Fin (k0_t1_loop v5).trips), ∀ (k0_h2 : k0_cond2 i = 1#1), ∀ a, (k0_off3 v5 k0_t1) a + S1x8x256.size a ≤ S8x8x256.size a := fun i v5 k0_hw1 k0_t1 k0_h2 => k0_hw1.2.2.2.1 k0_t1 k0_h2
theorem k0_t2_ok : ∀ (i : grid0.Coords) (v5 : BitVec 32) (k0_hw1 : k0_chk1 i v5), ∀ (k0_h2 : k0_cond2 i = 1#1), (k0_t2_loop v5).OK := fun i v5 k0_hw1 k0_h2 => k0_hw1.2.2.2.2.1 k0_h2
theorem k0_off4_inb : ∀ (i : grid0.Coords) (v5 : BitVec 32) (k0_hw1 : k0_chk1 i v5) (k0_t2 : Fin (k0_t2_loop v5).trips), ∀ (k0_h2 : k0_cond2 i = 1#1), ∀ a, (k0_off4 v5 k0_t2) a + S1x1024x256.size a ≤ S8x1024x256.size a := fun i v5 k0_hw1 k0_t2 k0_h2 => k0_hw1.2.2.2.2.2.1 k0_t2 k0_h2
theorem k0_off4_packedbf16 : ∀ (i : grid0.Coords) (v5 : BitVec 32) (k0_hw1 : k0_chk1 i v5) (k0_t2 : Fin (k0_t2_loop v5).trips), ∀ (k0_h2 : k0_cond2 i = 1#1), (Rect.unit (s := S8x1024x256) (k0_off4 v5 k0_t2) S1x1024x256.size (k0_off4_inb i v5 k0_hw1 k0_t2 k0_h2)).PackedRows (EltTy.packing .bf16) := fun i v5 k0_hw1 k0_t2 k0_h2 => k0_hw1.2.2.2.2.2.2.1 k0_t2 k0_h2 (k0_off4_inb i v5 k0_hw1 k0_t2 k0_h2)
theorem k0_off5_inb : ∀ (i : grid0.Coords) (v5 : BitVec 32) (k0_hw1 : k0_chk1 i v5) (k0_t2 : Fin (k0_t2_loop v5).trips), ∀ (k0_h2 : k0_cond2 i = 1#1), ∀ a, (k0_off5 v5 k0_t2) a + S1x8x256.size a ≤ S8x8x256.size a := fun i v5 k0_hw1 k0_t2 k0_h2 => k0_hw1.2.2.2.2.2.2.2.1 k0_t2 k0_h2
theorem k0_t5_ok : ∀ (i : grid0.Coords) (v5 : BitVec 32) (k0_hw1 : k0_chk1 i v5), (k0_t5_loop v5).OK := fun i v5 k0_hw1 => k0_hw1.2.2.2.2.2.2.2.2.1
theorem k0_off10_inb : ∀ (i : grid0.Coords) (v5 : BitVec 32) (k0_hw1 : k0_chk1 i v5) (k0_t5 : Fin (k0_t5_loop v5).trips), ∀ a, (k0_off10 v5 k0_t5) a + S1x1024x256.size a ≤ S8x1024x256.size a := fun i v5 k0_hw1 k0_t5 => k0_hw1.2.2.2.2.2.2.2.2.2.1 k0_t5
theorem k0_off11_inb : ∀ (i : grid0.Coords) (v5 : BitVec 32) (k0_hw1 : k0_chk1 i v5) (k0_t5 : Fin (k0_t5_loop v5).trips), ∀ a, (k0_off11 v5 k0_t5) a + S1x8x256.size a ≤ S8x8x256.size a := fun i v5 k0_hw1 k0_t5 => k0_hw1.2.2.2.2.2.2.2.2.2.2.1 k0_t5
theorem k0_t6_ok : ∀ (i : grid0.Coords) (v5 : BitVec 32) (k0_hw1 : k0_chk1 i v5), (k0_t6_loop v5).OK := fun i v5 k0_hw1 => k0_hw1.2.2.2.2.2.2.2.2.2.2.2.1
theorem k0_off12_inb : ∀ (i : grid0.Coords) (v5 : BitVec 32) (k0_hw1 : k0_chk1 i v5) (k0_t6 : Fin (k0_t6_loop v5).trips), ∀ a, (k0_off12 v5 k0_t6) a + S1x1024x256.size a ≤ S8x1024x256.size a := fun i v5 k0_hw1 k0_t6 => k0_hw1.2.2.2.2.2.2.2.2.2.2.2.2.1 k0_t6
theorem k0_off13_inb : ∀ (i : grid0.Coords) (v5 : BitVec 32) (k0_hw1 : k0_chk1 i v5) (k0_t6 : Fin (k0_t6_loop v5).trips), ∀ a, (k0_off13 v5 k0_t6) a + S1x8x256.size a ≤ S8x8x256.size a := fun i v5 k0_hw1 k0_t6 => k0_hw1.2.2.2.2.2.2.2.2.2.2.2.2.2.1 k0_t6
theorem k0_t9_ok : ∀ (i : grid0.Coords) (v5 : BitVec 32) (k0_hw1 : k0_chk1 i v5), ∀ (k0_h3 : k0_cond3 i = 1#1), (k0_t9_loop v5).OK := fun i v5 k0_hw1 k0_h3 => k0_hw1.2.2.2.2.2.2.2.2.2.2.2.2.2.2.1 k0_h3
theorem k0_off18_inb : ∀ (i : grid0.Coords) (v5 : BitVec 32) (k0_hw1 : k0_chk1 i v5) (k0_t9 : Fin (k0_t9_loop v5).trips), ∀ (k0_h3 : k0_cond3 i = 1#1), ∀ a, (k0_off18 v5 k0_t9) a + S1x1024x256.size a ≤ S8x1024x256.size a := fun i v5 k0_hw1 k0_t9 k0_h3 => k0_hw1.2.2.2.2.2.2.2.2.2.2.2.2.2.2.2.1 k0_t9 k0_h3
theorem k0_t10_ok : ∀ (i : grid0.Coords) (v5 : BitVec 32) (k0_hw1 : k0_chk1 i v5), ∀ (k0_h3 : k0_cond3 i = 1#1), (k0_t10_loop v5).OK := fun i v5 k0_hw1 k0_h3 => k0_hw1.2.2.2.2.2.2.2.2.2.2.2.2.2.2.2.2.1 k0_h3
theorem k0_off19_inb : ∀ (i : grid0.Coords) (v5 : BitVec 32) (k0_hw1 : k0_chk1 i v5) (k0_t10 : Fin (k0_t10_loop v5).trips), ∀ (k0_h3 : k0_cond3 i = 1#1), ∀ a, (k0_off19 v5 k0_t10) a + S1x1024x256.size a ≤ S8x1024x256.size a := fun i v5 k0_hw1 k0_t10 k0_h3 => k0_hw1.2.2.2.2.2.2.2.2.2.2.2.2.2.2.2.2.2 k0_t10 k0_h3

@[reducible] def k0_t11_loop (v29 : BitVec 32) : Scf.Loop 32 :=
  let c0_i32_38 : BitVec 32 := 0#32
  let c255_i32_8 : BitVec 32 := 255#32
  let v30 : BitVec 32 := Scalar.addi v29 c255_i32_8
  let c0_i32_10 : BitVec 32 := 0#32
  let v32 : BitVec 1 := Scalar.cmpi .sgt v30 c0_i32_10
  let v33 : BitVec 32 := Scalar.extui v32
  let c0_i32_11 : BitVec 32 := 0#32
  let v34 : BitVec 1 := Scalar.cmpi .slt v30 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v30 c256_i32_9
  let c0_i32_14 : BitVec 32 := 0#32
  let v44 : BitVec 1 := Scalar.cmpi .ne v43 c0_i32_14
  let v45 : BitVec 1 := Scalar.andi v42 v44
  let v31 : BitVec 32 := Scalar.divsi v30 c256_i32_9
  let c1_i32_15 : BitVec 32 := 1#32
  let v46 : BitVec 32 := Scalar.subi v31 c1_i32_15
  let v47 : BitVec 32 := Scalar.select v45 v46 v31
  let v75 : BitVec 32 := Scalar.subi v47 c0_i32_38
  let c1_i32_39 : BitVec 32 := 1#32
  let v77 : BitVec 32 := Scalar.divsi v75 c1_i32_39
  let v78 : BitVec 32 := Scalar.muli v77 c1_i32_39
  let v79 : BitVec 32 := Scalar.addi c0_i32_38 v78
  let c1_i32_40 : BitVec 32 := 1#32
  ⟨c0_i32_38, v79, c1_i32_40⟩
def k0_off20 (v29 : BitVec 32) (k0_t11 : Fin (k0_t11_loop v29).trips) : Fin 3 → Nat :=
  let c4_i32 : BitVec 32 := 4#32
  let c0_i32_38 : BitVec 32 := 0#32
  let c1_i32_40 : BitVec 32 := 1#32
  let arg18 : BitVec 32 := Scf.iv c0_i32_38 c1_i32_40 k0_t11
  let v104 : BitVec 32 := Scalar.addi c4_i32 arg18
  let v105 : Index := Scalar.indexCast v104
  let c0_49 : Index := 0#32
  let c0_50 : Index := 0#32
  ![v105.toNat, 0, 0]
@[reducible] def k0_t12_loop (v29 : BitVec 32) : Scf.Loop 32 :=
  let c0_i32_38 : BitVec 32 := 0#32
  let c255_i32_8 : BitVec 32 := 255#32
  let v30 : BitVec 32 := Scalar.addi v29 c255_i32_8
  let c0_i32_10 : BitVec 32 := 0#32
  let v32 : BitVec 1 := Scalar.cmpi .sgt v30 c0_i32_10
  let v33 : BitVec 32 := Scalar.extui v32
  let c0_i32_11 : BitVec 32 := 0#32
  let v34 : BitVec 1 := Scalar.cmpi .slt v30 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v30 c256_i32_9
  let c0_i32_14 : BitVec 32 := 0#32
  let v44 : BitVec 1 := Scalar.cmpi .ne v43 c0_i32_14
  let v45 : BitVec 1 := Scalar.andi v42 v44
  let v31 : BitVec 32 := Scalar.divsi v30 c256_i32_9
  let c1_i32_15 : BitVec 32 := 1#32
  let v46 : BitVec 32 := Scalar.subi v31 c1_i32_15
  let v47 : BitVec 32 := Scalar.select v45 v46 v31
  let v75 : BitVec 32 := Scalar.subi v47 c0_i32_38
  let c1_i32_39 : BitVec 32 := 1#32
  let v77 : BitVec 32 := Scalar.divsi v75 c1_i32_39
  let v78 : BitVec 32 := Scalar.muli v77 c1_i32_39
  let v79 : BitVec 32 := Scalar.addi c0_i32_38 v78
  let v76 : BitVec 32 := Scalar.addi c0_i32_38 v75
  let c1_i32_41 : BitVec 32 := 1#32
  ⟨v79, v76, c1_i32_41⟩
def k0_off21 (v29 : BitVec 32) (k0_t12 : Fin (k0_t12_loop v29).trips) : Fin 3 → Nat :=
  let c4_i32 : BitVec 32 := 4#32
  let c0_i32_38 : BitVec 32 := 0#32
  let c255_i32_8 : BitVec 32 := 255#32
  let v30 : BitVec 32 := Scalar.addi v29 c255_i32_8
  let c0_i32_10 : BitVec 32 := 0#32
  let v32 : BitVec 1 := Scalar.cmpi .sgt v30 c0_i32_10
  let v33 : BitVec 32 := Scalar.extui v32
  let c0_i32_11 : BitVec 32 := 0#32
  let v34 : BitVec 1 := Scalar.cmpi .slt v30 c0_i32_11
  let v35 : BitVec 32 := Scalar.extui v34
  let v36 : BitVec 32 := Scalar.subi v33 v35
  let c256_i32_9 : BitVec 32 := 256#32
  let c0_i32_12 : BitVec 32 := 0#32
  let v37 : BitVec 1 := Scalar.cmpi .sgt c256_i32_9 c0_i32_12
  let v38 : BitVec 32 := Scalar.extui v37
  let c0_i32_13 : BitVec 32 := 0#32
  let v39 : BitVec 1 := Scalar.cmpi .slt c256_i32_9 c0_i32_13
  let v40 : BitVec 32 := Scalar.extui v39
  let v41 : BitVec 32 := Scalar.subi v38 v40
  let v42 : BitVec 1 := Scalar.cmpi .ne v36 v41
  let v43 : BitVec 32 := Scalar.remsi v30 c256_i32_9
  let c0_i32_14 : BitVec 32 := 0#32
  let v44 : BitVec 1 := Scalar.cmpi .ne v43 c0_i32_14
  let v45 : BitVec 1 := Scalar.andi v42 v44
  let v31 : BitVec 32 := Scalar.divsi v30 c256_i32_9
  let c1_i32_15 : BitVec 32 := 1#32
  let v46 : BitVec 32 := Scalar.subi v31 c1_i32_15
  let v47 : BitVec 32 := Scalar.select v45 v46 v31
  let v75 : BitVec 32 := Scalar.subi v47 c0_i32_38
  let c1_i32_39 : BitVec 32 := 1#32
  let v77 : BitVec 32 := Scalar.divsi v75 c1_i32_39
  let v78 : BitVec 32 := Scalar.muli v77 c1_i32_39
  let v79 : BitVec 32 := Scalar.addi c0_i32_38 v78
  let c1_i32_41 : BitVec 32 := 1#32
  let arg18 : BitVec 32 := Scf.iv v79 c1_i32_41 k0_t12
  let v104 : BitVec 32 := Scalar.addi c4_i32 arg18
  let v105 : Index := Scalar.indexCast v104
  let c0_49 : Index := 0#32
  let c0_50 : Index := 0#32
  ![v105.toNat, 0, 0]

def k0_chk2 (i : grid0.Coords) (v29 : BitVec 32) : Prop :=
  (∀ (k0_h2 : k0_cond2 i = 1#1), (k0_t3_loop v29).OK) ∧
  (∀ k0_t3 : Fin (k0_t3_loop v29).trips, ∀ (k0_h2 : k0_cond2 i = 1#1), ∀ a, (k0_off6 v29 k0_t3) a + S1x1024x256.size a ≤ S8x1024x256.size a) ∧
  (∀ k0_t3 : Fin (k0_t3_loop v29).trips, ∀ (k0_h2 : k0_cond2 i = 1#1), ∀ (hinb : ∀ a, (k0_off6 v29 k0_t3) a + S1x1024x256.size a ≤ S8x1024x256.size a), (Rect.unit (s := S8x1024x256) (k0_off6 v29 k0_t3) S1x1024x256.size hinb).PackedRows (EltTy.packing .bf16)) ∧
  (∀ k0_t3 : Fin (k0_t3_loop v29).trips, ∀ (k0_h2 : k0_cond2 i = 1#1), ∀ a, (k0_off7 v29 k0_t3) a + S1x8x256.size a ≤ S8x8x256.size a) ∧
  (∀ (k0_h2 : k0_cond2 i = 1#1), (k0_t4_loop v29).OK) ∧
  (∀ k0_t4 : Fin (k0_t4_loop v29).trips, ∀ (k0_h2 : k0_cond2 i = 1#1), ∀ a, (k0_off8 v29 k0_t4) a + S1x1024x256.size a ≤ S8x1024x256.size a) ∧
  (∀ k0_t4 : Fin (k0_t4_loop v29).trips, ∀ (k0_h2 : k0_cond2 i = 1#1), ∀ (hinb : ∀ a, (k0_off8 v29 k0_t4) a + S1x1024x256.size a ≤ S8x1024x256.size a), (Rect.unit (s := S8x1024x256) (k0_off8 v29 k0_t4) S1x1024x256.size hinb).PackedRows (EltTy.packing .bf16)) ∧
  (∀ k0_t4 : Fin (k0_t4_loop v29).trips, ∀ (k0_h2 : k0_cond2 i = 1#1), ∀ a, (k0_off9 v29 k0_t4) a + S1x8x256.size a ≤ S8x8x256.size a) ∧
  ((k0_t7_loop v29).OK) ∧
  (∀ k0_t7 : Fin (k0_t7_loop v29).trips, ∀ a, (k0_off14 v29 k0_t7) a + S1x1024x256.size a ≤ S8x1024x256.size a) ∧
  (∀ k0_t7 : Fin (k0_t7_loop v29).trips, ∀ a, (k0_off15 v29 k0_t7) a + S1x8x256.size a ≤ S8x8x256.size a) ∧
  ((k0_t8_loop v29).OK) ∧
  (∀ k0_t8 : Fin (k0_t8_loop v29).trips, ∀ a, (k0_off16 v29 k0_t8) a + S1x1024x256.size a ≤ S8x1024x256.size a) ∧
  (∀ k0_t8 : Fin (k0_t8_loop v29).trips, ∀ a, (k0_off17 v29 k0_t8) a + S1x8x256.size a ≤ S8x8x256.size a) ∧
  (∀ (k0_h3 : k0_cond3 i = 1#1), (k0_t11_loop v29).OK) ∧
  (∀ k0_t11 : Fin (k0_t11_loop v29).trips, ∀ (k0_h3 : k0_cond3 i = 1#1), ∀ a, (k0_off20 v29 k0_t11) a + S1x1024x256.size a ≤ S8x1024x256.size a) ∧
  (∀ (k0_h3 : k0_cond3 i = 1#1), (k0_t12_loop v29).OK) ∧
  (∀ k0_t12 : Fin (k0_t12_loop v29).trips, ∀ (k0_h3 : k0_cond3 i = 1#1), ∀ a, (k0_off21 v29 k0_t12) a + S1x1024x256.size a ≤ S8x1024x256.size a)
theorem k0_t3_ok : ∀ (i : grid0.Coords) (v29 : BitVec 32) (k0_hw2 : k0_chk2 i v29), ∀ (k0_h2 : k0_cond2 i = 1#1), (k0_t3_loop v29).OK := fun i v29 k0_hw2 k0_h2 => k0_hw2.1 k0_h2
theorem k0_off6_inb : ∀ (i : grid0.Coords) (v29 : BitVec 32) (k0_hw2 : k0_chk2 i v29) (k0_t3 : Fin (k0_t3_loop v29).trips), ∀ (k0_h2 : k0_cond2 i = 1#1), ∀ a, (k0_off6 v29 k0_t3) a + S1x1024x256.size a ≤ S8x1024x256.size a := fun i v29 k0_hw2 k0_t3 k0_h2 => k0_hw2.2.1 k0_t3 k0_h2
theorem k0_off6_packedbf16 : ∀ (i : grid0.Coords) (v29 : BitVec 32) (k0_hw2 : k0_chk2 i v29) (k0_t3 : Fin (k0_t3_loop v29).trips), ∀ (k0_h2 : k0_cond2 i = 1#1), (Rect.unit (s := S8x1024x256) (k0_off6 v29 k0_t3) S1x1024x256.size (k0_off6_inb i v29 k0_hw2 k0_t3 k0_h2)).PackedRows (EltTy.packing .bf16) := fun i v29 k0_hw2 k0_t3 k0_h2 => k0_hw2.2.2.1 k0_t3 k0_h2 (k0_off6_inb i v29 k0_hw2 k0_t3 k0_h2)
theorem k0_off7_inb : ∀ (i : grid0.Coords) (v29 : BitVec 32) (k0_hw2 : k0_chk2 i v29) (k0_t3 : Fin (k0_t3_loop v29).trips), ∀ (k0_h2 : k0_cond2 i = 1#1), ∀ a, (k0_off7 v29 k0_t3) a + S1x8x256.size a ≤ S8x8x256.size a := fun i v29 k0_hw2 k0_t3 k0_h2 => k0_hw2.2.2.2.1 k0_t3 k0_h2
theorem k0_t4_ok : ∀ (i : grid0.Coords) (v29 : BitVec 32) (k0_hw2 : k0_chk2 i v29), ∀ (k0_h2 : k0_cond2 i = 1#1), (k0_t4_loop v29).OK := fun i v29 k0_hw2 k0_h2 => k0_hw2.2.2.2.2.1 k0_h2
theorem k0_off8_inb : ∀ (i : grid0.Coords) (v29 : BitVec 32) (k0_hw2 : k0_chk2 i v29) (k0_t4 : Fin (k0_t4_loop v29).trips), ∀ (k0_h2 : k0_cond2 i = 1#1), ∀ a, (k0_off8 v29 k0_t4) a + S1x1024x256.size a ≤ S8x1024x256.size a := fun i v29 k0_hw2 k0_t4 k0_h2 => k0_hw2.2.2.2.2.2.1 k0_t4 k0_h2
theorem k0_off8_packedbf16 : ∀ (i : grid0.Coords) (v29 : BitVec 32) (k0_hw2 : k0_chk2 i v29) (k0_t4 : Fin (k0_t4_loop v29).trips), ∀ (k0_h2 : k0_cond2 i = 1#1), (Rect.unit (s := S8x1024x256) (k0_off8 v29 k0_t4) S1x1024x256.size (k0_off8_inb i v29 k0_hw2 k0_t4 k0_h2)).PackedRows (EltTy.packing .bf16) := fun i v29 k0_hw2 k0_t4 k0_h2 => k0_hw2.2.2.2.2.2.2.1 k0_t4 k0_h2 (k0_off8_inb i v29 k0_hw2 k0_t4 k0_h2)
theorem k0_off9_inb : ∀ (i : grid0.Coords) (v29 : BitVec 32) (k0_hw2 : k0_chk2 i v29) (k0_t4 : Fin (k0_t4_loop v29).trips), ∀ (k0_h2 : k0_cond2 i = 1#1), ∀ a, (k0_off9 v29 k0_t4) a + S1x8x256.size a ≤ S8x8x256.size a := fun i v29 k0_hw2 k0_t4 k0_h2 => k0_hw2.2.2.2.2.2.2.2.1 k0_t4 k0_h2
theorem k0_t7_ok : ∀ (i : grid0.Coords) (v29 : BitVec 32) (k0_hw2 : k0_chk2 i v29), (k0_t7_loop v29).OK := fun i v29 k0_hw2 => k0_hw2.2.2.2.2.2.2.2.2.1
theorem k0_off14_inb : ∀ (i : grid0.Coords) (v29 : BitVec 32) (k0_hw2 : k0_chk2 i v29) (k0_t7 : Fin (k0_t7_loop v29).trips), ∀ a, (k0_off14 v29 k0_t7) a + S1x1024x256.size a ≤ S8x1024x256.size a := fun i v29 k0_hw2 k0_t7 => k0_hw2.2.2.2.2.2.2.2.2.2.1 k0_t7
theorem k0_off15_inb : ∀ (i : grid0.Coords) (v29 : BitVec 32) (k0_hw2 : k0_chk2 i v29) (k0_t7 : Fin (k0_t7_loop v29).trips), ∀ a, (k0_off15 v29 k0_t7) a + S1x8x256.size a ≤ S8x8x256.size a := fun i v29 k0_hw2 k0_t7 => k0_hw2.2.2.2.2.2.2.2.2.2.2.1 k0_t7
theorem k0_t8_ok : ∀ (i : grid0.Coords) (v29 : BitVec 32) (k0_hw2 : k0_chk2 i v29), (k0_t8_loop v29).OK := fun i v29 k0_hw2 => k0_hw2.2.2.2.2.2.2.2.2.2.2.2.1
theorem k0_off16_inb : ∀ (i : grid0.Coords) (v29 : BitVec 32) (k0_hw2 : k0_chk2 i v29) (k0_t8 : Fin (k0_t8_loop v29).trips), ∀ a, (k0_off16 v29 k0_t8) a + S1x1024x256.size a ≤ S8x1024x256.size a := fun i v29 k0_hw2 k0_t8 => k0_hw2.2.2.2.2.2.2.2.2.2.2.2.2.1 k0_t8
theorem k0_off17_inb : ∀ (i : grid0.Coords) (v29 : BitVec 32) (k0_hw2 : k0_chk2 i v29) (k0_t8 : Fin (k0_t8_loop v29).trips), ∀ a, (k0_off17 v29 k0_t8) a + S1x8x256.size a ≤ S8x8x256.size a := fun i v29 k0_hw2 k0_t8 => k0_hw2.2.2.2.2.2.2.2.2.2.2.2.2.2.1 k0_t8
theorem k0_t11_ok : ∀ (i : grid0.Coords) (v29 : BitVec 32) (k0_hw2 : k0_chk2 i v29), ∀ (k0_h3 : k0_cond3 i = 1#1), (k0_t11_loop v29).OK := fun i v29 k0_hw2 k0_h3 => k0_hw2.2.2.2.2.2.2.2.2.2.2.2.2.2.2.1 k0_h3
theorem k0_off20_inb : ∀ (i : grid0.Coords) (v29 : BitVec 32) (k0_hw2 : k0_chk2 i v29) (k0_t11 : Fin (k0_t11_loop v29).trips), ∀ (k0_h3 : k0_cond3 i = 1#1), ∀ a, (k0_off20 v29 k0_t11) a + S1x1024x256.size a ≤ S8x1024x256.size a := fun i v29 k0_hw2 k0_t11 k0_h3 => k0_hw2.2.2.2.2.2.2.2.2.2.2.2.2.2.2.2.1 k0_t11 k0_h3
theorem k0_t12_ok : ∀ (i : grid0.Coords) (v29 : BitVec 32) (k0_hw2 : k0_chk2 i v29), ∀ (k0_h3 : k0_cond3 i = 1#1), (k0_t12_loop v29).OK := fun i v29 k0_hw2 k0_h3 => k0_hw2.2.2.2.2.2.2.2.2.2.2.2.2.2.2.2.2.1 k0_h3
theorem k0_off21_inb : ∀ (i : grid0.Coords) (v29 : BitVec 32) (k0_hw2 : k0_chk2 i v29) (k0_t12 : Fin (k0_t12_loop v29).trips), ∀ (k0_h3 : k0_cond3 i = 1#1), ∀ a, (k0_off21 v29 k0_t12) a + S1x1024x256.size a ≤ S8x1024x256.size a := fun i v29 k0_hw2 k0_t12 k0_h3 => k0_hw2.2.2.2.2.2.2.2.2.2.2.2.2.2.2.2.2.2 k0_t12 k0_h3

def k0_cond1 (i : grid0.Coords) : BitVec 1 :=
  let arg1 : BitVec 32 := BitVec.ofNat 32 (i 1).val
  let c0_i32_16 : BitVec 32 := 0#32
  let v48 : BitVec 1 := Scalar.cmpi .eq arg1 c0_i32_16
  let arg2 : BitVec 32 := BitVec.ofNat 32 (i 2).val
  let c0_i32_17 : BitVec 32 := 0#32
  let v49 : BitVec 1 := Scalar.cmpi .eq arg2 c0_i32_17
  let v50 : BitVec 1 := Scalar.andi v48 v49
  let v51 : BitVec 32 := Scalar.extui v50
  let c0_i32_18 : BitVec 32 := 0#32
  let v52 : BitVec 1 := Scalar.cmpi .ne v51 c0_i32_18
  v52

def k0_cond4 (i : grid0.Coords) : BitVec 1 :=
  let arg1 : BitVec 32 := BitVec.ofNat 32 (i 1).val
  let c7_i32 : BitVec 32 := 7#32
  let v80 : BitVec 1 := Scalar.cmpi .eq arg1 c7_i32
  let v81 : BitVec 32 := Scalar.extui v80
  let c0_i32_42 : BitVec 32 := 0#32
  let v82 : BitVec 1 := Scalar.cmpi .ne v81 c0_i32_42
  v82

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 1 → Memref sig .tc .vmem S1664x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S1664x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false, false]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false, false]

abbrev stage0_3 : Fin 2 → Memref sig .tc .vmem S1x896x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x896x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S1x1024x896 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1664x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false, false]
-- ==== ReferenceIdeal.lean ====
abbrev S32768x1024 : Shape := ⟨2, ![32768, 1024]⟩
abbrev S32768x8 : Shape := ⟨2, ![32768, 8]⟩
abbrev S8x1024x3584 : Shape := ⟨3, ![8, 1024, 3584]⟩
abbrev S8x3584x1024 : Shape := ⟨3, ![8, 3584, 1024]⟩
abbrev S1024 : Shape := ⟨1, ![1024]⟩
abbrev S_ : Shape := ⟨0, ![]⟩
abbrev S32768x1 : Shape := ⟨2, ![32768, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S32768x3584 : Shape := ⟨2, ![32768, 3584]⟩
abbrev S32768 : Shape := ⟨1, ![32768]⟩
abbrev S1x1024 : Shape := ⟨2, ![1, 1024]⟩

abbrev nBuf : Space → Nat
  | .hbm => 226
  | .vmem => 0
  | .smem => 0
  | _ => 0

abbrev hbmTy0_0 (i : Nat) : BufTy := match i % 128 with
  | 0 => ⟨S32768x1024, .f32⟩
  | 1 => ⟨S32768x8, .f32⟩
  | 2 => ⟨S8x1024x3584, .f32⟩
  | 3 => ⟨S8x1024x3584, .f32⟩
  | 4 => ⟨S8x3584x1024, .f32⟩
  | 5 => ⟨S1024, .f32⟩
  | 6 => ⟨S1024, .f32⟩
  | 7 => ⟨S_, .f32⟩
  | 8 => ⟨S32768x1024, .f32⟩
  | 9 => ⟨S32768x1, .f32⟩
  | 10 => ⟨S1x1024x3584, .f32⟩
  | 11 => ⟨S1024x3584, .f32⟩
  | 12 => ⟨S1x1024x3584, .f32⟩
  | 13 => ⟨S1024x3584, .f32⟩
  | 14 => ⟨S1x3584x1024, .f32⟩
  | 15 => ⟨S3584x1024, .f32⟩
  | 16 => ⟨S32768x3584, .f32⟩
  | 17 => ⟨S32768x3584, .f32⟩
  | 18 => ⟨S32768x3584, .f32⟩
  | 19 => ⟨S_, .f32⟩
  | 20 => ⟨S32768x3584, .f32⟩
  | 21 => ⟨S32768x3584, .f32⟩
  | 22 => ⟨S_, .f32⟩
  | 23 => ⟨S32768x3584, .f32⟩
  | 24 => ⟨S32768x3584, .f32⟩
  | 25 => ⟨S32768x3584, .f32⟩
  | 26 => ⟨S32768x3584, .f32⟩
  | 27 => ⟨S32768x3584, .f32⟩
  | 28 => ⟨S32768x1024, .f32⟩
  | 29 => ⟨S32768x1024, .f32⟩
  | 30 => ⟨S32768x1024, .f32⟩
  | 31 => ⟨S32768x1024, .f32⟩
  | 32 => ⟨S32768x1, .f32⟩
  | 33 => ⟨S1x1024x3584, .f32⟩
  | 34 => ⟨S1024x3584, .f32⟩
  | 35 => ⟨S1x1024x3584, .f32⟩
  | 36 => ⟨S1024x3584, .f32⟩
  | 37 => ⟨S1x3584x1024, .f32⟩
  | 38 => ⟨S3584x1024, .f32⟩
  | 39 => ⟨S32768x3584, .f32⟩
  | 40 => ⟨S32768x3584, .f32⟩
  | 41 => ⟨S32768x3584, .f32⟩
  | 42 => ⟨S_, .f32⟩
  | 43 => ⟨S32768x3584, .f32⟩
  | 44 => ⟨S32768x3584, .f32⟩
  | 45 => ⟨S_, .f32⟩
  | 46 => ⟨S32768x3584, .f32⟩
  | 47 => ⟨S32768x3584, .f32⟩
  | 48 => ⟨S32768x3584, .f32⟩
  | 49 => ⟨S32768x3584, .f32⟩
  | 50 => ⟨S32768x3584, .f32⟩
  | 51 => ⟨S32768x1024, .f32⟩
  | 52 => ⟨S32768x1024, .f32⟩
  | 53 => ⟨S32768x1024, .f32⟩
  | 54 => ⟨S32768x1024, .f32⟩
  | 55 => ⟨S32768x1, .f32⟩
  | 56 => ⟨S1x1024x3584, .f32⟩
  | 57 => ⟨S1024x3584, .f32⟩
  | 58 => ⟨S1x1024x3584, .f32⟩
  | 59 => ⟨S1024x3584, .f32⟩
  | 60 => ⟨S1x3584x1024, .f32⟩
  | 61 => ⟨S3584x1024, .f32⟩
  | 62 => ⟨S32768x3584, .f32⟩
  | 63 => ⟨S32768x3584, .f32⟩
  | 64 => ⟨S32768x3584, .f32⟩
  | 65 => ⟨S_, .f32⟩
  | 66 => ⟨S32768x3584, .f32⟩
  | 67 => ⟨S32768x3584, .f32⟩
  | 68 => ⟨S_, .f32⟩
  | 69 => ⟨S32768x3584, .f32⟩
  | 70 => ⟨S32768x3584, .f32⟩
  | 71 => ⟨S32768x3584, .f32⟩
  | 72 => ⟨S32768x3584, .f32⟩
  | 73 => ⟨S32768x3584, .f32⟩
  | 74 => ⟨S32768x1024, .f32⟩
  | 75 => ⟨S32768x1024, .f32⟩
  | 76 => ⟨S32768x1024, .f32⟩
  | 77 => ⟨S32768x1024, .f32⟩
  | 78 => ⟨S32768x1, .f32⟩
  | 79 => ⟨S1x1024x3584, .f32⟩
  | 80 => ⟨S1024x3584, .f32⟩
  | 81 => ⟨S1x1024x3584, .f32⟩
  | 82 => ⟨S1024x3584, .f32⟩
  | 83 => ⟨S1x3584x1024, .f32⟩
  | 84 => ⟨S3584x1024, .f32⟩
  | 85 => ⟨S32768x3584, .f32⟩
  | 86 => ⟨S32768x3584, .f32⟩
  | 87 => ⟨S32768x3584, .f32⟩
  | 88 => ⟨S_, .f32⟩
  | 89 => ⟨S32768x3584, .f32⟩
  | 90 => ⟨S32768x3584, .f32⟩
  | 91 => ⟨S_, .f32⟩
  | 92 => ⟨S32768x3584, .f32⟩
  | 93 => ⟨S32768x3584, .f32⟩
  | 94 => ⟨S32768x3584, .f32⟩
  | 95 => ⟨S32768x3584, .f32⟩
  | 96 => ⟨S32768x3584, .f32⟩
  | 97 => ⟨S32768x1024, .f32⟩
  | 98 => ⟨S32768x1024, .f32⟩
  | 99 => ⟨S32768x1024, .f32⟩
  | 100 => ⟨S32768x1024, .f32⟩
  | 101 => ⟨S32768x1, .f32⟩
  | 102 => ⟨S1x1024x3584, .f32⟩
  | 103 => ⟨S1024x3584, .f32⟩
  | 104 => ⟨S1x1024x3584, .f32⟩
  | 105 => ⟨S1024x3584, .f32⟩
  | 106 => ⟨S1x3584x1024, .f32⟩
  | 107 => ⟨S3584x1024, .f32⟩
  | 108 => ⟨S32768x3584, .f32⟩
  | 109 => ⟨S32768x3584, .f32⟩
  | 110 => ⟨S32768x3584, .f32⟩
  | 111 => ⟨S_, .f32⟩
  | 112 => ⟨S32768x3584, .f32⟩
  | 113 => ⟨S32768x3584, .f32⟩
  | 114 => ⟨S_, .f32⟩
  | 115 => ⟨S32768x3584, .f32⟩
  | 116 => ⟨S32768x3584, .f32⟩
  | 117 => ⟨S32768x3584, .f32⟩
  | 118 => ⟨S32768x3584, .f32⟩
  | 119 => ⟨S32768x3584, .f32⟩
  | 120 => ⟨S32768x1024, .f32⟩
  | 121 => ⟨S32768x1024, .f32⟩
  | 122 => ⟨S32768x1024, .f32⟩
  | 123 => ⟨S32768x1024, .f32⟩
  | 124 => ⟨S32768x1, .f32⟩
  | 125 => ⟨S1x1024x3584, .f32⟩
  | 126 => ⟨S1024x3584, .f32⟩
  | 127 => ⟨S1x1024x3584, .f32⟩
  | _ => ⟨S32768x1024, .f32⟩

abbrev hbmTy0_1 (i : Nat) : BufTy := match i % 128 with
  | 0 => ⟨S1024x3584, .f32⟩
  | 1 => ⟨S1x3584x1024, .f32⟩
  | 2 => ⟨S3584x1024, .f32⟩
  | 3 => ⟨S32768x3584, .f32⟩
  | 4 => ⟨S32768x3584, .f32⟩
  | 5 => ⟨S32768x3584, .f32⟩
  | 6 => ⟨S_, .f32⟩
  | 7 => ⟨S32768x3584, .f32⟩
  | 8 => ⟨S32768x3584, .f32⟩
  | 9 => ⟨S_, .f32⟩
  | 10 => ⟨S32768x3584, .f32⟩
  | 11 => ⟨S32768x3584, .f32⟩
  | 12 => ⟨S32768x3584, .f32⟩
  | 13 => ⟨S32768x3584, .f32⟩
  | 14 => ⟨S32768x3584, .f32⟩
  | 15 => ⟨S32768x1024, .f32⟩
  | 16 => ⟨S32768x1024, .f32⟩
  | 17 => ⟨S32768x1024, .f32⟩
  | 18 => ⟨S32768x1024, .f32⟩
  | 19 => ⟨S32768x1, .f32⟩
  | 20 => ⟨S1x1024x3584, .f32⟩
  | 21 => ⟨S1024x3584, .f32⟩
  | 22 => ⟨S1x1024x3584, .f32⟩
  | 23 => ⟨S1024x3584, .f32⟩
  | 24 => ⟨S1x3584x1024, .f32⟩
  | 25 => ⟨S3584x1024, .f32⟩
  | 26 => ⟨S32768x3584, .f32⟩
  | 27 => ⟨S32768x3584, .f32⟩
  | 28 => ⟨S32768x3584, .f32⟩
  | 29 => ⟨S_, .f32⟩
  | 30 => ⟨S32768x3584, .f32⟩
  | 31 => ⟨S32768x3584, .f32⟩
  | 32 => ⟨S_, .f32⟩
  | 33 => ⟨S32768x3584, .f32⟩
  | 34 => ⟨S32768x3584, .f32⟩
  | 35 => ⟨S32768x3584, .f32⟩
  | 36 => ⟨S32768x3584, .f32⟩
  | 37 => ⟨S32768x3584, .f32⟩
  | 38 => ⟨S32768x1024, .f32⟩
  | 39 => ⟨S32768x1024, .f32⟩
  | 40 => ⟨S32768x1024, .f32⟩
  | 41 => ⟨S32768x1024, .f32⟩
  | 42 => ⟨S32768x1, .f32⟩
  | 43 => ⟨S1x1024x3584, .f32⟩
  | 44 => ⟨S1024x3584, .f32⟩
  | 45 => ⟨S1x1024x3584, .f32⟩
  | 46 => ⟨S1024x3584, .f32⟩
  | 47 => ⟨S1x3584x1024, .f32⟩
  | 48 => ⟨S3584x1024, .f32⟩
  | 49 => ⟨S32768x3584, .f32⟩
  | 50 => ⟨S32768x3584, .f32⟩
  | 51 => ⟨S32768x3584, .f32⟩
  | 52 => ⟨S_, .f32⟩
  | 53 => ⟨S32768x3584, .f32⟩
  | 54 => ⟨S32768x3584, .f32⟩
  | 55 => ⟨S_, .f32⟩
  | 56 => ⟨S32768x3584, .f32⟩
  | 57 => ⟨S32768x3584, .f32⟩
  | 58 => ⟨S32768x3584, .f32⟩
  | 59 => ⟨S32768x3584, .f32⟩
  | 60 => ⟨S32768x3584, .f32⟩
  | 61 => ⟨S32768x1024, .f32⟩
  | 62 => ⟨S32768x1024, .f32⟩
  | 63 => ⟨S32768x1024, .f32⟩
  | 64 => ⟨S32768x1024, .f32⟩
  | 65 => ⟨S_, .f32⟩
  | 66 => ⟨S32768x1024, .f32⟩
  | 67 => ⟨S32768x1024, .f32⟩
  | 68 => ⟨S32768x1024, .f32⟩
  | 69 => ⟨S_, .f32⟩
  | 70 => ⟨S32768, .f32⟩
  | 71 => ⟨S32768x1, .f32⟩
  | 72 => ⟨S_, .f32⟩
  | 73 => ⟨S32768x1, .f32⟩
  | 74 => ⟨S32768x1, .f32⟩
  | 75 => ⟨S32768x1024, .f32⟩
  | 76 => ⟨S32768x1024, .f32⟩
  | 77 => ⟨S32768x1024, .f32⟩
  | 78 => ⟨S_, .f32⟩
  | 79 => ⟨S32768, .f32⟩
  | 80 => ⟨S32768x1, .f32⟩
  | 81 => ⟨S_, .f32⟩
  | 82 => ⟨S32768x1, .f32⟩
  | 83 => ⟨S32768x1, .f32⟩
  | 84 => ⟨S32768x1024, .f32⟩
  | 85 => ⟨S32768x1024, .f32⟩
  | 86 => ⟨S_, .f32⟩
  | 87 => ⟨S32768x1, .f32⟩
  | 88 => ⟨S32768x1, .f32⟩
  | 89 => ⟨S32768x1, .f32⟩
  | 90 => ⟨S32768x1024, .f32⟩
  | 91 => ⟨S32768x1024, .f32⟩
  | 92 => ⟨S1x1024, .f32⟩
  | 93 => ⟨S32768x1024, .f32⟩
  | 94 => ⟨S32768x1024, .f32⟩
  | 95 => ⟨S1x1024, .f32⟩
  | 96 => ⟨S32768x1024, .f32⟩
  | 97 => ⟨S32768x1024, .f32⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_v0 : Ref sig .tc := ⟨.hbm, 40, rfl⟩
abbrev main_call1_v1 : Ref sig .tc := ⟨.hbm, 41, rfl⟩
abbrev main_call1_cst : Ref sig .tc := ⟨.hbm, 42, rfl⟩
abbrev main_call1_v2 : Ref sig .tc := ⟨.hbm, 43, rfl⟩
abbrev main_call1_v3 : Ref sig .tc := ⟨.hbm, 44, rfl⟩
abbrev main_call1_cst_0 : Ref sig .tc := ⟨.hbm, 45, rfl⟩
abbrev main_call1_v4 : Ref sig .tc := ⟨.hbm, 46, rfl⟩
abbrev main_call1_v5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_call2_v0 : Ref sig .tc := ⟨.hbm, 63, rfl⟩
abbrev main_call2_v1 : Ref sig .tc := ⟨.hbm, 64, rfl⟩
abbrev main_call2_cst : Ref sig .tc := ⟨.hbm, 65, rfl⟩
abbrev main_call2_v2 : Ref sig .tc := ⟨.hbm, 66, rfl⟩
abbrev main_call2_v3 : Ref sig .tc := ⟨.hbm, 67, rfl⟩
abbrev main_call2_cst_0 : Ref sig .tc := ⟨.hbm, 68, rfl⟩
abbrev main_call2_v4 : Ref sig .tc := ⟨.hbm, 69, rfl⟩
abbrev main_call2_v5 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_call3_v0 : Ref sig .tc := ⟨.hbm, 86, rfl⟩
abbrev main_call3_v1 : Ref sig .tc := ⟨.hbm, 87, rfl⟩
abbrev main_call3_cst : Ref sig .tc := ⟨.hbm, 88, rfl⟩
abbrev main_call3_v2 : Ref sig .tc := ⟨.hbm, 89, rfl⟩
abbrev main_call3_v3 : Ref sig .tc := ⟨.hbm, 90, rfl⟩
abbrev main_call3_cst_0 : Ref sig .tc := ⟨.hbm, 91, rfl⟩
abbrev main_call3_v4 : Ref sig .tc := ⟨.hbm, 92, rfl⟩
abbrev main_call3_v5 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_call4_v0 : Ref sig .tc := ⟨.hbm, 109, rfl⟩
abbrev main_call4_v1 : Ref sig .tc := ⟨.hbm, 110, rfl⟩
abbrev main_call4_cst : Ref sig .tc := ⟨.hbm, 111, rfl⟩
abbrev main_call4_v2 : Ref sig .tc := ⟨.hbm, 112, rfl⟩
abbrev main_call4_v3 : Ref sig .tc := ⟨.hbm, 113, rfl⟩
abbrev main_call4_cst_0 : Ref sig .tc := ⟨.hbm, 114, rfl⟩
abbrev main_call4_v4 : Ref sig .tc := ⟨.hbm, 115, rfl⟩
abbrev main_call4_v5 : Ref sig .tc := ⟨.hbm, 116, rfl⟩
abbrev main_v69 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_call5_v0 : Ref sig .tc := ⟨.hbm, 132, rfl⟩
abbrev main_call5_v1 : Ref sig .tc := ⟨.hbm, 133, rfl⟩
abbrev main_call5_cst : Ref sig .tc := ⟨.hbm, 134, rfl⟩
abbrev main_call5_v2 : Ref sig .tc := ⟨.hbm, 135, rfl⟩
abbrev main_call5_v3 : Ref sig .tc := ⟨.hbm, 136, rfl⟩
abbrev main_call5_cst_0 : Ref sig .tc := ⟨.hbm, 137, rfl⟩
abbrev main_call5_v4 : Ref sig .tc := ⟨.hbm, 138, rfl⟩
abbrev main_call5_v5 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_call6_v0 : Ref sig .tc := ⟨.hbm, 155, rfl⟩
abbrev main_call6_v1 : Ref sig .tc := ⟨.hbm, 156, rfl⟩
abbrev main_call6_cst : Ref sig .tc := ⟨.hbm, 157, rfl⟩
abbrev main_call6_v2 : Ref sig .tc := ⟨.hbm, 158, rfl⟩
abbrev main_call6_v3 : Ref sig .tc := ⟨.hbm, 159, rfl⟩
abbrev main_call6_cst_0 : Ref sig .tc := ⟨.hbm, 160, rfl⟩
abbrev main_call6_v4 : Ref sig .tc := ⟨.hbm, 161, rfl⟩
abbrev main_call6_v5 : Ref sig .tc := ⟨.hbm, 162, rfl⟩
abbrev main_v99 : Ref sig .tc := ⟨.hbm, 163, rfl⟩
abbrev main_v100 : Ref sig .tc := ⟨.hbm, 164, rfl⟩
abbrev main_v101 : Ref sig .tc := ⟨.hbm, 165, rfl⟩
abbrev main_v102 : Ref sig .tc := ⟨.hbm, 166, rfl⟩
abbrev main_v103 : Ref sig .tc := ⟨.hbm, 167, rfl⟩
abbrev main_v104 : Ref sig .tc := ⟨.hbm, 168, rfl⟩
abbrev main_v105 : Ref sig .tc := ⟨.hbm, 169, rfl⟩
abbrev main_v106 : Ref sig .tc := ⟨.hbm, 170, rfl⟩
abbrev main_v107 : Ref sig .tc := ⟨.hbm, 171, rfl⟩
abbrev main_v108 : Ref sig .tc := ⟨.hbm, 172, rfl⟩
abbrev main_v109 : Ref sig .tc := ⟨.hbm, 173, rfl⟩
abbrev main_v110 : Ref sig .tc := ⟨.hbm, 174, rfl⟩
abbrev main_v111 : Ref sig .tc := ⟨.hbm, 175, rfl⟩
abbrev main_v112 : Ref sig .tc := ⟨.hbm, 176, rfl⟩
abbrev main_v113 : Ref sig .tc := ⟨.hbm, 177, rfl⟩
abbrev main_call7_v0 : Ref sig .tc := ⟨.hbm, 178, rfl⟩
abbrev main_call7_v1 : Ref sig .tc := ⟨.hbm, 179, rfl⟩
abbrev main_call7_cst : Ref sig .tc := ⟨.hbm, 180, rfl⟩
abbrev main_call7_v2 : Ref sig .tc := ⟨.hbm, 181, rfl⟩
abbrev main_call7_v3 : Ref sig .tc := ⟨.hbm, 182, rfl⟩
abbrev main_call7_cst_0 : Ref sig .tc := ⟨.hbm, 183, rfl⟩
abbrev main_call7_v4 : Ref sig .tc := ⟨.hbm, 184, rfl⟩
abbrev main_call7_v5 : Ref sig .tc := ⟨.hbm, 185, rfl⟩
abbrev main_v114 : Ref sig .tc := ⟨.hbm, 186, rfl⟩
abbrev main_v115 : Ref sig .tc := ⟨.hbm, 187, rfl⟩
abbrev main_v116 : Ref sig .tc := ⟨.hbm, 188, rfl⟩
abbrev main_v117 : Ref sig .tc := ⟨.hbm, 189, rfl⟩
abbrev main_v118 : Ref sig .tc := ⟨.hbm, 190, rfl⟩
abbrev main_v119 : Ref sig .tc := ⟨.hbm, 191, rfl⟩
abbrev main_v120 : Ref sig .tc := ⟨.hbm, 192, rfl⟩
abbrev main_cst_0 : Ref sig .tc := ⟨.hbm, 193, rfl⟩
abbrev main_v121 : Ref sig .tc := ⟨.hbm, 194, rfl⟩
abbrev main_v122 : Ref sig .tc := ⟨.hbm, 195, rfl⟩
abbrev main_v123 : Ref sig .tc := ⟨.hbm, 196, rfl⟩
abbrev main_cst_1 : Ref sig .tc := ⟨.hbm, 197, rfl⟩
abbrev main_v124 : Ref sig .tc := ⟨.hbm, 198, rfl⟩
abbrev main_v125 : Ref sig .tc := ⟨.hbm, 199, rfl⟩
abbrev main_cst_2 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_cst_3 : Ref sig .tc := ⟨.hbm, 206, rfl⟩
abbrev main_v131 : Ref sig .tc := ⟨.hbm, 207, rfl⟩
abbrev main_v132 : Ref sig .tc := ⟨.hbm, 208, rfl⟩
abbrev main_cst_4 : Ref sig .tc := ⟨.hbm, 209, rfl⟩
abbrev main_v133 : Ref sig .tc := ⟨.hbm, 210, rfl⟩
abbrev main_v134 : Ref sig .tc := ⟨.hbm, 211, rfl⟩
abbrev main_v135 : Ref sig .tc := ⟨.hbm, 212, rfl⟩
abbrev main_v136 : Ref sig .tc := ⟨.hbm, 213, rfl⟩
abbrev main_cst_5 : Ref sig .tc := ⟨.hbm, 214, rfl⟩
abbrev main_v137 : Ref sig .tc := ⟨.hbm, 215, rfl⟩
abbrev main_v138 : Ref sig .tc := ⟨.hbm, 216, rfl⟩
abbrev main_v139 : Ref sig .tc := ⟨.hbm, 217, rfl⟩
abbrev main_v140 : Ref sig .tc := ⟨.hbm, 218, rfl⟩
abbrev main_v141 : Ref sig .tc := ⟨.hbm, 219, rfl⟩
abbrev main_v142 : Ref sig .tc := ⟨.hbm, 220, rfl⟩
abbrev main_v143 : Ref sig .tc := ⟨.hbm, 221, rfl⟩
abbrev main_v144 : Ref sig .tc := ⟨.hbm, 222, rfl⟩
abbrev main_v145 : Ref sig .tc := ⟨.hbm, 223, rfl⟩
abbrev main_v146 : Ref sig .tc := ⟨.hbm, 224, rfl⟩
abbrev main_v147 : Ref sig .tc := ⟨.hbm, 225, rfl⟩

abbrev nD : Nat := 1
abbrev τ : Topo := Topo.v7x

variable {F : FTy → Type} [FloatOps F]
-- ==== Kernel2.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S1x1024 : Shape := ⟨2, ![1, 1024]⟩
abbrev S1024x1024 : Shape := ⟨2, ![1024, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 12
  | .vmem => 14
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S256x1024, .bf16⟩
  | .local _ .vmem, ⟨7, _⟩ => ⟨S256x1024, .bf16⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![32, 11], ![false, false]⟩

def k0_cond2 (i : grid0.Coords) : BitVec 1 :=
  let arg1 : BitVec 32 := BitVec.ofNat 32 (i 1).val
  let c10_i32 : BitVec 32 := 10#32
  let v28 : BitVec 1 := Scalar.cmpi .eq arg1 c10_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S_ : Shape := ⟨0, ![]⟩
abbrev S32768x2816 : Shape := ⟨2, ![32768, 2816]⟩
abbrev S32768 : Shape := ⟨1, ![32768]⟩
abbrev S32768x1 : Shape := ⟨2, ![32768, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S32768x1024, .f32⟩
  | .hbm, ⟨8, _⟩ => ⟨S32768x1024, .f32⟩
  | .hbm, ⟨9, _⟩ => ⟨S32768x2816, .f32⟩
  | .hbm, ⟨10, _⟩ => ⟨S32768x2816, .f32⟩
  | .hbm, ⟨11, _⟩ => ⟨S32768x2816, .f32⟩
  | .hbm, ⟨12, _⟩ => ⟨S_, .f32⟩
  | .hbm, ⟨13, _⟩ => ⟨S32768x2816, .f32⟩
  | .hbm, ⟨14, _⟩ => ⟨S32768x2816, .f32⟩
  | .hbm, ⟨15, _⟩ => ⟨S_, .f32⟩
  | .hbm, ⟨16, _⟩ => ⟨S32768x2816, .f32⟩
  | .hbm, ⟨17, _⟩ => ⟨S32768x2816, .f32⟩
  | .hbm, ⟨18, _⟩ => ⟨S32768x2816, .f32⟩
  | .hbm, ⟨19, _⟩ => ⟨S32768x2816, .f32⟩
  | .hbm, ⟨20, _⟩ => ⟨S32768x2816, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel3.lean ====
abbrev S32768x256 : Shape := ⟨2, ![32768, 256]⟩
abbrev S1024x1024 : Shape := ⟨2, ![1024, 1024]⟩
abbrev S32768x1024 : Shape := ⟨2, ![32768, 1024]⟩
abbrev S1024 : Shape := ⟨1, ![1024]⟩
abbrev S1x1024 : Shape := ⟨2, ![1, 1024]⟩
abbrev S1024x256 : Shape := ⟨2, ![1024, 256]⟩
abbrev S256x1024 : Shape := ⟨2, ![256, 1024]⟩
abbrev S1024x1 : Shape := ⟨2, ![1024, 1]⟩

abbrev nBuf : Space → Nat
  | .hbm => 12
  | .vmem => 15
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S1024x1024, .f32⟩
  | .hbm, ⟨5, _⟩ => ⟨S32768x1024, .f32⟩
  | .hbm, ⟨6, _⟩ => ⟨S1024, .f32⟩
  | .hbm, ⟨7, _⟩ => ⟨S1024, .f32⟩
  | .hbm, ⟨8, _⟩ => ⟨S1024x1024, .bf16⟩
  | .hbm, ⟨9, _⟩ => ⟨S1x1024, .f32⟩
  | .hbm, ⟨10, _⟩ => ⟨S1x1024, .f32⟩
  | .hbm, ⟨11, _⟩ => ⟨S32768x1024, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x256, .f32⟩
  | .local _ .vmem, ⟨7, _⟩ => ⟨S1024x256, .f32⟩
  | .local _ .vmem, ⟨8, _⟩ => ⟨S1024x1024, .bf16⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference3Ideal.lean ====
abbrev S32768x256 : Shape := ⟨2, ![32768, 256]⟩
abbrev S1024x1024 : Shape := ⟨2, ![1024, 1024]⟩
abbrev S32768x1024 : Shape := ⟨2, ![32768, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 43
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S32768x256, .f32⟩
  | .hbm, ⟨4, _⟩ => ⟨S1024x1024, .f32⟩
  | .hbm, ⟨5, _⟩ => ⟨S32768x1024, .f32⟩
  | .hbm, ⟨6, _⟩ => ⟨S1024, .f32⟩
  | .hbm, ⟨7, _⟩ => ⟨S1024, .f32⟩
  | .hbm, ⟨8, _⟩ => ⟨S_, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x1024, .f32⟩
  | .hbm, ⟨14, _⟩ => ⟨S_, .f32⟩
  | .hbm, ⟨15, _⟩ => ⟨S32768, .f32⟩
  | .hbm, ⟨16, _⟩ => ⟨S32768x1, .f32⟩
  | .hbm, ⟨17, _⟩ => ⟨S_, .f32⟩
  | .hbm, ⟨18, _⟩ => ⟨S32768x1, .f32⟩
  | .hbm, ⟨19, _⟩ => ⟨S32768x1, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S_, .f32⟩
  | .hbm, ⟨32, _⟩ => ⟨S32768x1, .f32⟩
  | .hbm, ⟨33, _⟩ => ⟨S32768x1, .f32⟩
  | .hbm, ⟨34, _⟩ => ⟨S32768x1, .f32⟩
  | .hbm, ⟨35, _⟩ => ⟨S32768x1024, .f32⟩
  | .hbm, ⟨36, _⟩ => ⟨S32768x1024, .f32⟩
  | .hbm, ⟨37, _⟩ => ⟨S1x1024, .f32⟩
  | .hbm, ⟨38, _⟩ => ⟨S32768x1024, .f32⟩
  | .hbm, ⟨39, _⟩ => ⟨S32768x1024, .f32⟩
  | .hbm, ⟨40, _⟩ => ⟨S1x1024, .f32⟩
  | .hbm, ⟨41, _⟩ => ⟨S32768x1024, .f32⟩
  | .hbm, ⟨42, _⟩ => ⟨S32768x1024, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Kernel4.lean ====
abbrev S32768x1024 : Shape := ⟨2, ![32768, 1024]⟩
abbrev S1024x3088 : Shape := ⟨2, ![1024, 3088]⟩
abbrev S1024x256 : Shape := ⟨2, ![1024, 256]⟩
abbrev S_ : Shape := ⟨0, ![]⟩
abbrev S1024x2560 : Shape := ⟨2, ![1024, 2560]⟩
abbrev S1024x3072 : Shape := ⟨2, ![1024, 3072]⟩
abbrev S1024x16 : Shape := ⟨2, ![1024, 16]⟩
abbrev S1024x128 : Shape := ⟨2, ![1024, 128]⟩
abbrev S1024x4x2x32 : Shape := ⟨4, ![1024, 4, 2, 32]⟩
abbrev S1024x4x1x32 : Shape := ⟨4, ![1024, 4, 1, 32]⟩
abbrev S1024x4x32 : Shape := ⟨3, ![1024, 4, 32]⟩
abbrev S1024x3712 : Shape := ⟨2, ![1024, 3712]⟩
abbrev S1024x3840 : Shape := ⟨2, ![1024, 3840]⟩
abbrev S32768x3840 : Shape := ⟨2, ![32768, 3840]⟩
abbrev S32768x128 : Shape := ⟨2, ![32768, 128]⟩
abbrev S1024x1024 : Shape := ⟨2, ![1024, 1024]⟩
abbrev S1024x1280 : Shape := ⟨2, ![1024, 1280]⟩

abbrev nBuf : Space → Nat
  | .hbm => 40
  | .vmem => 8
  | .smem => 0
  | _ => 0

abbrev bufTy : (tb : Table) → Fin (tcTables nBuf tb) → BufTy
  | .hbm, ⟨0, _⟩ => ⟨S32768x1024, .f32⟩
  | .hbm, ⟨1, _⟩ => ⟨S1024x3088, .f32⟩
  | .hbm, ⟨2, _⟩ => ⟨S1024x256, .f32⟩
  | .hbm, ⟨3, _⟩ => ⟨S1024x256, .f32⟩
  | .hbm, ⟨4, _⟩ => ⟨S_, .f32⟩
  | .hbm, ⟨5, _⟩ => ⟨S1024x256, .f32⟩
  | .hbm, ⟨6, _⟩ => ⟨S1024x256, .f32⟩
  | .hbm, ⟨7, _⟩ => ⟨S1024x2560, .f32⟩
  | .hbm, ⟨8, _⟩ => ⟨S1024x3072, .f32⟩
  | .hbm, ⟨9, _⟩ => ⟨S1024x16, .f32⟩
  | .hbm, ⟨10, _⟩ => ⟨S_, .i32⟩
  | .hbm, ⟨11, _⟩ => ⟨S_, .f32⟩
  | .hbm, ⟨12, _⟩ => ⟨S1024x128, .f32⟩
  | .hbm, ⟨13, _⟩ => ⟨S1024x4x2x32, .f32⟩
  | .hbm, ⟨14, _⟩ => ⟨S1024x4x1x32, .f32⟩
  | .hbm, ⟨15, _⟩ => ⟨S1024x4x32, .f32⟩
  | .hbm, ⟨16, _⟩ => ⟨S1024x4x32, .f32⟩
  | .hbm, ⟨17, _⟩ => ⟨S1024x4x1x32, .f32⟩
  | .hbm, ⟨18, _⟩ => ⟨S1024x4x32, .f32⟩
  | .hbm, ⟨19, _⟩ => ⟨S1024x4x1x32, .f32⟩
  | .hbm, ⟨20, _⟩ => ⟨S1024x4x1x32, .f32⟩
  | .hbm, ⟨21, _⟩ => ⟨S1024x4x2x32, .f32⟩
  | .hbm, ⟨22, _⟩ => ⟨S1024x256, .f32⟩
  | .hbm, ⟨23, _⟩ => ⟨S1024x4x2x32, .f32⟩
  | .hbm, ⟨24, _⟩ => ⟨S1024x4x1x32, .f32⟩
  | .hbm, ⟨25, _⟩ => ⟨S1024x4x32, .f32⟩
  | .hbm, ⟨26, _⟩ => ⟨S1024x4x32, .f32⟩
  | .hbm, ⟨27, _⟩ => ⟨S1024x4x1x32, .f32⟩
  | .hbm, ⟨28, _⟩ => ⟨S1024x4x32, .f32⟩
  | .hbm, ⟨29, _⟩ => ⟨S1024x4x1x32, .f32⟩
  | .hbm, ⟨30, _⟩ => ⟨S1024x4x1x32, .f32⟩
  | .hbm, ⟨31, _⟩ => ⟨S1024x4x2x32, .f32⟩
  | .hbm, ⟨32, _⟩ => ⟨S1024x256, .f32⟩
  | .hbm, ⟨33, _⟩ => ⟨S1024x3712, .f32⟩
  | .hbm, ⟨34, _⟩ => ⟨S_, .i32⟩
  | .hbm, ⟨35, _⟩ => ⟨S_, .f32⟩
  | .hbm, ⟨36, _⟩ => ⟨S1024x3840, .f32⟩
  | .hbm, ⟨37, _⟩ => ⟨S1024x3840, .bf16⟩
  | .hbm, ⟨38, _⟩ => ⟨S32768x3840, .bf16⟩
  | .hbm, ⟨39, _⟩ => ⟨S32768x128, .f32⟩
  | .local _ .vmem, ⟨0, _⟩ => ⟨S1024x1024, .f32⟩
  | .local _ .vmem, ⟨1, _⟩ => ⟨S1024x1024, .f32⟩
  | .local _ .vmem, ⟨2, _⟩ => ⟨S1024x1280, .bf16⟩
  | .local _ .vmem, ⟨3, _⟩ => ⟨S1024x1280, .bf16⟩
  | .local _ .vmem, ⟨4, _⟩ => ⟨S1024x1280, .bf16⟩
  | .local _ .vmem, ⟨5, _⟩ => ⟨S1024x1280, .bf16⟩
  | .local _ .vmem, ⟨6, _⟩ => ⟨S1024x128, .f32⟩
  | .local _ .vmem, ⟨7, _⟩ => ⟨S1024x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_call0_v0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_c_0 : Ref sig .tc := ⟨.hbm, 34, rfl⟩
abbrev main_call1_v0 : Ref sig .tc := ⟨.hbm, 35, rfl⟩
abbrev main_v29 : Ref sig .tc := ⟨.hbm, 36, rfl⟩
abbrev main_v30 : Ref sig .tc := ⟨.hbm, 37, rfl⟩
abbrev main_v31_0 : Ref sig .tc := ⟨.hbm, 38, rfl⟩
abbrev main_v31_1 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![32, 3], ![false, false]⟩

def k0_cond1 (i : grid0.Coords) : BitVec 1 :=
  let arg1 : BitVec 32 := BitVec.ofNat 32 (i 1).val
  let c2_i32 : BitVec 32 := 2#32
  let v7 : BitVec 1 := Scalar.cmpi .eq arg1 c2_i32
  let v8 : BitVec 32 := Scalar.extui v7
  let c0_i32 : BitVec 32 := 0#32
  let v9 : BitVec 1 := Scalar.cmpi .ne v8 c0_i32
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1280 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1280 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Reference4Ideal.lean ====
abbrev S32768x1024 : Shape := ⟨2, ![32768, 1024]⟩
abbrev S1024x3088 : Shape := ⟨2, ![1024, 3088]⟩
abbrev S32768x3088 : Shape := ⟨2, ![32768, 3088]⟩
abbrev S32768x256 : Shape := ⟨2, ![32768, 256]⟩
abbrev S_ : Shape := ⟨0, ![]⟩
abbrev S32768x16 : Shape := ⟨2, ![32768, 16]⟩
abbrev S32768x128 : Shape := ⟨2, ![32768, 128]⟩
abbrev S32768x2560 : Shape := ⟨2, ![32768, 2560]⟩
abbrev S32768x4x64 : Shape := ⟨3, ![32768, 4, 64]⟩
abbrev S32768x4x32 : Shape := ⟨3, ![32768, 4, 32]⟩
abbrev S32768x3840 : Shape := ⟨2, ![32768, 3840]⟩

abbrev nBuf : Space → Nat
  | .hbm => 29
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x3088, .f32⟩
  | .hbm, ⟨2, _⟩ => ⟨S32768x3088, .f32⟩
  | .hbm, ⟨3, _⟩ => ⟨S32768x256, .f32⟩
  | .hbm, ⟨4, _⟩ => ⟨S32768x256, .f32⟩
  | .hbm, ⟨5, _⟩ => ⟨S_, .f32⟩
  | .hbm, ⟨6, _⟩ => ⟨S32768x256, .f32⟩
  | .hbm, ⟨7, _⟩ => ⟨S32768x256, .f32⟩
  | .hbm, ⟨8, _⟩ => ⟨S32768x16, .f32⟩
  | .hbm, ⟨9, _⟩ => ⟨S_, .i32⟩
  | .hbm, ⟨10, _⟩ => ⟨S_, .f32⟩
  | .hbm, ⟨11, _⟩ => ⟨S32768x128, .f32⟩
  | .hbm, ⟨12, _⟩ => ⟨S32768x2560, .f32⟩
  | .hbm, ⟨13, _⟩ => ⟨S32768x4x64, .f32⟩
  | .hbm, ⟨14, _⟩ => ⟨S32768x4x32, .f32⟩
  | .hbm, ⟨15, _⟩ => ⟨S32768x4x32, .f32⟩
  | .hbm, ⟨16, _⟩ => ⟨S32768x4x32, .f32⟩
  | .hbm, ⟨17, _⟩ => ⟨S32768x4x64, .f32⟩
  | .hbm, ⟨18, _⟩ => ⟨S32768x256, .f32⟩
  | .hbm, ⟨19, _⟩ => ⟨S32768x4x64, .f32⟩
  | .hbm, ⟨20, _⟩ => ⟨S32768x4x32, .f32⟩
  | .hbm, ⟨21, _⟩ => ⟨S32768x4x32, .f32⟩
  | .hbm, ⟨22, _⟩ => ⟨S32768x4x32, .f32⟩
  | .hbm, ⟨23, _⟩ => ⟨S32768x4x64, .f32⟩
  | .hbm, ⟨24, _⟩ => ⟨S32768x256, .f32⟩
  | .hbm, ⟨25, _⟩ => ⟨S_, .f32⟩
  | .hbm, ⟨26, _⟩ => ⟨S32768x128, .f32⟩
  | .hbm, ⟨27, _⟩ => ⟨S32768x3840, .f32⟩
  | .hbm, ⟨28, _⟩ => ⟨S32768x3840, .bf16⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Proof.Words.lean ====
/- What the kernel computes from a word of its routing table: the bounds of its loops over the passes of an expert,
   the slots those passes address, and the two side conditions its body assumes. All of it for words up to 832, the
   number of rows of a sub-block. -/
module

public import proofs.«01_k».proof.Proof.Gen.KernelIdeal
public import proofs.«01_k».proof.Proof.Gen.KernelIdeal.Skeleton

@[expose] public section

set_option maxRecDepth 16384

noncomputable section

namespace Cert.Moe

open Idealize.ShloMosaic Cert.KernelIdeal

/-- The number of passes of 256 rows that `n` rows take. -/
def npass (n : ℕ) : ℕ := (n + 255) / 256

/-- The main loop over the passes runs once a pass, and the loop that would take up a remainder never runs. -/
theorem loops_fin : ∀ n : Fin 833, (k0_t1_loop (BitVec.ofNat 32 n)).OK ∧ (k0_t1_loop (BitVec.ofNat 32 n)).trips = npass n
    ∧ (k0_t2_loop (BitVec.ofNat 32 n)).OK ∧ (k0_t2_loop (BitVec.ofNat 32 n)).trips = 0 := by
  decide +kernel

theorem loops (v : BitVec 32) (h : v.toNat ≤ 832) : (k0_t1_loop v).OK ∧ (k0_t1_loop v).trips = npass v.toNat
    ∧ (k0_t2_loop v).OK ∧ (k0_t2_loop v).trips = 0 := by
  have := loops_fin ⟨v.toNat, by omega⟩
  simpa only [BitVec.ofNat_toNat, BitVec.setWidth_eq] using this

theorem npass_le {n : ℕ} (h : n ≤ 832) : npass n ≤ 4 := by unfold npass; omega

/-- The induction variable of such a loop is the trip's number. -/
theorem iv_eq (k : ℕ) : Scf.iv 0#32 1#32 k = BitVec.ofNat 32 k := by
  unfold Scf.iv; simp

theorem slot0 : ∀ k : Fin 4, (Scalar.indexCast (Scalar.addi 0#32 (Scf.iv 0#32 1#32 k.val)) : Index).toNat = k.val := by
  decide +kernel
theorem slot4 : ∀ k : Fin 4, (Scalar.indexCast (Scalar.addi 4#32 (Scf.iv 0#32 1#32 k.val)) : Index).toNat = 4 + k.val := by
  decide +kernel

section
variable (v : BitVec 32) (h : v.toNat ≤ 832)
include h

theorem off2_eq (k : Fin (k0_t1_loop v).trips) : k0_off2 v k = ![k.val, 0, 0] := by
  have h1 := (loops v h).2.1; have h2 := npass_le h; have h3 := k.isLt
  have := slot0 ⟨k.val, by omega⟩
  unfold k0_off2; exact congrArg (fun n => ![n, 0, 0]) this
theorem off6_eq (k : Fin (k0_t3_loop v).trips) : k0_off6 v k = ![4 + k.val, 0, 0] := by
  have h1 := (loops v h).2.1; have h2 := npass_le h; have h3 : k.val < (k0_t1_loop v).trips := k.isLt
  have := slot4 ⟨k.val, by omega⟩
  unfold k0_off6; exact congrArg (fun n => ![n, 0, 0]) this

end

/-- The slots of the main loops of the first sub-block are the trips' numbers, of the second four more. -/
theorem off_same (v : BitVec 32) (k : Fin (k0_t1_loop v).trips) :
    k0_off3 v k = k0_off2 v k ∧ k0_off10 v k = k0_off2 v k ∧ k0_off11 v k = k0_off2 v k ∧ k0_off18 v k = k0_off2 v k :=
  ⟨rfl, rfl, rfl, rfl⟩
theorem off_same' (v : BitVec 32) (k : Fin (k0_t3_loop v).trips) :
    k0_off7 v k = k0_off6 v k ∧ k0_off14 v k = k0_off6 v k ∧ k0_off15 v k = k0_off6 v k ∧ k0_off20 v k = k0_off6 v k :=
  ⟨rfl, rfl, rfl, rfl⟩

theorem inb_big {n : ℕ} (h : n < 8) : ∀ a, (![n, 0, 0] : Fin 3 → ℕ) a + S1x1024x256.size a ≤ S8x1024x256.size a := by
  intro a; fin_cases a
  · show n + 1 ≤ 8; omega
  · exact Nat.le_refl 1024
  · exact Nat.le_refl 256
theorem inb_small {n : ℕ} (h : n < 8) : ∀ a, (![n, 0, 0] : Fin 3 → ℕ) a + S1x8x256.size a ≤ S8x8x256.size a := by
  intro a; fin_cases a
  · show n + 1 ≤ 8; omega
  · exact Nat.le_refl 8
  · exact Nat.le_refl 256
theorem packed_big (n : ℕ) (hinb : ∀ a, (![n, 0, 0] : Fin 3 → ℕ) a + S1x1024x256.size a ≤ S8x1024x256.size a) :
    (Rect.unit (s := S8x1024x256) ![n, 0, 0] S1x1024x256.size hinb).PackedRows (EltTy.packing .bf16) :=
  Or.inr ⟨by decide, rfl, Or.inr ⟨rfl, rfl, rfl, rfl, rfl⟩⟩

theorem chk1 (i : grid0.Coords) (v : BitVec 32) (h : v.toNat ≤ 832) : k0_chk1 i v := by
  obtain ⟨a, b, c, d⟩ := loops v h
  have hn := npass_le h
  have lt : ∀ k : Fin (k0_t1_loop v).trips, k.val < 8 := fun k => by have := k.isLt; omega
  have none : ∀ {P : Fin (k0_t2_loop v).trips → Prop}, ∀ k, P k := fun k => absurd k.isLt (by omega)
  refine ⟨fun _ => a, fun k _ => ?_, fun k _ hinb => ?_, fun k _ => ?_, fun _ => c, none, none, none, a, fun k => ?_, fun k => ?_,
    c, none, none, fun _ => a, fun k _ => ?_, fun _ => c, none⟩
  · rw [off2_eq v h]; exact inb_big (lt k)
  · revert hinb; rw [off2_eq v h]; exact packed_big _
  · rw [(off_same v k).1, off2_eq v h]; exact inb_small (lt k)
  · rw [(off_same v k).2.1, off2_eq v h]; exact inb_big (lt k)
  · rw [(off_same v k).2.2.1, off2_eq v h]; exact inb_small (lt k)
  · rw [(off_same v k).2.2.2, off2_eq v h]; exact inb_big (lt k)

theorem chk2 (i : grid0.Coords) (v : BitVec 32) (h : v.toNat ≤ 832) : k0_chk2 i v := by
  obtain ⟨a, b, c, d⟩ := loops v h
  have hn := npass_le h
  have lt : ∀ k : Fin (k0_t3_loop v).trips, 4 + k.val < 8 := fun k => by
    have : k.val < (k0_t1_loop v).trips := k.isLt
    omega
  have none : ∀ {P : Fin (k0_t2_loop v).trips → Prop}, ∀ k, P k := fun k => absurd k.isLt (by omega)
  refine ⟨fun _ => a, fun k _ => ?_, fun k _ hinb => ?_, fun k _ => ?_, fun _ => c, none, none, none, a, fun k => ?_, fun k => ?_,
    c, none, none, fun _ => a, fun k _ => ?_, fun _ => c, none⟩
  · rw [off6_eq v h]; exact inb_big (lt k)
  · revert hinb; rw [off6_eq v h]; exact packed_big _
  · rw [(off_same' v k).1, off6_eq v h]; exact inb_small (lt k)
  · rw [(off_same' v k).2.1, off6_eq v h]; exact inb_big (lt k)
  · rw [(off_same' v k).2.2.1, off6_eq v h]; exact inb_small (lt k)
  · rw [(off_same' v k).2.2.2, off6_eq v h]; exact inb_big (lt k)

end Cert.Moe

end
-- ==== Proof.Body.lean ====
/- The body of the kernel as a function of what its buffers hold. -/
module

public import proofs.«01_k».proof.Proof.Words
public import Idealize.ShloMosaic.Lib.Tactic
public import Idealize.ShloMosaic.Lib.VecWindow
public import Idealize.ShloMosaic.Lib.Pipeline.Kit
public import Idealize.ShloMosaic.Lib.Tactic.Stretches

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow

cut_chain a := k0_part27_skel at 2, 3

variable {F : FTy → Type} [FloatOps F]

local notation "𝕄" => MT nD τ sig Unit (Elt F) ℕ (UR sig nD τ) ℕ

/-- What the kernel keeps between grid points: the rows of the block (`xb`), the gathered rows of each slot (`xs`),
    each slot's partial product (`ys`), its gates (`gs`), the slot position of each row for each expert (`pos`), and
    the result block (`o`). -/
structure St (F : FTy → Type) [FloatOps F] where
  xb : Vec F S1664x1024 .bf16
  xs : Vec F S8x1024x256 .bf16
  ys : Vec F S8x1024x256 .f32
  gs : Vec F S8x8x256 .f32
  pos : Vec F S1664x128 .f32
  o : Vec F S1664x1024 .f32

/-- What the kernel reads at a grid point. -/
structure Ins (F : FTy → Type) [FloatOps F] where
  cnt : Vec F S320 .i32
  x : Vec F S1664x1024 .f32
  cmb : Vec F S1664x128 .f32
  lt : Vec F S64x64 .f32
  w1 : Vec F S1x896x1024 .bf16
  w3 : Vec F S1x896x1024 .bf16
  w2 : Vec F S1x1024x896 .bf16
  lw : Vec F S1x1024 .f32
  lb : Vec F S1x1024 .f32

/-- `f` applied once for each number below `n`. -/
def iter {α : Type} (f : ℕ → α → α) : ℕ → α → α
  | 0, a => a
  | n + 1, a => f n (iter f n a)

/-- The buffers of a grid point: each a whole one. -/
structure Bufs where
  a3 : Memref sig .tc .smem S320 .i32
  h3 : a3.IsWhole
  a4 : Memref sig .tc .vmem S1664x1024 .f32
  h4 : a4.IsWhole
  a5 : Memref sig .tc .vmem S1664x128 .f32
  h5 : a5.IsWhole
  a6 : Memref sig .tc .vmem S64x64 .f32
  h6 : a6.IsWhole
  a7 : Memref sig .tc .vmem S1x896x1024 .bf16
  h7 : a7.IsWhole
  a8 : Memref sig .tc .vmem S1x896x1024 .bf16
  h8 : a8.IsWhole
  a9 : Memref sig .tc .vmem S1x1024x896 .bf16
  h9 : a9.IsWhole
  a10 : Memref sig .tc .vmem S1x1024 .f32
  h10 : a10.IsWhole
  a11 : Memref sig .tc .vmem S1x1024 .f32
  h11 : a11.IsWhole
  a12 : Memref sig .tc .vmem S1664x1024 .f32
  h12 : a12.IsWhole
  a13 : Memref sig .tc .vmem S1664x1024 .bf16
  h13 : a13.IsWhole
  a14 : Memref sig .tc .vmem S8x1024x256 .bf16
  h14 : a14.IsWhole
  a15 : Memref sig .tc .vmem S8x1024x256 .f32
  h15 : a15.IsWhole
  a16 : Memref sig .tc .vmem S8x8x256 .f32
  h16 : a16.IsWhole
  a17 : Memref sig .tc .vmem S1664x128 .f32
  h17 : a17.IsWhole

section
variable (c : Dev nD) (B : Bufs)

/-- The buffers read. -/
def RIn (q : PosShare TreeShare) (I : Ins F) : sProp 𝕄 :=
  iprop(owns c B.a3 q I.cnt ∗ owns c B.a4 fullShare I.x ∗ owns c B.a5 fullShare I.cmb ∗ owns c B.a6 fullShare I.lt ∗ owns c B.a7 fullShare I.w1 ∗ owns c B.a8 fullShare I.w3 ∗ owns c B.a9 fullShare I.w2 ∗ owns c B.a10 fullShare I.lw ∗ owns c B.a11 fullShare I.lb)

/-- The buffers written. -/
def RSt (σ : St F) : sProp 𝕄 :=
  iprop(owns c B.a12 fullShare σ.o ∗ owns c B.a13 fullShare σ.xb ∗ owns c B.a14 fullShare σ.xs ∗ owns c B.a15 fullShare σ.ys ∗ owns c B.a16 fullShare σ.gs ∗ owns c B.a17 fullShare σ.pos)

/-- All the buffers. -/
def RAll (q : PosShare TreeShare) (I : Ins F) (σ : St F) : sProp 𝕄 := iprop(RIn c B q I ∗ RSt c B σ)

/-- The buffers at the contents behind them. -/
def Pts (q : PosShare TreeShare) (f3 : B.a3.view.ty.Contents (Elt F)) (f4 : B.a4.view.ty.Contents (Elt F)) (f5 : B.a5.view.ty.Contents (Elt F)) (f6 : B.a6.view.ty.Contents (Elt F)) (f7 : B.a7.view.ty.Contents (Elt F)) (f8 : B.a8.view.ty.Contents (Elt F)) (f9 : B.a9.view.ty.Contents (Elt F)) (f10 : B.a10.view.ty.Contents (Elt F)) (f11 : B.a11.view.ty.Contents (Elt F)) (f12 : B.a12.view.ty.Contents (Elt F)) (f13 : B.a13.view.ty.Contents (Elt F)) (f14 : B.a14.view.ty.Contents (Elt F)) (f15 : B.a15.view.ty.Contents (Elt F)) (f16 : B.a16.view.ty.Contents (Elt F)) (f17 : B.a17.view.ty.Contents (Elt F)) : sProp 𝕄 :=
  iprop((B.a3.view.loc (c : Thread nD τ) ↦[B.a3.view.set]{q} f3) ∗ (B.a4.view.loc (c : Thread nD τ) ↦[B.a4.view.set]{fullShare} f4) ∗ (B.a5.view.loc (c : Thread nD τ) ↦[B.a5.view.set]{fullShare} f5) ∗ (B.a6.view.loc (c : Thread nD τ) ↦[B.a6.view.set]{fullShare} f6) ∗ (B.a7.view.loc (c : Thread nD τ) ↦[B.a7.view.set]{fullShare} f7) ∗ (B.a8.view.loc (c : Thread nD τ) ↦[B.a8.view.set]{fullShare} f8) ∗ (B.a9.view.loc (c : Thread nD τ) ↦[B.a9.view.set]{fullShare} f9) ∗ (B.a10.view.loc (c : Thread nD τ) ↦[B.a10.view.set]{fullShare} f10) ∗ (B.a11.view.loc (c : Thread nD τ) ↦[B.a11.view.set]{fullShare} f11) ∗ (B.a12.view.loc (c : Thread nD τ) ↦[B.a12.view.set]{fullShare} f12) ∗ (B.a13.view.loc (c : Thread nD τ) ↦[B.a13.view.set]{fullShare} f13) ∗ (B.a14.view.loc (c : Thread nD τ) ↦[B.a14.view.set]{fullShare} f14) ∗ (B.a15.view.loc (c : Thread nD τ) ↦[B.a15.view.set]{fullShare} f15) ∗ (B.a16.view.loc (c : Thread nD τ) ↦[B.a16.view.set]{fullShare} f16) ∗ (B.a17.view.loc (c : Thread nD τ) ↦[B.a17.view.set]{fullShare} f17))

theorem opened (q : PosShare TreeShare) (I : Ins F) (σ : St F) :
    RAll c B q I σ ⊢ iprop(∃ f3 f4 f5 f6 f7 f8 f9 f10 f11 f12 f13 f14 f15 f16 f17, ⌜B.a3.view.read (Elt F) f3 = I.cnt ∧ B.a4.view.read (Elt F) f4 = I.x ∧ B.a5.view.read (Elt F) f5 = I.cmb ∧ B.a6.view.read (Elt F) f6 = I.lt ∧ B.a7.view.read (Elt F) f7 = I.w1 ∧ B.a8.view.read (Elt F) f8 = I.w3 ∧ B.a9.view.read (Elt F) f9 = I.w2 ∧ B.a10.view.read (Elt F) f10 = I.lw ∧ B.a11.view.read (Elt F) f11 = I.lb ∧ B.a12.view.read (Elt F) f12 = σ.o ∧ B.a13.view.read (Elt F) f13 = σ.xb ∧ B.a14.view.read (Elt F) f14 = σ.xs ∧ B.a15.view.read (Elt F) f15 = σ.ys ∧ B.a16.view.read (Elt F) f16 = σ.gs ∧ B.a17.view.read (Elt F) f17 = σ.pos⌝ ∗ Pts c B q f3 f4 f5 f6 f7 f8 f9 f10 f11 f12 f13 f14 f15 f16 f17) := by
  unfold RAll RIn RSt Pts owns
  iintro ⟨⟨⟨%f3, %h3, H3⟩, ⟨%f4, %h4, H4⟩, ⟨%f5, %h5, H5⟩, ⟨%f6, %h6, H6⟩, ⟨%f7, %h7, H7⟩, ⟨%f8, %h8, H8⟩, ⟨%f9, %h9, H9⟩, ⟨%f10, %h10, H10⟩, ⟨%f11, %h11, H11⟩⟩, ⟨%f12, %h12, H12⟩, ⟨%f13, %h13, H13⟩, ⟨%f14, %h14, H14⟩, ⟨%f15, %h15, H15⟩, ⟨%f16, %h16, H16⟩, ⟨%f17, %h17, H17⟩⟩
  iexists f3, f4, f5, f6, f7, f8, f9, f10, f11, f12, f13, f14, f15, f16, f17
  isplitr
  · ipureintro
    exact ⟨h3, h4, h5, h6, h7, h8, h9, h10, h11, h12, h13, h14, h15, h16, h17⟩
  · iframe H3 H4 H5 H6 H7 H8 H9 H10 H11 H12 H13 H14 H15 H16 H17

theorem closed (q : PosShare TreeShare) (I : Ins F) {o xb xs ys gs pos} (f3 : B.a3.view.ty.Contents (Elt F)) (f4 : B.a4.view.ty.Contents (Elt F)) (f5 : B.a5.view.ty.Contents (Elt F)) (f6 : B.a6.view.ty.Contents (Elt F)) (f7 : B.a7.view.ty.Contents (Elt F)) (f8 : B.a8.view.ty.Contents (Elt F)) (f9 : B.a9.view.ty.Contents (Elt F)) (f10 : B.a10.view.ty.Contents (Elt F)) (f11 : B.a11.view.ty.Contents (Elt F)) (f12 : B.a12.view.ty.Contents (Elt F)) (f13 : B.a13.view.ty.Contents (Elt F)) (f14 : B.a14.view.ty.Contents (Elt F)) (f15 : B.a15.view.ty.Contents (Elt F)) (f16 : B.a16.view.ty.Contents (Elt F)) (f17 : B.a17.view.ty.Contents (Elt F))
    (h3 : B.a3.view.read (Elt F) f3 = I.cnt) (h4 : B.a4.view.read (Elt F) f4 = I.x) (h5 : B.a5.view.read (Elt F) f5 = I.cmb) (h6 : B.a6.view.read (Elt F) f6 = I.lt) (h7 : B.a7.view.read (Elt F) f7 = I.w1) (h8 : B.a8.view.read (Elt F) f8 = I.w3) (h9 : B.a9.view.read (Elt F) f9 = I.w2) (h10 : B.a10.view.read (Elt F) f10 = I.lw) (h11 : B.a11.view.read (Elt F) f11 = I.lb) (h12 : B.a12.view.read (Elt F) f12 = o) (h13 : B.a13.view.read (Elt F) f13 = xb) (h14 : B.a14.view.read (Elt F) f14 = xs) (h15 : B.a15.view.read (Elt F) f15 = ys) (h16 : B.a16.view.read (Elt F) f16 = gs) (h17 : B.a17.view.read (Elt F) f17 = pos) :
    Pts c B q f3 f4 f5 f6 f7 f8 f9 f10 f11 f12 f13 f14 f15 f16 f17 ⊢ RAll c B q I ⟨xb, xs, ys, gs, pos, o⟩ := by
  unfold RAll RIn RSt Pts owns
  iintro ⟨H3, H4, H5, H6, H7, H8, H9, H10, H11, H12, H13, H14, H15, H16, H17⟩
  isplitl [H3 H4 H5 H6 H7 H8 H9 H10 H11]
  · isplitl [H3]
    · iexists f3; isplitr
      · ipureintro; exact h3
      · iexact H3
    isplitl [H4]
    · iexists f4; isplitr
      · ipureintro; exact h4
      · iexact H4
    isplitl [H5]
    · iexists f5; isplitr
      · ipureintro; exact h5
      · iexact H5
    isplitl [H6]
    · iexists f6; isplitr
      · ipureintro; exact h6
      · iexact H6
    isplitl [H7]
    · iexists f7; isplitr
      · ipureintro; exact h7
      · iexact H7
    isplitl [H8]
    · iexists f8; isplitr
      · ipureintro; exact h8
      · iexact H8
    isplitl [H9]
    · iexists f9; isplitr
      · ipureintro; exact h9
      · iexact H9
    isplitl [H10]
    · iexists f10; isplitr
      · ipureintro; exact h10
      · iexact H10
    iexists f11; isplitr
    · ipureintro; exact h11
    · iexact H11
  · isplitl [H12]
    · iexists f12; isplitr
      · ipureintro; exact h12
      · iexact H12
    isplitl [H13]
    · iexists f13; isplitr
      · ipureintro; exact h13
      · iexact H13
    isplitl [H14]
    · iexists f14; isplitr
      · ipureintro; exact h14
      · iexact H14
    isplitl [H15]
    · iexists f15; isplitr
      · ipureintro; exact h15
      · iexact H15
    isplitl [H16]
    · iexists f16; isplitr
      · ipureintro; exact h16
      · iexact H16
    iexists f17; isplitr
    · ipureintro; exact h17
    · iexact H17

end

end Cert.Moe

end
-- ==== Proof.Steps.lean ====
/- One trip of each of the kernel's loops, as a function of what its buffers hold. -/
module

public import proofs.«01_k».proof.Proof.Body

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄" => MT nD τ sig Unit (Elt F) ℕ (UR sig nD τ) ℕ

/-- The column numbers the kernel compares an expert's number with. -/
def lanes : IVec S832x128 32 := iota .tc S832x128 32 [1] iota_S832x128_d1_w32

variable (c : Dev nD) (B : Bufs) (i : grid0.Coords)

/-- Slot `k` of the first half takes the rows of the half that expert `e` is given at positions `256 k` to `256 k + 255`: the rows
    themselves, their gates, and a zero sum. -/
def pick0 (e v5 : BitVec 32) (w : k0_chk1 i v5) (h2 : k0_cond2 i = 1#1) (I : Ins F) (k : ℕ) (σ : St F) : St F :=
  if h : k < (k0_t1_loop v5).trips then
    { σ with
      xs := put σ.xs (k0_off2 v5 ⟨k, h⟩) S1x1024x256.size (k0_pay113 e v5 lanes 0#32 1#32 ⟨k, h⟩
        (window σ.pos ![0, 0] S832x128.size inb_S1664x128_S832x128_0_0)
        (window σ.xb ![0, 0] S832x1024.size inb_S1664x1024_S832x1024_0_0))
      ys := put σ.ys (k0_off2 v5 ⟨k, h⟩) S1x1024x256.size (k0_pay130 (Scalar.ofBits .f32 0x00000000#32))
      gs := put σ.gs (k0_off3 v5 ⟨k, h⟩) S1x8x256.size (k0_pay114 e v5 lanes
        (k0_pay129 e (window I.cmb ![0, 0] S832x128.size inb_S1664x128_S832x128_0_0)) 0#32 1#32 ⟨k, h⟩
        (window σ.pos ![0, 0] S832x128.size inb_S1664x128_S832x128_0_0)) }
  else σ

theorem pick0_spec (𝒱 : Variants) (bd : Option 𝒱.V) (E : Set ℕ) (q : PosShare TreeShare) (I : Ins F) (σ : St F)
    (arg0 arg1 arg2 : BitVec 32) (v5 : BitVec 32) (k0_hw1 : k0_chk1 i v5) (v23 v29 : BitVec 32) (k0_hw2 : k0_chk2 i v29)
    (v30 c256 v31 v36 : BitVec 32) (k0_h2 : k0_cond2 i = 1#1) (k : Fin (k0_t1_loop v5).trips) (acc : Unit) :
    RAll c B q I σ ⊢ wp frame (wpE (defs₀ (F := F)) 𝒱 (c : Thread nD τ) bd) E
        (k0_t1_body i B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17
          arg0 arg1 arg2 v5 k0_hw1 v23 v29 k0_hw2 v30 c256 v31 v36 lanes k0_h2 (window I.cmb ![0, 0] S832x128.size inb_S1664x128_S832x128_0_0) k acc)
        fun _ => RAll c B q I (pick0 i arg1 v5 k0_hw1 k0_h2 I k.val σ) := by
  refine (opened c B q I σ).trans ?_
  unfold Pts
  iintro ⟨%f3, %f4, %f5, %f6, %f7, %f8, %f9, %f10, %f11, %f12, %f13, %f14, %f15, %f16, %f17, %hs, H3, H4, H5, H6, H7, H8, H9, H10, H11, H12, H13, H14, H15, H16, H17⟩
  obtain ⟨h3, h4, h5, h6, h7, h8, h9, h10, h11, h12, h13, h14, h15, h16, h17⟩ := hs
  unfold k0_t1_body
  sl_exec
  sl_step
  unfold pick0
  rw [dif_pos k.isLt]
  iapply (closed c B q I f3 f4 f5 f6 f7 f8 f9 f10 f11 f12 f13 _ _ _ f17 h3 h4 h5 h6 h7 h8 h9 h10 h11 h12 h13 ?h14 ?h15 ?h16 h17)
  rotate_left 3
  · unfold Pts
    iframe H3 H4 H5 H6 H7 H8 H9 H10 H11 H12 H13 H14 H15 H16 H17
  case h14 =>
    rw [View.read_writes_cons_put _ _ _ _ _ rfl, View.readAt_unit _ _ _ rfl, View.readAt_unit _ _ _ rfl, h13, h17]
    exact congrArg (fun x => put x _ _ _) h14
  case h15 =>
    rw [View.read_writes_cons_put _ _ _ _ _ rfl]
    exact congrArg (fun x => put x _ _ _) h15
  case h16 =>
    rw [View.read_writes_cons_put _ _ _ _ _ rfl, View.readAt_unit _ _ _ rfl, h17]
    exact congrArg (fun x => put x _ _ _) h16

/-- Slot `k` of the second half takes the rows of the half that expert `e` is given at positions `256 k` to `256 k + 255`: the rows
    themselves, their gates, and a zero sum. -/
def pick1 (e v29 : BitVec 32) (w : k0_chk2 i v29) (h2 : k0_cond2 i = 1#1) (I : Ins F) (k : ℕ) (σ : St F) : St F :=
  if h : k < (k0_t3_loop v29).trips then
    { σ with
      xs := put σ.xs (k0_off6 v29 ⟨k, h⟩) S1x1024x256.size (k0_pay119 e v29 lanes 0#32 1#32 ⟨k, h⟩
        (window σ.pos ![832, 0] S832x128.size inb_S1664x128_S832x128_832_0)
        (window σ.xb ![832, 0] S832x1024.size inb_S1664x1024_S832x1024_832_0))
      ys := put σ.ys (k0_off6 v29 ⟨k, h⟩) S1x1024x256.size (k0_pay133 (Scalar.ofBits .f32 0x00000000#32))
      gs := put σ.gs (k0_off7 v29 ⟨k, h⟩) S1x8x256.size (k0_pay120 e v29 lanes
        (k0_pay132 e (window I.cmb ![832, 0] S832x128.size inb_S1664x128_S832x128_832_0)) 0#32 1#32 ⟨k, h⟩
        (window σ.pos ![832, 0] S832x128.size inb_S1664x128_S832x128_832_0)) }
  else σ

theorem pick1_spec (𝒱 : Variants) (bd : Option 𝒱.V) (E : Set ℕ) (q : PosShare TreeShare) (I : Ins F) (σ : St F)
    (arg0 arg1 arg2 : BitVec 32) (v5 : BitVec 32) (k0_hw1 : k0_chk1 i v5) (v23 v29 : BitVec 32) (k0_hw2 : k0_chk2 i v29)
    (v30 c256 v31 v36 : BitVec 32) (k0_h2 : k0_cond2 i = 1#1) (k : Fin (k0_t3_loop v29).trips) (acc : Unit) :
    RAll c B q I σ ⊢ wp frame (wpE (defs₀ (F := F)) 𝒱 (c : Thread nD τ) bd) E
        (k0_t3_body i B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17
          arg0 arg1 arg2 v5 k0_hw1 v23 v29 k0_hw2 v30 c256 v31 v36 lanes k0_h2 (window I.cmb ![832, 0] S832x128.size inb_S1664x128_S832x128_832_0) k acc)
        fun _ => RAll c B q I (pick1 i arg1 v29 k0_hw2 k0_h2 I k.val σ) := by
  refine (opened c B q I σ).trans ?_
  unfold Pts
  iintro ⟨%f3, %f4, %f5, %f6, %f7, %f8, %f9, %f10, %f11, %f12, %f13, %f14, %f15, %f16, %f17, %hs, H3, H4, H5, H6, H7, H8, H9, H10, H11, H12, H13, H14, H15, H16, H17⟩
  obtain ⟨h3, h4, h5, h6, h7, h8, h9, h10, h11, h12, h13, h14, h15, h16, h17⟩ := hs
  unfold k0_t3_body
  sl_exec
  sl_step
  unfold pick1
  rw [dif_pos k.isLt]
  iapply (closed c B q I f3 f4 f5 f6 f7 f8 f9 f10 f11 f12 f13 _ _ _ f17 h3 h4 h5 h6 h7 h8 h9 h10 h11 h12 h13 ?h14 ?h15 ?h16 h17)
  rotate_left 3
  · unfold Pts
    iframe H3 H4 H5 H6 H7 H8 H9 H10 H11 H12 H13 H14 H15 H16 H17
  case h14 =>
    rw [View.read_writes_cons_put _ _ _ _ _ rfl, View.readAt_unit _ _ _ rfl, View.readAt_unit _ _ _ rfl, h13, h17]
    exact congrArg (fun x => put x _ _ _) h14
  case h15 =>
    rw [View.read_writes_cons_put _ _ _ _ _ rfl]
    exact congrArg (fun x => put x _ _ _) h15
  case h16 =>
    rw [View.read_writes_cons_put _ _ _ _ _ rfl, View.readAt_unit _ _ _ rfl, h17]
    exact congrArg (fun x => put x _ _ _) h16

/-- Slot `k` of the first half adds this tile's part of the expert's product to its sum. -/
def prod0 (v5 : BitVec 32) (w : k0_chk1 i v5) (I : Ins F) (k : ℕ) (σ : St F) : St F :=
  if h : k < (k0_t5_loop v5).trips then
    { σ with ys := put σ.ys (k0_off10 v5 ⟨k, h⟩) S1x1024x256.size (k0_pay135
        (k0_pay124 (window σ.xs (k0_off10 v5 ⟨k, h⟩) S1x1024x256.size (k0_off10_inb i v5 w ⟨k, h⟩)) I.w1 I.w3
          (window σ.gs (k0_off11 v5 ⟨k, h⟩) S1x8x256.size (k0_off11_inb i v5 w ⟨k, h⟩))
          (window σ.ys (k0_off10 v5 ⟨k, h⟩) S1x1024x256.size (k0_off10_inb i v5 w ⟨k, h⟩)) I.w2)) }
  else σ

theorem prod0_spec (𝒱 : Variants) (bd : Option 𝒱.V) (E : Set ℕ) (q : PosShare TreeShare) (I : Ins F) (σ : St F)
    (arg0 arg1 arg2 : BitVec 32) (v5 : BitVec 32) (k0_hw1 : k0_chk1 i v5) (v23 v29 : BitVec 32) (k0_hw2 : k0_chk2 i v29)
    (v30 c256 v31 v36 : BitVec 32) (k : Fin (k0_t5_loop v5).trips) (acc : Unit) :
    RAll c B q I σ ⊢ wp frame (wpE (defs₀ (F := F)) 𝒱 (c : Thread nD τ) bd) E
        (k0_t5_body i B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17
          arg0 arg1 arg2 v5 k0_hw1 v23 v29 k0_hw2 v30 c256 v31 v36 k acc)
        fun _ => RAll c B q I (prod0 i v5 k0_hw1 I k.val σ) := by
  refine (opened c B q I σ).trans ?_
  unfold Pts
  iintro ⟨%f3, %f4, %f5, %f6, %f7, %f8, %f9, %f10, %f11, %f12, %f13, %f14, %f15, %f16, %f17, %hs, H3, H4, H5, H6, H7, H8, H9, H10, H11, H12, H13, H14, H15, H16, H17⟩
  obtain ⟨h3, h4, h5, h6, h7, h8, h9, h10, h11, h12, h13, h14, h15, h16, h17⟩ := hs
  unfold k0_t5_body
  sl_exec
  sl_step
  unfold prod0
  rw [dif_pos k.isLt]
  iapply (closed c B q I f3 f4 f5 f6 f7 f8 f9 f10 f11 f12 f13 f14 _ f16 f17 h3 h4 h5 h6 h7 h8 h9 h10 h11 h12 h13 h14 ?h15 h16 h17)
  rotate_left 1
  · unfold Pts
    iframe H3 H4 H5 H6 H7 H8 H9 H10 H11 H12 H13 H14 H15 H16 H17
  · unfold prod0_spec.sl.r
    rw [View.read_writes_cons_put _ _ _ _ _ rfl, View.readAt_full, View.readAt_full, View.readAt_full, h7, h8, h9,
      View.readAt_unit _ _ _ rfl, View.readAt_unit _ _ _ rfl, View.readAt_unit _ _ _ rfl, h14, h15, h16]
    exact congrArg (fun x => put x _ _ _) h15

/-- Slot `k` of the second half adds this tile's part of the expert's product to its sum. -/
def prod1 (v29 : BitVec 32) (w : k0_chk2 i v29) (I : Ins F) (k : ℕ) (σ : St F) : St F :=
  if h : k < (k0_t7_loop v29).trips then
    { σ with ys := put σ.ys (k0_off14 v29 ⟨k, h⟩) S1x1024x256.size (k0_pay137
        (k0_pay126 (window σ.xs (k0_off14 v29 ⟨k, h⟩) S1x1024x256.size (k0_off14_inb i v29 w ⟨k, h⟩)) I.w1 I.w3
          (window σ.gs (k0_off15 v29 ⟨k, h⟩) S1x8x256.size (k0_off15_inb i v29 w ⟨k, h⟩))
          (window σ.ys (k0_off14 v29 ⟨k, h⟩) S1x1024x256.size (k0_off14_inb i v29 w ⟨k, h⟩)) I.w2)) }
  else σ

theorem prod1_spec (𝒱 : Variants) (bd : Option 𝒱.V) (E : Set ℕ) (q : PosShare TreeShare) (I : Ins F) (σ : St F)
    (arg0 arg1 arg2 : BitVec 32) (v5 : BitVec 32) (k0_hw1 : k0_chk1 i v5) (v23 v29 : BitVec 32) (k0_hw2 : k0_chk2 i v29)
    (v30 c256 v31 v36 : BitVec 32) (k : Fin (k0_t7_loop v29).trips) (acc : Unit) :
    RAll c B q I σ ⊢ wp frame (wpE (defs₀ (F := F)) 𝒱 (c : Thread nD τ) bd) E
        (k0_t7_body i B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17
          arg0 arg1 arg2 v5 k0_hw1 v23 v29 k0_hw2 v30 c256 v31 v36 k acc)
        fun _ => RAll c B q I (prod1 i v29 k0_hw2 I k.val σ) := by
  refine (opened c B q I σ).trans ?_
  unfold Pts
  iintro ⟨%f3, %f4, %f5, %f6, %f7, %f8, %f9, %f10, %f11, %f12, %f13, %f14, %f15, %f16, %f17, %hs, H3, H4, H5, H6, H7, H8, H9, H10, H11, H12, H13, H14, H15, H16, H17⟩
  obtain ⟨h3, h4, h5, h6, h7, h8, h9, h10, h11, h12, h13, h14, h15, h16, h17⟩ := hs
  unfold k0_t7_body
  sl_exec
  sl_step
  unfold prod1
  rw [dif_pos k.isLt]
  iapply (closed c B q I f3 f4 f5 f6 f7 f8 f9 f10 f11 f12 f13 f14 _ f16 f17 h3 h4 h5 h6 h7 h8 h9 h10 h11 h12 h13 h14 ?h15 h16 h17)
  rotate_left 1
  · unfold Pts
    iframe H3 H4 H5 H6 H7 H8 H9 H10 H11 H12 H13 H14 H15 H16 H17
  · unfold prod1_spec.sl.r
    rw [View.read_writes_cons_put _ _ _ _ _ rfl, View.readAt_full, View.readAt_full, View.readAt_full, h7, h8, h9,
      View.readAt_unit _ _ _ rfl, View.readAt_unit _ _ _ rfl, View.readAt_unit _ _ _ rfl, h14, h15, h16]
    exact congrArg (fun x => put x _ _ _) h15

/-- Slot `k` of the first half gives its sums back to the rows they belong to. -/
def back0 (e v5 : BitVec 32) (w : k0_chk1 i v5) (h3 : k0_cond3 i = 1#1) (k : ℕ) (σ : St F) : St F :=
  if h : k < (k0_t9_loop v5).trips then
    { σ with o := put σ.o ![0, 0] S832x1024.size (k0_pay1 e v5 lanes ⟨k, h⟩
        (window σ.pos ![0, 0] S832x128.size inb_S1664x128_S832x128_0_0)
        (window σ.o ![0, 0] S832x1024.size inb_S1664x1024_S832x1024_0_0)
        (window σ.ys (k0_off18 v5 ⟨k, h⟩) S1x1024x256.size (k0_off18_inb i v5 w ⟨k, h⟩ h3))) }
  else σ

theorem back0_spec (𝒱 : Variants) (bd : Option 𝒱.V) (E : Set ℕ) (q : PosShare TreeShare) (I : Ins F) (σ : St F)
    (arg1 : BitVec 32) (v5 : BitVec 32) (k0_hw : k0_chk1 i v5)
    (k0_h3 : k0_cond3 i = 1#1) (k : Fin (k0_t9_loop v5).trips) (acc : Unit) :
    RAll c B q I σ ⊢ wp frame (wpE (defs₀ (F := F)) 𝒱 (c : Thread nD τ) bd) E
        (k0_t9_body i B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17
          arg1 v5 k0_hw lanes k0_h3 k acc)
        fun _ => RAll c B q I (back0 i arg1 v5 k0_hw k0_h3 k.val σ) := by
  refine (opened c B q I σ).trans ?_
  unfold Pts
  iintro ⟨%f3, %f4, %f5, %f6, %f7, %f8, %f9, %f10, %f11, %f12, %f13, %f14, %f15, %f16, %f17, %hs, H3, H4, H5, H6, H7, H8, H9, H10, H11, H12, H13, H14, H15, H16, H17⟩
  obtain ⟨h3, h4, h5, h6, h7, h8, h9, h10, h11, h12, h13, h14, h15, h16, h17⟩ := hs
  unfold k0_t9_body
  sl_exec
  sl_step
  unfold back0
  rw [dif_pos k.isLt]
  iapply (closed c B q I f3 f4 f5 f6 f7 f8 f9 f10 f11 _ f13 f14 f15 f16 f17 h3 h4 h5 h6 h7 h8 h9 h10 h11 ?h12 h13 h14 h15 h16 h17)
  rotate_left 1
  · unfold Pts
    iframe H3 H4 H5 H6 H7 H8 H9 H10 H11 H12 H13 H14 H15 H16 H17
  · rw [View.read_writes_cons_put _ _ _ _ _ rfl, View.readAt_unit _ _ _ rfl, View.readAt_unit _ _ _ rfl,
      View.readAt_unit _ _ _ rfl, h12, h15, h17]
    exact congrArg (fun x => put x _ _ _) h12

/-- Slot `k` of the second half gives its sums back to the rows they belong to. -/
def back1 (e v29 : BitVec 32) (w : k0_chk2 i v29) (h3 : k0_cond3 i = 1#1) (k : ℕ) (σ : St F) : St F :=
  if h : k < (k0_t11_loop v29).trips then
    { σ with o := put σ.o ![832, 0] S832x1024.size (k0_pay3 e v29 lanes ⟨k, h⟩
        (window σ.pos ![832, 0] S832x128.size inb_S1664x128_S832x128_832_0)
        (window σ.o ![832, 0] S832x1024.size inb_S1664x1024_S832x1024_832_0)
        (window σ.ys (k0_off20 v29 ⟨k, h⟩) S1x1024x256.size (k0_off20_inb i v29 w ⟨k, h⟩ h3))) }
  else σ

theorem back1_spec (𝒱 : Variants) (bd : Option 𝒱.V) (E : Set ℕ) (q : PosShare TreeShare) (I : Ins F) (σ : St F)
    (arg1 : BitVec 32) (v29 : BitVec 32) (k0_hw : k0_chk2 i v29)
    (k0_h3 : k0_cond3 i = 1#1) (k : Fin (k0_t11_loop v29).trips) (acc : Unit) :
    RAll c B q I σ ⊢ wp frame (wpE (defs₀ (F := F)) 𝒱 (c : Thread nD τ) bd) E
        (k0_t11_body i B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17
          arg1 v29 k0_hw lanes k0_h3 k acc)
        fun _ => RAll c B q I (back1 i arg1 v29 k0_hw k0_h3 k.val σ) := by
  refine (opened c B q I σ).trans ?_
  unfold Pts
  iintro ⟨%f3, %f4, %f5, %f6, %f7, %f8, %f9, %f10, %f11, %f12, %f13, %f14, %f15, %f16, %f17, %hs, H3, H4, H5, H6, H7, H8, H9, H10, H11, H12, H13, H14, H15, H16, H17⟩
  obtain ⟨h3, h4, h5, h6, h7, h8, h9, h10, h11, h12, h13, h14, h15, h16, h17⟩ := hs
  unfold k0_t11_body
  sl_exec
  sl_step
  unfold back1
  rw [dif_pos k.isLt]
  iapply (closed c B q I f3 f4 f5 f6 f7 f8 f9 f10 f11 _ f13 f14 f15 f16 f17 h3 h4 h5 h6 h7 h8 h9 h10 h11 ?h12 h13 h14 h15 h16 h17)
  rotate_left 1
  · unfold Pts
    iframe H3 H4 H5 H6 H7 H8 H9 H10 H11 H12 H13 H14 H15 H16 H17
  · rw [View.read_writes_cons_put _ _ _ _ _ rfl, View.readAt_unit _ _ _ rfl, View.readAt_unit _ _ _ rfl,
      View.readAt_unit _ _ _ rfl, h12, h15, h17]
    exact congrArg (fun x => put x _ _ _) h12

end Cert.Moe

end
-- ==== Proof.Init.lean ====
/- The first point of a block of rows: the rows are stored, and each row is given its place among the rows of its half that an
   expert is given. -/
module

public import proofs.«01_k».proof.Proof.Body

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄" => MT nD τ sig Unit (Elt F) ℕ (UR sig nD τ) ℕ

theorem slices13 : ∀ n : Fin 13, S832x1.Slices ![64 * n.val, 0] S64x1 := by decide
theorem inb26 : ∀ (s : Fin 2) (n : Fin 13), ∀ a, (![832 * s.val + 64 * n.val, 0] : Fin 2 → ℕ) a + S64x128.size a ≤ S1664x128.size a := by decide

/-- One where a row of chunk `n` is a row of the array and the expert's gate on it is positive, zero elsewhere. -/
def given (m : IVec S832x1 1) (n : Fin 13) (v : Vec F S64x128 .f32) : FVec F S64x128 .f32 :=
  select (andi (broadcastTo S64x128 (extractStridedSlice S64x1 ![64 * n.val, 0] m (slices13 n)) broadcasts_S64x1_S64x128)
      (cmpf .ogt (shapeCast S64x128 v shapeCasts_S64x128_S64x128) (broadcast S64x128 (Scalar.ofBits .f32 0x00000000#32))))
    (broadcast S64x128 (Scalar.ofBits .f32 0x3F800000#32)) (broadcast S64x128 (Scalar.ofBits .f32 0x00000000#32))

/-- How many rows of the half up to each row of chunk `n` an expert is given. -/
def upto (m : IVec S832x1 1) (cmb : Vec F S1664x128 .f32) (lt : Vec F S64x64 .f32) (s : Fin 2) : (n : ℕ) → n < 13 → FVec F S64x128 .f32
  | 0, h => addf (matmul dot_S64x64_S64x128_S64x128_1_0_0_1_n_n none lt
        (given m ⟨0, h⟩ (window cmb ![832 * s.val + 64 * 0, 0] S64x128.size (inb26 s ⟨0, h⟩))) (constant S64x128 .f32 0x00000000#32))
      (broadcastTo S64x128 (broadcast S1x128 (Scalar.ofBits .f32 0x00000000#32)) broadcasts_S1x128_S64x128)
  | n + 1, h => addf (matmul dot_S64x64_S64x128_S64x128_1_0_0_1_n_n none lt
        (given m ⟨n + 1, h⟩ (window cmb ![832 * s.val + 64 * (n + 1), 0] S64x128.size (inb26 s ⟨n + 1, h⟩))) (constant S64x128 .f32 0x00000000#32))
      (broadcastTo S64x128 (extractStridedSlice S1x128 ![63, 0] (upto m cmb lt s n (Nat.lt_of_succ_lt h)) slices_S64x128_o63_0_S1x128)
        broadcasts_S1x128_S64x128)

/-- The place of each row of chunk `n` among the rows of its half that an expert is given, minus one where it is not given it. -/
def place (m : IVec S832x1 1) (cmb : Vec F S1664x128 .f32) (lt : Vec F S64x64 .f32) (s : Fin 2) (n : Fin 13) : FVec F S64x128 .f32 :=
  shapeCast S64x128 (select (cmpf .ogt (given m n (window cmb ![832 * s.val + 64 * n.val, 0] S64x128.size (inb26 s n)))
      (broadcast S64x128 (Scalar.ofBits .f32 0x00000000#32)))
    (subf (upto m cmb lt s n.val n.isLt) (broadcast S64x128 (Scalar.ofBits .f32 0x3F800000#32)))
    (broadcast S64x128 (Scalar.ofBits .f32 0xBF800000#32))) shapeCasts_S64x128_S64x128

/-- Which rows of half `s` of the block are rows of the array. -/
def inside (b : BitVec 32) : Fin 2 → IVec S832x1 1
  | 0 => k0_pay7 b
  | 1 => k0_pay57 b

/-- The places of all the rows of the block. -/
def places (b : BitVec 32) (cmb : Vec F S1664x128 .f32) (lt : Vec F S64x64 .f32) : Vec F S1664x128 .f32 := fun y =>
  place (inside b ⟨(y 0).val / 832 % 2, Nat.mod_lt _ (by decide)⟩) cmb lt ⟨(y 0).val / 832 % 2, Nat.mod_lt _ (by decide)⟩
    ⟨(y 0).val % 832 / 64 % 13, Nat.mod_lt _ (by decide)⟩ (Fin.cons ⟨(y 0).val % 64, Nat.mod_lt _ (by decide)⟩ (Fin.cons (y 1) finZeroElim))

theorem places_at (b : BitVec 32) (cmb : Vec F S1664x128 .f32) (lt : Vec F S64x64 .f32) (s : Fin 2) (n : Fin 13) (y : S1664x128.Idx)
    (z : S64x128.Idx) (h : (y 0).val = 832 * s.val + 64 * n.val + (z 0).val) (h1 : (y 1).val = (z 1).val) :
    places b cmb lt y = place (inside b s) cmb lt s n z := by
  have hs := s.isLt
  have hn := n.isLt
  have hz : (z 0).val < 64 := (z 0).isLt
  have e1 : (⟨(y 0).val / 832 % 2, Nat.mod_lt _ (by decide)⟩ : Fin 2) = s := Fin.ext (by show (y 0).val / 832 % 2 = s.val; omega)
  have e2 : (⟨(y 0).val % 832 / 64 % 13, Nat.mod_lt _ (by decide)⟩ : Fin 13) = n := Fin.ext (by show (y 0).val % 832 / 64 % 13 = n.val; omega)
  have e3 : (Fin.cons ⟨(y 0).val % 64, Nat.mod_lt _ (by decide)⟩ (Fin.cons (y 1) finZeroElim) : S64x128.Idx) = z := by
    funext a
    refine Fin.cases ?_ (fun a => ?_) a
    · exact Fin.ext (by show (y 0).val % 64 = (z 0).val; omega)
    · refine Fin.cases ?_ (fun a => a.elim0) a
      exact Fin.ext h1
  unfold places
  rw [e1, e2, e3]

/-- One more chunk of rows stored: the rows below its end hold their places. -/
theorem grow (v : View sig .tc .vmem S1664x128 .f32) (f : v.ty.Contents (Elt F)) (L : List (View.Piece (Elt F) S1664x128 .f32))
    (b : BitVec 32) (cmb : Vec F S1664x128 .f32) (lt : Vec F S64x64 .f32) (s : Fin 2) (n : Fin 13) (lo : ℕ) (hlo : lo = 832 * s.val + 64 * n.val)
    (inb : ∀ a, (![lo, 0] : Fin 2 → ℕ) a + S64x128.size a ≤ S1664x128.size a) (w : FVec F S64x128 .f32)
    (hw : w = place (inside b s) cmb lt s n)
    (h : ∀ y : S1664x128.Idx, (y 0).val < lo → v.read (Elt F) (v.writes (Elt F) f L) y = places b cmb lt y) :
    ∀ y : S1664x128.Idx, (y 0).val < lo + 64 →
      v.read (Elt F) (v.writes (Elt F) f (⟨Rect.unit ![lo, 0] S64x128.size inb, w⟩ :: L)) y = places b cmb lt y := by
  intro y hy
  rw [View.read_writes_cons_put v f inb w L rfl]
  unfold put
  split
  · next hin =>
    have h0 := hin 0
    have h1 := hin 1
    subst hw
    refine (places_at b cmb lt s n y _ ?_ ?_).symm
    · show (y 0).val = _ + ((y 0).val - lo)
      have : lo ≤ (y 0).val := h0.1
      omega
    · show (y 1).val = (y 1).val - 0
      omega
  · next hout =>
    refine h y ?_
    by_contra hlt
    refine hout (fun a => ?_)
    refine Fin.cases ?_ (fun a => ?_) a
    · exact ⟨by show lo ≤ (y 0).val; omega, by show (y 0).val < lo + 64; omega⟩
    · refine Fin.cases ?_ (fun a => a.elim0) a
      exact ⟨Nat.zero_le _, by show (y 1).val < 0 + 128; have : (y 1).val < 128 := (y 1).isLt; omega⟩

variable (c : Dev nD) (B : Bufs) (i : grid0.Coords)

/-- What the first point of a block leaves. -/
def start (b : BitVec 32) (I : Ins F) (σ : St F) : St F :=
  { σ with
    o := k0_pay6
    xb := put (put σ.xb ![0, 0] S832x1024.size (k0_pay8 b (window I.x ![0, 0] S832x1024.size inb_S1664x1024_S832x1024_0_0)))
      ![832, 0] S832x1024.size (k0_pay58 (k0_pay57 b) (window I.x ![832, 0] S832x1024.size inb_S1664x1024_S832x1024_832_0))
    pos := places b I.cmb I.lt }

set_option maxHeartbeats 4000000 in
theorem start_spec (𝒱 : Variants) (bd : Option 𝒱.V) (E : Set ℕ) (q : PosShare TreeShare) (I : Ins F) (σ : St F)
    (arg0 : BitVec 32) (hc : k0_cond1 i = 1#1) {R : Type} (Q : R → sProp 𝕄) (κ : Prog (TpuEff nD τ sig (Elt F) Λ₀ .tc) R) :
    RAll c B q I σ ⊢ iprop((RAll c B q I (start arg0 I σ) -∗ wp frame (wpE (defs₀ (F := F)) 𝒱 (c : Thread nD τ) bd) E κ Q)
      -∗ wp frame (wpE (defs₀ (F := F)) 𝒱 (c : Thread nD τ) bd) E
        (a1 i B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17
          arg0 κ) Q) := by
  refine (opened c B q I σ).trans ?_
  unfold Pts
  iintro ⟨%f3, %f4, %f5, %f6, %f7, %f8, %f9, %f10, %f11, %f12, %f13, %f14, %f15, %f16, %f17, %hs, H3, H4, H5, H6, H7, H8, H9, H10, H11, H12, H13, H14, H15, H16, H17⟩ HK
  obtain ⟨h3, h4, h5, h6, h7, h8, h9, h10, h11, h12, h13, h14, h15, h16, h17⟩ := hs
  unfold a1
  set_option sl_exec.resultNames true in
  sl_exec
  iapply HK
  unfold start
  iapply (closed c B q I f3 f4 f5 f6 f7 f8 f9 f10 f11 _ _ f14 f15 f16 _ h3 h4 h5 h6 h7 h8 h9 h10 h11 ?h12 ?h13 h14 h15 h16 ?h17)
  rotate_left 3
  · unfold Pts
    iframe H3 H4 H5 H6 H7 H8 H9 H10 H11 H12 H13 H14 H15 H16 H17
  case h12 =>
    rw [View.read_writes_full]
  case h13 =>
    rw [View.read_writes_cons_put _ _ _ _ _ rfl, View.read_writes_cons_put _ _ _ _ _ rfl, View.readAt_unit _ _ _ rfl,
      View.readAt_unit _ _ _ rfl, h4]
    exact congrArg (fun x => put (put x _ _ _) _ _ _) h13
  case h17 =>
    rw [← h5, ← h6, ← View.readAt_full B.a6.view f6 inb_S64x64_S64x64_0_0]
    refine funext fun y => ?_
    have hy : (y 0).val < 1600 + 64 := (y 0).isLt
    revert hy
    revert y
    refine grow _ _ _ _ _ _ 1 12 1600 rfl _ _ rfl ?_
    refine grow _ _ _ _ _ _ 1 11 1536 rfl _ _ rfl ?_
    refine grow _ _ _ _ _ _ 1 10 1472 rfl _ _ rfl ?_
    refine grow _ _ _ _ _ _ 1 9 1408 rfl _ _ rfl ?_
    refine grow _ _ _ _ _ _ 1 8 1344 rfl _ _ rfl ?_
    refine grow _ _ _ _ _ _ 1 7 1280 rfl _ _ rfl ?_
    refine grow _ _ _ _ _ _ 1 6 1216 rfl _ _ rfl ?_
    refine grow _ _ _ _ _ _ 1 5 1152 rfl _ _ rfl ?_
    refine grow _ _ _ _ _ _ 1 4 1088 rfl _ _ rfl ?_
    refine grow _ _ _ _ _ _ 1 3 1024 rfl _ _ rfl ?_
    refine grow _ _ _ _ _ _ 1 2 960 rfl _ _ rfl ?_
    refine grow _ _ _ _ _ _ 1 1 896 rfl _ _ rfl ?_
    refine grow _ _ _ _ _ _ 1 0 832 rfl _ _ rfl ?_
    refine grow _ _ _ _ _ _ 0 12 768 rfl _ _ rfl ?_
    refine grow _ _ _ _ _ _ 0 11 704 rfl _ _ rfl ?_
    refine grow _ _ _ _ _ _ 0 10 640 rfl _ _ rfl ?_
    refine grow _ _ _ _ _ _ 0 9 576 rfl _ _ rfl ?_
    refine grow _ _ _ _ _ _ 0 8 512 rfl _ _ rfl ?_
    refine grow _ _ _ _ _ _ 0 7 448 rfl _ _ rfl ?_
    refine grow _ _ _ _ _ _ 0 6 384 rfl _ _ rfl ?_
    refine grow _ _ _ _ _ _ 0 5 320 rfl _ _ rfl ?_
    refine grow _ _ _ _ _ _ 0 4 256 rfl _ _ rfl ?_
    refine grow _ _ _ _ _ _ 0 3 192 rfl _ _ rfl ?_
    refine grow _ _ _ _ _ _ 0 2 128 rfl _ _ rfl ?_
    refine grow _ _ _ _ _ _ 0 1 64 rfl _ _ rfl ?_
    refine grow _ _ _ _ _ _ 0 0 0 rfl _ _ rfl ?_
    intro y hy
    exact absurd hy (Nat.not_lt_zero _)

end Cert.Moe

end
-- ==== Proof.Whole.lean ====
/- A grid point of the kernel, as a function of what its buffers hold. -/
module

public import proofs.«01_k».proof.Proof.Steps
public import proofs.«01_k».proof.Proof.Init

@[expose] public section

set_option maxRecDepth 16384

noncomputable section

namespace Cert.Moe

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄" => MT nD τ sig Unit (Elt F) ℕ (UR sig nD τ) ℕ

variable (c : Dev nD) (B : Bufs) (i : grid0.Coords)

/-- A counted loop whose trips each take a property to the next. -/
theorem loop_spec (𝒱 : Variants) (bd : Option 𝒱.V) (E : Set ℕ) (l : Scf.Loop 32) (hok : l.OK)
    (body : Fin l.trips → Unit → Prog (TpuEff nD τ sig (Elt F) Λ₀ .tc) Unit) (P : ℕ → sProp 𝕄)
    (hstep : ∀ k acc, P k.val ⊢ wp frame (wpE (defs₀ (F := F)) 𝒱 (c : Thread nD τ) bd) E (body k acc) (fun _ => P (k.val + 1)))
    {R : Type} (κ : Unit → Prog (TpuEff nD τ sig (Elt F) Λ₀ .tc) R) (Q : R → sProp 𝕄) :
    P 0 ⊢ iprop((P l.trips -∗ wp frame (wpE (defs₀ (F := F)) 𝒱 (c : Thread nD τ) bd) E (κ ()) Q)
      -∗ wp frame (wpE (defs₀ (F := F)) 𝒱 (c : Thread nD τ) bd) E (Scf.Loop.for l hok ⟨⟩ body >>= κ) Q) := by
  iintro HP HK
  iapply (Scf.wp_for_bind frame (wpE (defs₀ (F := F)) 𝒱 (c : Thread nD τ) bd) E l.lb l.ub l.st hok () body (fun k _ => P k) hstep) $$ [HP]
  · iexact HP
  iintro %acc H
  iapply HK
  iexact H

/-- The rows of both halves that the expert is given are gathered. -/
def pickAll (e v5 v29 : BitVec 32) (w1 : k0_chk1 i v5) (w2 : k0_chk2 i v29) (h2 : k0_cond2 i = 1#1) (I : Ins F) (σ : St F) : St F :=
  iter (pick1 i e v29 w2 h2 I) (k0_t3_loop v29).trips (iter (pick0 i e v5 w1 h2 I) (k0_t1_loop v5).trips σ)

/-- The expert's products of both halves. -/
def prodAll (v5 v29 : BitVec 32) (w1 : k0_chk1 i v5) (w2 : k0_chk2 i v29) (I : Ins F) (σ : St F) : St F :=
  iter (prod1 i v29 w2 I) (k0_t7_loop v29).trips (iter (prod0 i v5 w1 I) (k0_t5_loop v5).trips σ)

/-- The expert's results are given back to the rows of both halves. -/
def backAll (e v5 v29 : BitVec 32) (w1 : k0_chk1 i v5) (w2 : k0_chk2 i v29) (h3 : k0_cond3 i = 1#1) (σ : St F) : St F :=
  iter (back1 i e v29 w2 h3) (k0_t11_loop v29).trips (iter (back0 i e v5 w1 h3) (k0_t9_loop v5).trips σ)

/-- A loop without trips. -/
theorem loop_none (𝒱 : Variants) (bd : Option 𝒱.V) (E : Set ℕ) (l : Scf.Loop 32) (hok : l.OK) (h0 : l.trips = 0)
    (body : Fin l.trips → Unit → Prog (TpuEff nD τ sig (Elt F) Λ₀ .tc) Unit)
    {R : Type} (κ : Unit → Prog (TpuEff nD τ sig (Elt F) Λ₀ .tc) R) (Q : R → sProp 𝕄) :
    wp frame (wpE (defs₀ (F := F)) 𝒱 (c : Thread nD τ) bd) E (κ ()) Q ⊢ wp frame (wpE (defs₀ (F := F)) 𝒱 (c : Thread nD τ) bd) E (Scf.Loop.for l hok ⟨⟩ body >>= κ) Q := by
  refine (loop_spec c 𝒱 bd E l hok body (fun _ => wp frame (wpE (defs₀ (F := F)) 𝒱 (c : Thread nD τ) bd) E (κ ()) Q) (fun k _ => absurd k.isLt (by omega)) κ Q).trans ?_
  iintro HK
  iapply HK
  iintro H
  iexact H

/-- What a buffer of the state is read as, put together again with nothing changed. -/
theorem resealed (q : PosShare TreeShare) (I : Ins F) (σ : St F) {f3 f4 f5 f6 f7 f8 f9 f10 f11 f12 f13 f14 f15 f16 f17}
    (hs : B.a3.view.read (Elt F) f3 = I.cnt ∧ B.a4.view.read (Elt F) f4 = I.x ∧ B.a5.view.read (Elt F) f5 = I.cmb ∧ B.a6.view.read (Elt F) f6 = I.lt ∧ B.a7.view.read (Elt F) f7 = I.w1 ∧ B.a8.view.read (Elt F) f8 = I.w3 ∧ B.a9.view.read (Elt F) f9 = I.w2 ∧ B.a10.view.read (Elt F) f10 = I.lw ∧ B.a11.view.read (Elt F) f11 = I.lb ∧ B.a12.view.read (Elt F) f12 = σ.o ∧ B.a13.view.read (Elt F) f13 = σ.xb ∧ B.a14.view.read (Elt F) f14 = σ.xs ∧ B.a15.view.read (Elt F) f15 = σ.ys ∧ B.a16.view.read (Elt F) f16 = σ.gs ∧ B.a17.view.read (Elt F) f17 = σ.pos) :
    Pts c B q f3 f4 f5 f6 f7 f8 f9 f10 f11 f12 f13 f14 f15 f16 f17 ⊢ RAll c B q I σ :=
  closed c B q I f3 f4 f5 f6 f7 f8 f9 f10 f11 f12 f13 f14 f15 f16 f17 hs.1 hs.2.1 hs.2.2.1 hs.2.2.2.1 hs.2.2.2.2.1 hs.2.2.2.2.2.1 hs.2.2.2.2.2.2.1 hs.2.2.2.2.2.2.2.1 hs.2.2.2.2.2.2.2.2.1 hs.2.2.2.2.2.2.2.2.2.1 hs.2.2.2.2.2.2.2.2.2.2.1 hs.2.2.2.2.2.2.2.2.2.2.2.1 hs.2.2.2.2.2.2.2.2.2.2.2.2.1 hs.2.2.2.2.2.2.2.2.2.2.2.2.2.1 hs.2.2.2.2.2.2.2.2.2.2.2.2.2.2

theorem pickAll_spec (𝒱 : Variants) (bd : Option 𝒱.V) (E : Set ℕ) (q : PosShare TreeShare) (I : Ins F) (σ : St F)
    (arg0 arg1 arg2 : BitVec 32) (v5 : BitVec 32) (k0_hw1 : k0_chk1 i v5) (v23 v29 : BitVec 32) (k0_hw2 : k0_chk2 i v29)
    (v30 c256 v31 v36 : BitVec 32) (hv5 : v5.toNat ≤ 832) (hv29 : v29.toNat ≤ 832) (h2 : k0_cond2 i = 1#1)
    {R : Type} (Q : R → sProp 𝕄) (κ : Prog (TpuEff nD τ sig (Elt F) Λ₀ .tc) R) :
    RAll c B q I σ ⊢ iprop((RAll c B q I (pickAll i arg1 v5 v29 k0_hw1 k0_hw2 h2 I σ) -∗ wp frame (wpE (defs₀ (F := F)) 𝒱 (c : Thread nD τ) bd) E κ Q)
      -∗ wp frame (wpE (defs₀ (F := F)) 𝒱 (c : Thread nD τ) bd) E (a2 i B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17
          arg0 arg1 arg2 v5 k0_hw1 v23 v29 k0_hw2 v30 c256 v31 v36 κ) Q) := by
  refine (opened c B q I σ).trans ?_
  unfold Pts
  iintro ⟨%f3, %f4, %f5, %f6, %f7, %f8, %f9, %f10, %f11, %f12, %f13, %f14, %f15, %f16, %f17, %hs, H3, H4, H5, H6, H7, H8, H9, H10, H11, H12, H13, H14, H15, H16, H17⟩ HK
  unfold a2
  sl_exec
  rw [View.readAt_unit _ _ _ rfl inb_S1664x128_S832x128_0_0, hs.2.2.1]
  ihave H := (resealed c B q I σ hs) $$ [H3 H4 H5 H6 H7 H8 H9 H10 H11 H12 H13 H14 H15 H16 H17]
  · unfold Pts
    iframe H3 H4 H5 H6 H7 H8 H9 H10 H11 H12 H13 H14 H15 H16 H17
  iapply (loop_spec c 𝒱 bd E (k0_t1_loop v5) _ _ (fun k => RAll c B q I (iter (pick0 i arg1 v5 k0_hw1 h2 I) k σ))
    (fun k acc => pick0_spec c B i 𝒱 bd E q I (iter (pick0 i arg1 v5 k0_hw1 h2 I) k σ) arg0 arg1 arg2 v5 k0_hw1 v23 v29 k0_hw2 v30 c256 v31 v36 h2 k acc)) $$ [H]
  · iexact H
  iintro H
  iapply (loop_none c 𝒱 bd E (k0_t2_loop v5) _ (loops v5 hv5).2.2.2)
  generalize hσ : iter (pick0 i arg1 v5 k0_hw1 h2 I) (k0_t1_loop v5).trips σ = σ'
  ihave H := (opened c B q I σ') $$ [H]
  · iexact H
  unfold Pts
  icases H with ⟨%g3, %g4, %g5, %g6, %g7, %g8, %g9, %g10, %g11, %g12, %g13, %g14, %g15, %g16, %g17, %hs', H3, H4, H5, H6, H7, H8, H9, H10, H11, H12, H13, H14, H15, H16, H17⟩
  sl_exec
  rw [View.readAt_unit _ _ _ rfl inb_S1664x128_S832x128_832_0, hs'.2.2.1]
  ihave H := (resealed c B q I σ' hs') $$ [H3 H4 H5 H6 H7 H8 H9 H10 H11 H12 H13 H14 H15 H16 H17]
  · unfold Pts
    iframe H3 H4 H5 H6 H7 H8 H9 H10 H11 H12 H13 H14 H15 H16 H17
  iapply (loop_spec c 𝒱 bd E (k0_t3_loop v29) _ _ (fun k => RAll c B q I (iter (pick1 i arg1 v29 k0_hw2 h2 I) k σ'))
    (fun k acc => pick1_spec c B i 𝒱 bd E q I (iter (pick1 i arg1 v29 k0_hw2 h2 I) k σ') arg0 arg1 arg2 v5 k0_hw1 v23 v29 k0_hw2 v30 c256 v31 v36 h2 k acc)) $$ [H]
  · iexact H
  iintro H
  iapply (loop_none c 𝒱 bd E (k0_t4_loop v29) _ (loops v29 hv29).2.2.2)
  iapply HK
  unfold pickAll
  rw [hσ]
  iexact H

theorem prodAll_spec (𝒱 : Variants) (bd : Option 𝒱.V) (E : Set ℕ) (q : PosShare TreeShare) (I : Ins F) (σ : St F)
    (arg0 arg1 arg2 : BitVec 32) (v5 : BitVec 32) (k0_hw1 : k0_chk1 i v5) (v23 v29 : BitVec 32) (k0_hw2 : k0_chk2 i v29)
    (v30 c256 v31 v36 : BitVec 32) (hv5 : v5.toNat ≤ 832) (hv29 : v29.toNat ≤ 832)
    {R : Type} (Q : R → sProp 𝕄) (κ : Prog (TpuEff nD τ sig (Elt F) Λ₀ .tc) R) :
    RAll c B q I σ ⊢ iprop((RAll c B q I (prodAll i v5 v29 k0_hw1 k0_hw2 I σ) -∗ wp frame (wpE (defs₀ (F := F)) 𝒱 (c : Thread nD τ) bd) E κ Q)
      -∗ wp frame (wpE (defs₀ (F := F)) 𝒱 (c : Thread nD τ) bd) E (a3 i B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17
          arg0 arg1 arg2 v5 k0_hw1 v23 v29 k0_hw2 v30 c256 v31 v36 κ) Q) := by
  iintro H HK
  unfold a3
  sl_exec
  iapply (loop_spec c 𝒱 bd E (k0_t5_loop v5) _ _ (fun k => RAll c B q I (iter (prod0 i v5 k0_hw1 I) k σ))
    (fun k acc => prod0_spec c B i 𝒱 bd E q I (iter (prod0 i v5 k0_hw1 I) k σ) arg0 arg1 arg2 v5 k0_hw1 v23 v29 k0_hw2 v30 c256 v31 v36 k acc)) $$ [H]
  · iexact H
  iintro H
  iapply (loop_none c 𝒱 bd E (k0_t6_loop v5) _ (loops v5 hv5).2.2.2)
  generalize hσ : iter (prod0 i v5 k0_hw1 I) (k0_t5_loop v5).trips σ = σ'
  iapply (loop_spec c 𝒱 bd E (k0_t7_loop v29) _ _ (fun k => RAll c B q I (iter (prod1 i v29 k0_hw2 I) k σ'))
    (fun k acc => prod1_spec c B i 𝒱 bd E q I (iter (prod1 i v29 k0_hw2 I) k σ') arg0 arg1 arg2 v5 k0_hw1 v23 v29 k0_hw2 v30 c256 v31 v36 k acc)) $$ [H]
  · iexact H
  iintro H
  iapply (loop_none c 𝒱 bd E (k0_t8_loop v29) _ (loops v29 hv29).2.2.2)
  iapply HK
  unfold prodAll
  rw [hσ]
  iexact H

/-- The residual sum and the norm of the whole block. -/
def norm (I : Ins F) (σ : St F) : St F := { σ with o := k0_pay5 I.x σ.o I.lw I.lb }

/-- The count of half `s` of the grid point's block, for its expert. -/
def cntOf (I : Ins F) (s : Fin 2) : BitVec 32 :=
  window I.cnt (k0_off1 i (BitVec.ofNat 32 s.val)) S1.size (k0_off1_inb i s) (Shape.Idx.first (numel1_S1.symm ▸ Nat.one_pos))

/-- The first printed part reads the two counts. -/
theorem counts_spec (𝒱 : Variants) (bd : Option 𝒱.V) (E : Set ℕ) (q : PosShare TreeShare) (I : Ins F)
    (v5 v29 : BitVec 32) (w1 : k0_chk1 i v5) (w2 : k0_chk2 i v29) (e5 : cntOf i I 0 = v5) (e29 : cntOf i I 1 = v29) (σ : St F) {R : Type} (Q : R → sProp 𝕄)
    (K : (Σ' (arg0 : BitVec 32) (arg1 : BitVec 32) (arg2 : BitVec 32) (v5 : Elt F .i32) (k0_hw1 : k0_chk1 i v5) (v23 : BitVec 32) (v29 : Elt F .i32) (k0_hw2 : k0_chk2 i v29) (v30 : BitVec 32) (c256_i32_9 : BitVec 32) (v31 : BitVec 32), BitVec 32) → Prog (TpuEff nD τ sig (Elt F) Λ₀ .tc) R) :
    RAll c B q I σ ⊢ iprop((∀ v23 v30 v31 v36, RAll c B q I σ -∗ wp frame (wpE (defs₀ (F := F)) 𝒱 (c : Thread nD τ) bd) E
        (K ⟨BitVec.ofNat 32 (i 0).val, BitVec.ofNat 32 (i 1).val, BitVec.ofNat 32 (i 2).val, v5, w1, v23, v29, w2, v30, 256#32, v31, v36⟩) Q)
      -∗ wp frame (wpE (defs₀ (F := F)) 𝒱 (c : Thread nD τ) bd) E (k0_part26 i B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 >>= K) Q) := by
  rw [k0_part26_eq_skeleton]
  refine (opened c B q I σ).trans ?_
  unfold Pts
  iintro ⟨%f3, %f4, %f5, %f6, %f7, %f8, %f9, %f10, %f11, %f12, %f13, %f14, %f15, %f16, %f17, %hs, H3, H4, H5, H6, H7, H8, H9, H10, H11, H12, H13, H14, H15, H16, H17⟩ HK
  unfold k0_part26_skel
  sl_exec
  have hr : counts_spec.sl.r B i f3 = v5 := by
    rw [← e5]
    unfold counts_spec.sl.r
    rw [View.readAt_unit _ _ _ rfl (k0_off1_inb i 0), hs.1]; rfl
  rw [hr]
  iapply (wp_assume 𝒱 (c : Thread nD τ) bd E w1)
  sl_exec
  have hr : counts_spec.sl.r_1 B i f3 = v29 := by
    rw [← e29]
    unfold counts_spec.sl.r_1
    rw [View.readAt_unit _ _ _ rfl (k0_off1_inb i 1), hs.1]; rfl
  rw [hr]
  iapply (wp_assume 𝒱 (c : Thread nD τ) bd E w2)
  sl_exec
  iapply HK
  iapply (resealed c B q I σ hs)
  unfold Pts
  iframe H3 H4 H5 H6 H7 H8 H9 H10 H11 H12 H13 H14 H15 H16 H17

/-- The state once the point's products are done. -/
def front (v5 v29 : BitVec 32) (w1 : k0_chk1 i v5) (w2 : k0_chk2 i v29) (I : Ins F) (σ : St F) : St F :=
  let σ1 := if k0_cond1 i = 1#1 then start (BitVec.ofNat 32 (i 0).val) I σ else σ
  let σ2 := if h2 : k0_cond2 i = 1#1 then
    pickAll i (BitVec.ofNat 32 (i 1).val) v5 v29 w1 w2 h2 I σ1 else σ1
  prodAll i v5 v29 w1 w2 I σ2

theorem front_spec (𝒱 : Variants) (bd : Option 𝒱.V) (E : Set ℕ) (q : PosShare TreeShare) (I : Ins F)
    (v5 v29 : BitVec 32) (w1 : k0_chk1 i v5) (w2 : k0_chk2 i v29) (hv5 : v5.toNat ≤ 832) (hv29 : v29.toNat ≤ 832) (σ : St F) (arg2 v23 v30 v31 v36 : BitVec 32) {R : Type} (Q : R → sProp 𝕄)
    (K : (Σ' (v47 : BitVec 32), IVec S832x128 32) → Prog (TpuEff nD τ sig (Elt F) Λ₀ .tc) R) :
    RAll c B q I σ ⊢ iprop((∀ v47, RAll c B q I (front i v5 v29 w1 w2 I σ) -∗ wp frame (wpE (defs₀ (F := F)) 𝒱 (c : Thread nD τ) bd) E (K ⟨v47, lanes⟩) Q)
      -∗ wp frame (wpE (defs₀ (F := F)) 𝒱 (c : Thread nD τ) bd) E (k0_part27 i B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 (BitVec.ofNat 32 (i 0).val) (BitVec.ofNat 32 (i 1).val) arg2 v5 w1 v23 v29 w2 v30 256#32 v31 v36 >>= K) Q) := by
  iintro H HK
  rw [k0_part27_eq_skeleton, a1.eq, wp_bind]
  have tl : ∀ σ1 : St F, RAll c B q I σ1 ⊢ iprop((∀ v47, RAll c B q I (prodAll i v5 v29 w1 w2 I
      (if h2 : k0_cond2 i = 1#1 then pickAll i (BitVec.ofNat 32 (i 1).val) v5 v29 w1 w2 h2 I σ1 else σ1)) -∗ wp frame (wpE (defs₀ (F := F)) 𝒱 (c : Thread nD τ) bd) E (K ⟨v47, lanes⟩) Q)
      -∗ wp frame (wpE (defs₀ (F := F)) 𝒱 (c : Thread nD τ) bd) E (a1.tail i B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 (BitVec.ofNat 32 (i 0).val) (BitVec.ofNat 32 (i 1).val) arg2 v5 w1 v23 v29 w2 v30 256#32 v31 v36) (fun a => wp frame (wpE (defs₀ (F := F)) 𝒱 (c : Thread nD τ) bd) E (K a) Q)) := by
    intro σ1
    have tl2 : ∀ σ2 : St F, RAll c B q I σ2 ⊢ iprop((∀ v47, RAll c B q I (prodAll i v5 v29 w1 w2 I σ2) -∗ wp frame (wpE (defs₀ (F := F)) 𝒱 (c : Thread nD τ) bd) E (K ⟨v47, lanes⟩) Q)
      -∗ wp frame (wpE (defs₀ (F := F)) 𝒱 (c : Thread nD τ) bd) E (a2.tail i B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 (BitVec.ofNat 32 (i 0).val) (BitVec.ofNat 32 (i 1).val) arg2 v5 w1 v23 v29 w2 v30 256#32 v31 v36) (fun a => wp frame (wpE (defs₀ (F := F)) 𝒱 (c : Thread nD τ) bd) E (K a) Q)) := by
      intro σ2
      iintro H HK
      rw [a3.eq]
      iapply (prodAll_spec c B i 𝒱 bd E q I σ2 _ _ _ _ _ _ _ _ _ _ _ _ hv5 hv29) $$ [H]
      · iexact H
      iintro H
      unfold a3.tail
      sl_exec
      have hl : front_spec.sl.r_1 = lanes := rfl
      rw [hl]
      iapply HK
      iexact H
    iintro H HK
    rw [a2.eq]
    by_cases h2 : k0_cond2 i = 1#1
    · rw [dif_pos h2]
      iapply (pickAll_spec c B i 𝒱 bd E q I σ1 _ _ _ _ _ _ _ _ _ _ _ _ hv5 hv29 h2) $$ [H]
      · iexact H
      iintro H
      iapply (tl2 _) $$ [H]
      · iexact H
      iexact HK
    · rw [dif_neg h2]
      unfold a2
      sl_exec
      iapply (tl2 _) $$ [H]
      · iexact H
      iexact HK
  by_cases h1 : k0_cond1 i = 1#1
  · unfold front
    rw [if_pos h1]
    iapply (start_spec c B i 𝒱 bd E q I σ _ h1) $$ [H]
    · iexact H
    iintro H
    iapply (tl _) $$ [H]
    · iexact H
    iexact HK
  · unfold front
    rw [if_neg h1]
    unfold a1
    sl_exec
    iapply (tl _) $$ [H]
    · iexact H
    iexact HK

theorem back0_loop (𝒱 : Variants) (bd : Option 𝒱.V) (E : Set ℕ) (q : PosShare TreeShare) (I : Ins F) (σ : St F) (e v5 : BitVec 32) (w1 : k0_chk1 i v5) (h3 : k0_cond3 i = 1#1)
    {R : Type} (κ : Unit → Prog (TpuEff nD τ sig (Elt F) Λ₀ .tc) R) (Q : R → sProp 𝕄) :
    RAll c B q I σ ⊢ iprop((RAll c B q I (iter (back0 i e v5 w1 h3) (k0_t9_loop v5).trips σ) -∗ wp frame (wpE (defs₀ (F := F)) 𝒱 (c : Thread nD τ) bd) E (κ ()) Q)
      -∗ wp frame (wpE (defs₀ (F := F)) 𝒱 (c : Thread nD τ) bd) E (Scf.Loop.for (k0_t9_loop v5) (k0_t9_ok i v5 w1 h3) ⟨⟩ (k0_t9_body i B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 e v5 w1 lanes h3) >>= κ) Q) :=
  loop_spec c 𝒱 bd E (k0_t9_loop v5) _ _ (fun k => RAll c B q I (iter (back0 i e v5 w1 h3) k σ))
    (fun k acc => back0_spec c B i 𝒱 bd E q I (iter (back0 i e v5 w1 h3) k σ) _ _ _ h3 k acc) κ Q

theorem back1_loop (𝒱 : Variants) (bd : Option 𝒱.V) (E : Set ℕ) (q : PosShare TreeShare) (I : Ins F) (σ : St F) (e v29 : BitVec 32) (w2 : k0_chk2 i v29) (h3 : k0_cond3 i = 1#1)
    {R : Type} (κ : Unit → Prog (TpuEff nD τ sig (Elt F) Λ₀ .tc) R) (Q : R → sProp 𝕄) :
    RAll c B q I σ ⊢ iprop((RAll c B q I (iter (back1 i e v29 w2 h3) (k0_t11_loop v29).trips σ) -∗ wp frame (wpE (defs₀ (F := F)) 𝒱 (c : Thread nD τ) bd) E (κ ()) Q)
      -∗ wp frame (wpE (defs₀ (F := F)) 𝒱 (c : Thread nD τ) bd) E (Scf.Loop.for (k0_t11_loop v29) (k0_t11_ok i v29 w2 h3) ⟨⟩ (k0_t11_body i B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17 e v29 w2 lanes h3) >>= κ) Q) :=
  loop_spec c 𝒱 bd E (k0_t11_loop v29) _ _ (fun k => RAll c B q I (iter (back1 i e v29 w2 h3) k σ))
    (fun k acc => back1_spec c B i 𝒱 bd E q I (iter (back1 i e v29 w2 h3) k σ) _ _ _ h3 k acc) κ Q

/-- The norm, at the block's last expert. -/
def lastly (I : Ins F) (σ : St F) : St F := if k0_cond4 i = 1#1 then norm I σ else σ

/-- A grid point of the kernel: at a block's first point the block's places are worked out, at an expert's first point its rows are
    gathered, at every point the products of its part of the inner width are added, at an expert's last point its results are given
    back, and at a block's last point the norm is taken. -/
def point (v5 v29 : BitVec 32) (w1 : k0_chk1 i v5) (w2 : k0_chk2 i v29) (I : Ins F) (σ : St F) : St F :=
  if h3 : k0_cond3 i = 1#1 then
    lastly i I (backAll i (BitVec.ofNat 32 (i 1).val) v5 v29 w1 w2 h3 (front i v5 v29 w1 w2 I σ))
  else front i v5 v29 w1 w2 I σ

theorem point_spec (𝒱 : Variants) (bd : Option 𝒱.V) (E : Set ℕ) (q : PosShare TreeShare) (I : Ins F)
    (v5 v29 : BitVec 32) (w1 : k0_chk1 i v5) (w2 : k0_chk2 i v29) (e5 : cntOf i I 0 = v5) (e29 : cntOf i I 1 = v29) (hv5 : v5.toNat ≤ 832) (hv29 : v29.toNat ≤ 832) (σ : St F) :
    RAll c B q I σ ⊢ wp frame (wpE (defs₀ (F := F)) 𝒱 (c : Thread nD τ) bd) E (cc0_moe_routed i B.a3 B.h3 B.a4 B.h4 B.a5 B.h5 B.a6 B.h6 B.a7 B.h7 B.a8 B.h8 B.a9 B.h9 B.a10 B.h10 B.a11 B.h11 B.a12 B.h12 B.a13 B.h13 B.a14 B.h14 B.a15 B.h15 B.a16 B.h16 B.a17 B.h17) (fun _ => RAll c B q I (point i v5 v29 w1 w2 I σ)) := by
  iintro H
  sl_unfold [cc0_moe_routed]
  iapply (counts_spec c B i 𝒱 bd E q I v5 v29 w1 w2 e5 e29 σ) $$ [H]
  · iexact H
  iintro %v23 %v30 %v31 %v36 H
  sl_whnfR []
  iapply (front_spec c B i 𝒱 bd E q I v5 v29 w1 w2 hv5 hv29 σ) $$ [H]
  · iexact H
  iintro %v47 H
  sl_whnfR []
  by_cases h3 : k0_cond3 i = 1#1
  · have hp : point i v5 v29 w1 w2 I σ = _ := dif_pos h3
    rw [hp]
    unfold backAll
    generalize front i v5 v29 w1 w2 I σ = σ'
    generalize BitVec.ofNat 32 (i 1).val = e
    sl_exec
    iapply (back0_loop c B i 𝒱 bd E q I σ' e v5 w1 h3) $$ [H]
    · iexact H
    iintro H
    iapply (loop_none c 𝒱 bd E (k0_t10_loop v5) _ (loops _ hv5).2.2.2)
    generalize iter (back0 i e v5 w1 h3) (k0_t9_loop v5).trips σ' = σ''
    iapply (back1_loop c B i 𝒱 bd E q I σ'' e v29 w2 h3) $$ [H]
    · iexact H
    iintro H
    iapply (loop_none c 𝒱 bd E (k0_t12_loop v29) _ (loops _ hv29).2.2.2)
    generalize iter (back1 i e v29 w2 h3) (k0_t11_loop v29).trips σ'' = τ
    by_cases h4 : k0_cond4 i = 1#1
    · have hp : lastly i I τ = norm I τ := if_pos h4
      rw [hp]
      ihave H := (opened c B q I τ) $$ [H]
      · iexact H
      unfold Pts
      icases H with ⟨%f3, %f4, %f5, %f6, %f7, %f8, %f9, %f10, %f11, %f12, %f13, %f14, %f15, %f16, %f17, %hs, H3, H4, H5, H6, H7, H8, H9, H10, H11, H12, H13, H14, H15, H16, H17⟩
      obtain ⟨h3, h4, h5, h6, h7, h8, h9, h10, h11, h12, h13, h14, h15, h16, h17⟩ := hs
      sl_exec
      sl_step
      unfold norm
      iapply (closed c B q I f3 f4 f5 f6 f7 f8 f9 f10 f11 _ f13 f14 f15 f16 f17 h3 h4 h5 h6 h7 h8 h9 h10 h11 ?h12 h13 h14 h15 h16 h17)
      rotate_left 1
      · unfold Pts
        iframe H3 H4 H5 H6 H7 H8 H9 H10 H11 H12 H13 H14 H15 H16 H17
      rw [View.read_writes_full, View.readAt_full, View.readAt_full, View.readAt_full, View.readAt_full, h4, h12, h10, h11]
    · have hp : lastly i I τ = τ := if_neg h4
      rw [hp]
      sl_exec
      sl_step
      iexact H
  · have hp : point i v5 v29 w1 w2 I σ = _ := dif_neg h3
    rw [hp]
    sl_exec
    sl_step
    iexact H

end Cert.Moe

end
-- ==== Proof.Run.lean ====
/- The whole run: the host operations, then the kernel at each grid point in turn. -/
module

public import proofs.«01_k».proof.Proof.Whole
public import proofs.«01_k».proof.Proof.Gen.KernelIdeal.Launch
public import Idealize.ShloMosaic.Lib.Pipeline.FrameBody
public import Idealize.ShloMosaic.Lib.Pipeline.ArrRel

@[expose] public section

set_option maxRecDepth 16384

noncomputable section

namespace Cert.Moe

open Cert.KernelIdeal Cert.KernelIdeal.Gen
open Idealize.ShloMosaic
open Idealize.ShloMosaic.TcCoe
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.VecWindow

variable {F : FTy → Type} [FloatOps F]

local notation "𝕄" => MT nD τ sig Unit (Elt F) ℕ (UR sig nD τ) ℕ

/-- The host's operations, stretch by stretch. -/
abbrev host : List (List (HloOp τ sig (Elt F))) := [hostOps0, hostOps0_1, hostOps0_2, hostOps0_3, hostOps0_4]

section
variable (m : (ℓ : Loc nD τ sig) → Buf (Elt F) ℓ)

/-- What each buffer holds when the kernel is called. -/
def V (c : Dev nD) (b : Ref sig .tc) : Buf (Elt F) ((c.tc : Thread nD τ).loc b) :=
  StableHlo.after (host (F := F)).flatten (fun b => m (c, b)) b

theorem V_def : V m = fun (c : Dev nD) (b : Ref sig .tc) => StableHlo.after (host (F := F)).flatten (fun b => m (c, b)) b := rfl

attribute [irreducible] V

/-- The table of counts the kernel is called with. -/
def tab : (pcfg0 (F := F)).Adm := ⟨fun k => V m 0 (pre0.ref k), trivial⟩

/-- The call as a pipeline at that table. -/
abbrev cfgT : Pipeline.Cfg sig Λ₀ := Pipeline.pin (pcfgs (F := F)) (fun _ => tab m) 0

/-- The part of an array a window holds at a point, over what its buffer held before. -/
def seen (c : Dev nD) (w : Fin 9) (t : Fin (cfgT m).N) (d : ((cfgT m).win w).block.Idx → Elt F ((cfgT m).win w).elt) :
    ((cfgT m).win w).block.Idx → Elt F ((cfgT m).win w).elt :=
  ((cfgT m).win w).fill ((cfgT m).grid.coords t) d (((cfgT m).win w).blk t |>.view.read (Elt F) (V m c (Pipeline.arrRef spec0 w)))

/-- The counts. -/
def counts (c : Dev nD) : Vec F S320 .i32 := V m c main_v14

/-- What the kernel reads at point `t`: the table, and of each array the block of the point. -/
def Seen (c : Dev nD) (t : Fin (cfgT m).N) (I : Ins F) : Prop :=
  I.cnt = counts m c ∧ (∃ d, I.x = seen m c 0 t d) ∧ (∃ d, I.cmb = seen m c 1 t d) ∧ (∃ d, I.lt = seen m c 2 t d)
    ∧ (∃ d, I.w1 = seen m c 3 t d) ∧ (∃ d, I.w3 = seen m c 4 t d) ∧ (∃ d, I.w2 = seen m c 5 t d)
    ∧ (∃ d, I.lw = seen m c 6 t d) ∧ (∃ d, I.lb = seen m c 7 t d)

/-- The buffers of point `t`. -/
def bufs (t : Fin (cfgT m).N) : Bufs :=
  let s := (cfgT m).slots t
  ⟨Memref.whole main_v14, Memref.isWhole_whole _, spec0_0.stage (s 0), hstage0_0 ((s 0).cast nbuf0_0), spec0_1.stage (s 1), hstage0_1 ((s 1).cast nbuf0_1), spec0_2.stage (s 2), hstage0_2 ((s 2).cast nbuf0_2), spec0_3.stage (s 3), hstage0_3 ((s 3).cast nbuf0_3), spec0_4.stage (s 4), hstage0_4 ((s 4).cast nbuf0_4), spec0_5.stage (s 5), hstage0_5 ((s 5).cast nbuf0_5), spec0_6.stage (s 6), hstage0_6 ((s 6).cast nbuf0_6), spec0_7.stage (s 7), hstage0_7 ((s 7).cast nbuf0_7), spec0_8.stage (s 8), hstage0_8 ((s 8).cast nbuf0_8), Memref.whole cc0_scratch0, Memref.isWhole_whole _, Memref.whole cc0_scratch1, Memref.isWhole_whole _, Memref.whole cc0_scratch2, Memref.isWhole_whole _, Memref.whole cc0_scratch3, Memref.isWhole_whole _, Memref.whole cc0_scratch4, Memref.isWhole_whole _⟩

/-- The scratch buffers. -/
def scr (c : Dev nD) (σ : St F) : sProp 𝕄 :=
  iprop(owns (c : Thread nD τ) (Memref.whole cc0_scratch0) fullShare σ.xb ∗ owns (c : Thread nD τ) (Memref.whole cc0_scratch1) fullShare σ.xs ∗ owns (c : Thread nD τ) (Memref.whole cc0_scratch2) fullShare σ.ys ∗ owns (c : Thread nD τ) (Memref.whole cc0_scratch3) fullShare σ.gs ∗ owns (c : Thread nD τ) (Memref.whole cc0_scratch4) fullShare σ.pos)

variable (S : ℕ → St F → Prop) (O : ℕ → Vec F S1664x1024 .f32 → Prop)

/-- What is kept between points: the scratch buffers, of which `S` holds, the table, the generator register. -/
def kept (c : Dev nD) (n : ℕ) : sProp 𝕄 :=
  iprop(∃ σ : St F, ⌜S n σ⌝ ∗ scr c σ ∗ Pipeline.ΦT (U := UR sig nD τ) pre0 (tab m).1 c ∗ ∃ r, prngReg c r)

/-- The proof data: every window read is left as found, and of the window written `O` holds. -/
def rdat (c : Dev nD) : RDat τ (Elt F) Unit ℕ (UR sig nD τ) ℕ (cfgT m) c where
  A w := V m c (Pipeline.arrRef spec0 w)
  after := fun
    | 0 => fun _ Y X => X = Y | 1 => fun _ Y X => X = Y | 2 => fun _ Y X => X = Y | 3 => fun _ Y X => X = Y
    | 4 => fun _ Y X => X = Y | 5 => fun _ Y X => X = Y | 6 => fun _ Y X => X = Y | 7 => fun _ Y X => X = Y
    | 8 => fun t _ X => O (t.val + 1) X
    | ⟨_ + 9, h⟩ => absurd h (Nat.not_lt.2 (Nat.le_add_left _ _))
  Φ n := kept m S c n.val
  q _ := fullShare
  owed _ := 0

theorem defs_tc : (defs₀ (F := F)) .tc (cfgT m).body = fun a => cc0_moe_routed (grid0.coords a.1) (Memref.whole main_v14) (Memref.isWhole_whole _) (spec0_0.stage (a.2 0)) (hstage0_0 ((a.2 0).cast nbuf0_0)) (spec0_1.stage (a.2 1)) (hstage0_1 ((a.2 1).cast nbuf0_1)) (spec0_2.stage (a.2 2)) (hstage0_2 ((a.2 2).cast nbuf0_2)) (spec0_3.stage (a.2 3)) (hstage0_3 ((a.2 3).cast nbuf0_3)) (spec0_4.stage (a.2 4)) (hstage0_4 ((a.2 4).cast nbuf0_4)) (spec0_5.stage (a.2 5)) (hstage0_5 ((a.2 5).cast nbuf0_5)) (spec0_6.stage (a.2 6)) (hstage0_6 ((a.2 6).cast nbuf0_6)) (spec0_7.stage (a.2 7)) (hstage0_7 ((a.2 7).cast nbuf0_7)) (spec0_8.stage (a.2 8)) (hstage0_8 ((a.2 8).cast nbuf0_8)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) := rfl

theorem prog_eq (t : Fin (cfgT m).N) : (defs₀ (F := F)) .tc (cfgT m).body ((cfgT m).bodyArgs t ((cfgT m).slots t)) = cc0_moe_routed (grid0.coords t) (bufs m t).a3 (bufs m t).h3 (bufs m t).a4 (bufs m t).h4 (bufs m t).a5 (bufs m t).h5 (bufs m t).a6 (bufs m t).h6 (bufs m t).a7 (bufs m t).h7 (bufs m t).a8 (bufs m t).h8 (bufs m t).a9 (bufs m t).h9 (bufs m t).a10 (bufs m t).h10 (bufs m t).a11 (bufs m t).h11 (bufs m t).a12 (bufs m t).h12 (bufs m t).a13 (bufs m t).h13 (bufs m t).a14 (bufs m t).h14 (bufs m t).a15 (bufs m t).h15 (bufs m t).a16 (bufs m t).h16 (bufs m t).a17 (bufs m t).h17 :=
  (congrFun (defs_tc m) _).trans rfl

theorem below8 {w : ℕ} (h : w < 8) : w = 0 ∨ w = 1 ∨ w = 2 ∨ w = 3 ∨ w = 4 ∨ w = 5 ∨ w = 6 ∨ w = 7 := by omega

/-- What window `w` is found to hold, for a window read. -/
theorem found (c : Dev nD) (t : Fin (cfgT m).N) (w : Fin (cfgT m).W) (hw : w.val < 8) Y (h : (rdat m S O c).Finds w t Y) : ∃ d, Y = seen m c w t d := by
  refine (rdat m S O c).finds_in_eq_fetched w ?_ ?_ ?_ t Y h
  · obtain ⟨w, hw'⟩ := w
    rcases below8 hw with e | e | e | e | e | e | e | e <;> cases e <;> rfl
  · obtain ⟨w, hw'⟩ := w
    intro t t' h
    rcases below8 hw with e | e | e | e | e | e | e | e <;> cases e
    · exact congrArg (fun (v : Fin 2 → ℕ) a => Pipeline.Clip.of (v a) (S1664x1024.size a) (S32768x1024.size a)) h
    all_goals rfl
  · obtain ⟨w, hw'⟩ := w
    intro t Y X
    rcases below8 hw with e | e | e | e | e | e | e | e <;> cases e <;> exact id

theorem coord0 (t : Fin grid0.N) : (grid0.coords t 0).val = t.val / 32 := by
  rw [Pipeline.Grid.coords_val t 0 (S := 32) (B := 20) (by decide) rfl]
  have h : t.val < 640 := N_0 ▸ t.isLt
  omega
theorem coord1 (t : Fin grid0.N) : (grid0.coords t 1).val = t.val / 4 % 8 :=
  Pipeline.Grid.coords_val t 1 (S := 4) (B := 8) (by decide) rfl
theorem coord2 (t : Fin grid0.N) : (grid0.coords t 2).val = t.val % 4 := by
  rw [Pipeline.Grid.coords_val t 2 (S := 1) (B := 4) (by decide) rfl]; omega

theorem same_block (t t' : Fin grid0.N) (h : t.val / 32 = t'.val / 32) : cc0_transform_8 (grid0.coords t) = cc0_transform_8 (grid0.coords t') := by
  have e : grid0.coords t 0 = grid0.coords t' 0 := Fin.ext (by rw [coord0, coord0, h])
  unfold cc0_transform_8
  dsimp only
  rw [e]

/-- Within a block the buffer of the result holds what was left there before. -/
theorem found_o (c : Dev nD) (t : Fin (cfgT m).N) (Y : Vec F S1664x1024 .f32) (h : (rdat m S O c).Finds (8 : Fin 9) t Y) (ht : t.val % 32 ≠ 0) : O t.val Y := by
  have h0 : t.val ≠ 0 := fun e => ht (by rw [e])
  rw [RDat.finds_of_pos _ (Pipeline.Window.fetch_out _ rfl _) h0] at h
  rcases h with h | ⟨Y', -, h⟩
  · exfalso
    unfold Pipeline.Window.flush at h
    rw [Bool.and_eq_true, Bool.or_eq_true, decide_eq_true_eq, decide_eq_true_eq] at h
    have hN := t.isLt
    rcases h.2 with e | ⟨hl, hne⟩
    · have : t.val - 1 + 1 = (cfgT m).N := e
      omega
    · exact hne (same_block _ _ (show (t.val - 1 + 1) / 32 = (t.val - 1) / 32 by omega))
  · have e : t.val - 1 + 1 = t.val := by omega
    have h' : O (t.val - 1 + 1) Y := h
    rwa [e] at h'

/-- That `S` and `O` are kept by each point. -/
def Steps (c : Dev nD) : Prop :=
  ∀ (t : Fin grid0.N) (I : Ins F) (σ : St F) (o : Vec F S1664x1024 .f32) (v5 v29 : BitVec 32) (w1 : k0_chk1 (grid0.coords t) v5) (w2 : k0_chk2 (grid0.coords t) v29),
    Seen m c t I → cntOf (grid0.coords t) I 0 = v5 → cntOf (grid0.coords t) I 1 = v29 → v5.toNat ≤ 832 → v29.toNat ≤ 832 →
    S t.val { σ with o := o } → (t.val % 32 ≠ 0 → O t.val σ.o) →
    S (t.val + 1) (point (grid0.coords t) v5 v29 w1 w2 I σ) ∧ O (t.val + 1) (point (grid0.coords t) v5 v29 w1 w2 I σ).o

/-- That the table holds counts of at most 832. -/
def Counts (c : Dev nD) : Prop := ∀ j, BitVec.toNat (counts m c j) ≤ 832

theorem seen_of (c : Dev nD) (t : Fin (cfgT m).N) (y0 : Vec F S1664x1024 .f32) (y1 : Vec F S1664x128 .f32) (y2 : Vec F S64x64 .f32) (y3 : Vec F S1x896x1024 .bf16) (y4 : Vec F S1x896x1024 .bf16) (y5 : Vec F S1x1024x896 .bf16) (y6 y7 : Vec F S1x1024 .f32)
    (h0 : ∃ d, y0 = seen m c 0 t d) (h1 : ∃ d, y1 = seen m c 1 t d) (h2 : ∃ d, y2 = seen m c 2 t d) (h3 : ∃ d, y3 = seen m c 3 t d) (h4 : ∃ d, y4 = seen m c 4 t d) (h5 : ∃ d, y5 = seen m c 5 t d) (h6 : ∃ d, y6 = seen m c 6 t d) (h7 : ∃ d, y7 = seen m c 7 t d) :
    Seen m c t ⟨counts m c, y0, y1, y2, y3, y4, y5, y6, y7⟩ := by
  unfold Seen
  dsimp only
  exact ⟨rfl, h0, h1, h2, h3, h4, h5, h6, h7⟩

/-- The table as the body holds it. -/
theorem table_eq (c : Dev nD) : (Pipeline.ΦT (U := UR sig nD τ) pre0 (tab m).1 c : sProp 𝕄) = owns (c : Thread nD τ) (Memref.whole main_v14) fullShare.right (counts m c) := by
  obtain rfl : c = 0 := Subsingleton.elim _ _
  have h1 : (Pipeline.ΦT (U := UR sig nD τ) pre0 (tab m).1 0 : sProp 𝕄) = iprop(((0 : Dev nD) : Thread nD τ).loc (pre0.ref (0 : Fin 1)) ↦{fullShare.right} (tab m).1 (0 : Fin 1)) :=
    bigSep_univ_eq_bigSepL [(0 : Fin 1)] (by decide) (by decide) _
  have h2 := owns_whole (Ix := Unit) (Name := ℕ) (U := UR sig nD τ) (Lvl := ℕ) (Val := Elt F) ((0 : Dev nD) : Thread nD τ) (pre0.ref (0 : Fin 1)) fullShare.right ((tab m).1 (0 : Fin 1))
  rw [h1, ← h2]
  rfl

/-- The windows' buffers at point `t`. -/
def wins (c : Dev nD) (t : Fin (cfgT m).N) (I : Ins F) : sProp 𝕄 :=
  iprop(owns (c : Thread nD τ) (bufs m t).a4 fullShare I.x ∗ owns c (bufs m t).a5 fullShare I.cmb ∗ owns c (bufs m t).a6 fullShare I.lt ∗ owns c (bufs m t).a7 fullShare I.w1 ∗ owns c (bufs m t).a8 fullShare I.w3 ∗ owns c (bufs m t).a9 fullShare I.w2 ∗ owns c (bufs m t).a10 fullShare I.lw ∗ owns c (bufs m t).a11 fullShare I.lb)

theorem gather (c : Dev nD) (t : Fin (cfgT m).N) (I : Ins F) (hI : I.cnt = counts m c) (σ : St F) (o : Vec F S1664x1024 .f32) :
    iprop(scr c σ ∗ Pipeline.ΦT (U := UR sig nD τ) pre0 (tab m).1 c ∗ wins m c t I ∗ owns (c : Thread nD τ) (bufs m t).a12 fullShare o) ⊢ (RAll c (bufs m t) fullShare.right I { σ with o := o } : sProp 𝕄) := by
  rw [table_eq, ← hI]
  unfold scr RAll RIn RSt wins
  iintro ⟨⟨A, B, C, D, E⟩, T, ⟨X0, X1, X2, X3, X4, X5, X6, X7⟩, O⟩
  isplitl [T X0 X1 X2 X3 X4 X5 X6 X7]
  · iframe X0 X1 X2 X3 X4 X5 X6 X7
    iexact T
  · iframe O
    isplitl [A]; · iexact A
    isplitl [B]; · iexact B
    isplitl [C]; · iexact C
    isplitl [D]; · iexact D
    iexact E

theorem scatter (c : Dev nD) (t : Fin (cfgT m).N) (I : Ins F) (hI : I.cnt = counts m c) (σ : St F) :
    (RAll c (bufs m t) fullShare.right I σ : sProp 𝕄) ⊢ iprop(scr c σ ∗ Pipeline.ΦT (U := UR sig nD τ) pre0 (tab m).1 c ∗ wins m c t I ∗ owns (c : Thread nD τ) (bufs m t).a12 fullShare σ.o) := by
  rw [table_eq, ← hI]
  unfold scr RAll RIn RSt wins
  iintro ⟨⟨T, X0, X1, X2, X3, X4, X5, X6, X7⟩, ⟨O, A, B, C, D, E⟩⟩
  isplitl [A B C D E]
  · isplitl [A]; · iexact A
    isplitl [B]; · iexact B
    isplitl [C]; · iexact C
    isplitl [D]; · iexact D
    iexact E
  isplitl [T]; · iexact T
  iframe X0 X1 X2 X3 X4 X5 X6 X7 O

theorem cnt_le (c : Dev nD) (hn : Counts m c) (i : grid0.Coords) (I : Ins F) (hI : I.cnt = counts m c) (s : Fin 2) : (cntOf i I s).toNat ≤ 832 := by
  unfold cntOf
  rw [hI]
  exact hn _

theorem inv_at (c : Dev nD) (n : Fin ((cfgT m).N + 1)) : (rdat m S O c).Φ n = (kept m S c n.val : sProp 𝕄) := rfl
theorem before (c : Dev nD) (t : Fin (cfgT m).N) : (rdat m S O c).Φ t.castSucc ⊢ (kept m S c t.val : sProp 𝕄) :=
  Entails.of_eq ((inv_at m S O c t.castSucc).trans (congrArg (kept m S c) (Fin.val_castSucc t)))
theorem past (c : Dev nD) (t : Fin (cfgT m).N) : (kept m S c (t.val + 1) : sProp 𝕄) ⊢ (rdat m S O c).Φ t.succ :=
  Entails.of_eq ((inv_at m S O c t.succ).trans (congrArg (kept m S c) (Fin.val_succ t))).symm

/-- One point, from what is kept before it to what is kept after it. -/
theorem one_point (𝒱 : Variants) (c : Dev nD) (hS : Steps m S O c) (hn : Counts m c) (t : Fin (cfgT m).N) (I : Ins F) (hI : Seen m c t I) (o : Vec F S1664x1024 .f32)
    (ho : t.val % 32 ≠ 0 → O t.val o) :
    iprop(kept m S c t.val ∗ wins m c t I ∗ owns (c : Thread nD τ) (bufs m t).a12 fullShare o)
      ⊢ (wp frame (wpE (defs₀ (F := F)) 𝒱 (c : Thread nD τ) none) Set.univ (cc0_moe_routed (grid0.coords t) (bufs m t).a3 (bufs m t).h3 (bufs m t).a4 (bufs m t).h4 (bufs m t).a5 (bufs m t).h5 (bufs m t).a6 (bufs m t).h6 (bufs m t).a7 (bufs m t).h7 (bufs m t).a8 (bufs m t).h8 (bufs m t).a9 (bufs m t).h9 (bufs m t).a10 (bufs m t).h10 (bufs m t).a11 (bufs m t).h11 (bufs m t).a12 (bufs m t).h12 (bufs m t).a13 (bufs m t).h13 (bufs m t).a14 (bufs m t).h14 (bufs m t).a15 (bufs m t).h15 (bufs m t).a16 (bufs m t).h16 (bufs m t).a17 (bufs m t).h17)
        (fun _ => iprop(kept m S c (t.val + 1) ∗ wins m c t I ∗ ∃ X, ⌜O (t.val + 1) X⌝ ∗ owns (c : Thread nD τ) (bufs m t).a12 fullShare X)) : sProp 𝕄) := by
  have hc := hI.1
  have h5 := cnt_le m c hn (grid0.coords t) I hc 0
  have h29 := cnt_le m c hn (grid0.coords t) I hc 1
  generalize e5 : cntOf (grid0.coords t) I 0 = v5 at h5
  generalize e29 : cntOf (grid0.coords t) I 1 = v29 at h29
  unfold kept
  iintro ⟨⟨%σ, %hσ, Hs, HT, Hp⟩, Hw, Ho⟩
  have hσ' := hS t I { σ with o := o } σ.o v5 v29 (chk1 _ _ h5) (chk2 _ _ h29) hI e5 e29 h5 h29 hσ ho
  ihave H := (gather m c t I hc σ o) $$ [Hs HT Hw Ho]
  · iframe Hs HT Hw Ho
  ihave H := (point_spec c (bufs m t) (grid0.coords t) 𝒱 none Set.univ fullShare.right I v5 v29 (chk1 _ _ h5) (chk2 _ _ h29) e5 e29 h5 h29 { σ with o := o }) $$ H
  iapply (wp_wand _ _ _) $$ H
  iintro %_ H
  ihave H := (scatter m c t I hc _) $$ H
  icases H with ⟨Hs, HT, Hw, Ho⟩
  isplitl [Hs HT Hp]
  · iexists _
    isplitr
    · ipureintro; exact hσ'.1
    · iframe Hs HT Hp
  iframe Hw
  iexists _
  isplitr
  · ipureintro; exact hσ'.2
  · iexact Ho

set_option backward.isDefEq.respectTransparency.types false in
theorem obligation (𝒱 : Variants) (c : Dev nD) (hS : Steps m S O c) (hn : Counts m c) : (rdat m S O c).BodyObligation (defs₀ (F := F)) 𝒱 () Set.univ := fun t Y hY => by
  obtain ⟨d0, e0⟩ := found m S O c t (0 : Fin 9) (Nat.le_of_ble_eq_true rfl) _ (hY (0 : Fin 9))
  obtain ⟨d1, e1⟩ := found m S O c t (1 : Fin 9) (Nat.le_of_ble_eq_true rfl) _ (hY (1 : Fin 9))
  obtain ⟨d2, e2⟩ := found m S O c t (2 : Fin 9) (Nat.le_of_ble_eq_true rfl) _ (hY (2 : Fin 9))
  obtain ⟨d3, e3⟩ := found m S O c t (3 : Fin 9) (Nat.le_of_ble_eq_true rfl) _ (hY (3 : Fin 9))
  obtain ⟨d4, e4⟩ := found m S O c t (4 : Fin 9) (Nat.le_of_ble_eq_true rfl) _ (hY (4 : Fin 9))
  obtain ⟨d5, e5⟩ := found m S O c t (5 : Fin 9) (Nat.le_of_ble_eq_true rfl) _ (hY (5 : Fin 9))
  obtain ⟨d6, e6⟩ := found m S O c t (6 : Fin 9) (Nat.le_of_ble_eq_true rfl) _ (hY (6 : Fin 9))
  obtain ⟨d7, e7⟩ := found m S O c t (7 : Fin 9) (Nat.le_of_ble_eq_true rfl) _ (hY (7 : Fin 9))
  have e8 := found_o m S O c t _ (hY (8 : Fin 9))
  generalize hI : (⟨counts m c, Y (0 : Fin 9), Y (1 : Fin 9), Y (2 : Fin 9), Y (3 : Fin 9), Y (4 : Fin 9), Y (5 : Fin 9), Y (6 : Fin 9), Y (7 : Fin 9)⟩ : Ins F) = I
  have hIs : Seen m c t I := by
    rw [← hI]
    exact seen_of m c t _ _ _ _ _ _ _ _ ⟨d0, e0⟩ ⟨d1, e1⟩ ⟨d2, e2⟩ ⟨d3, e3⟩ ⟨d4, e4⟩ ⟨d5, e5⟩ ⟨d6, e6⟩ ⟨d7, e7⟩
  rw [bigSep_W0, bigSep_W0]
  sl_rw [prog_eq m t]
  iintro ⟨HK, HO, H0, H1, H2, H3, H4, H5, H6, H7, H8⟩
  ihave H := (one_point m S O 𝒱 c hS hn t I hIs (Y (8 : Fin 9)) e8) $$ [HK H0 H1 H2 H3 H4 H5 H6 H7 H8]
  · isplitl [HK]
    · iapply (before m S O c t); iexact HK
    isplitl [H0 H1 H2 H3 H4 H5 H6 H7]
    · unfold wins
      rw [← hI]
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    iexact H8
  iapply (wp_wand _ _ _) $$ H
  unfold wins
  rw [← hI]
  iintro %_ ⟨HK, ⟨H0, H1, H2, H3, H4, H5, H6, H7⟩, %X, %hX, H8⟩
  isplitl [HK]
  · iapply (past m S O c t); iexact HK
  isplitl [HO]; · iexact HO
  isplitl [H0]
  · iexists _; isplitr
    · ipureintro; exact rfl
    · iexact H0
  isplitl [H1]
  · iexists _; isplitr
    · ipureintro; exact rfl
    · iexact H1
  isplitl [H2]
  · iexists _; isplitr
    · ipureintro; exact rfl
    · iexact H2
  isplitl [H3]
  · iexists _; isplitr
    · ipureintro; exact rfl
    · iexact H3
  isplitl [H4]
  · iexists _; isplitr
    · ipureintro; exact rfl
    · iexact H4
  isplitl [H5]
  · iexists _; isplitr
    · ipureintro; exact rfl
    · iexact H5
  isplitl [H6]
  · iexists _; isplitr
    · ipureintro; exact rfl
    · iexact H6
  isplitl [H7]
  · iexists _; isplitr
    · ipureintro; exact rfl
    · iexact H7
  iexists X; isplitr
  · ipureintro; exact hX
  · iexact H8

end

end Cert.Moe

end
-- ==== Proof.Host.lean ====
/- What the host's operations hand the kernel. -/
module

public import proofs.«01_k».proof.Proof.Run
public import Idealize.ShloMosaic.Lib.StableHlo.RunRead
public import Idealize.ShloMosaic.Lib.Claim
public import Idealize.ShloMosaic.PureOps.Reduce

@[expose] public section

set_option maxRecDepth 16384

noncomputable section

namespace Cert.Moe

open Cert.KernelIdeal Cert.KernelIdeal.Gen
open Idealize.ShloMosaic
open Idealize.ShloMosaic.TcCoe
open Idealize.ShloMosaic.StableHlo
open Idealize.SL.Sem

variable {F : FTy → Type} [FloatOps F]

/-- The gates padded with columns to 128 and then with rows to 33280. -/
def padded (g : Vec F S32768x8 .f32) : Vec F S33280x128 .f32 :=
  pad S33280x128 ![0, 0] ![512, 0] ![0, 0] (pad S32768x128 ![0, 0] ![0, 120] ![0, 0] g (sitofp .f32 (constantI S_ 32 0#32)) pads_S32768x8_S32768x128_000_01200 h_S_) (sitofp .f32 (constantI S_ 32 0#32)) pads_S32768x128_S33280x128_05120_000 h_S_

/-- Whether each gate is above zero, a word for each row of a half block and each expert. -/
def bits (p : Vec F S33280x128 .f32) : IVec S40x832x8 32 :=
  extui 32 (shapeCast S40x832x8 (cmpf .ogt (extractStridedSlice S33280x8 ![0, 0] p slices_S33280x128_S33280x8_0_0) (broadcastInDim S33280x8 ![] bcast_S_S33280x8 (constant S_ .f32 0x00000000#32))) shapeCasts_S33280x8_S40x832x8) natLt_1_32

/-- The gates above zero counted for each half block and each expert. -/
def tally (p : Vec F S33280x128 .f32) : IVec S40x8 32 :=
  Host.reduce IntOp.addi (bits p) (constantI S_ 32 0#32) reducesTo_S40x832x8_S40x8_d1 h_S_

section
variable (m : (ℓ : Loc nD τ sig) → Buf (Elt F) ℓ) (c : Dev nD)

theorem V_x : V m c main_arg0 = m (c, main_arg0) := by
  rw [V_def]
  dsimp only [host, List.flatten, List.append]
  after_results

theorem V_cmb : V m c main_v7 = padded (m (c, main_arg1)) := by
  rw [V_def]
  dsimp only [host, List.flatten, List.append]
  after_results
  rfl

theorem V_lt : V m c main_cst = (fun i => FloatOps.ofBits .f32 (lit0 (S64x64.rowMajor i)) : Vec F S64x64 .f32) := by
  rw [V_def]
  dsimp only [host, List.flatten, List.append]
  after_results
  rfl

theorem V_w1 : V m c main_v2 = truncf .bf16 (transpose S8x3584x1024 [0, 2, 1] (m (c, main_arg2)) transposes_S8x1024x3584_S8x3584x1024_0_2_1) bitsLt_bf16_f32 := by
  rw [V_def]
  dsimp only [host, List.flatten, List.append]
  after_results

theorem V_w3 : V m c main_v4 = truncf .bf16 (transpose S8x3584x1024 [0, 2, 1] (m (c, main_arg3)) transposes_S8x1024x3584_S8x3584x1024_0_2_1) bitsLt_bf16_f32 := by
  rw [V_def]
  dsimp only [host, List.flatten, List.append]
  after_results

theorem V_w2 : V m c main_v6 = truncf .bf16 (transpose S8x1024x3584 [0, 2, 1] (m (c, main_arg4)) transposes_S8x3584x1024_S8x1024x3584_0_2_1) bitsLt_bf16_f32 := by
  rw [V_def]
  dsimp only [host, List.flatten, List.append]
  after_results

theorem V_lw : V m c main_v15 = shapeCast S1x1024 (m (c, main_arg5)) shapeCasts_S1024_S1x1024 := by
  rw [V_def]
  dsimp only [host, List.flatten, List.append]
  after_results
  rfl

theorem V_lb : V m c main_v16 = shapeCast S1x1024 (m (c, main_arg6)) shapeCasts_S1024_S1x1024 := by
  rw [V_def]
  dsimp only [host, List.flatten, List.append]
  after_results
  rfl

theorem V_counts : V m c main_v14 = shapeCast S320 (tally (padded (m (c, main_arg1)))) shapeCasts_S40x8_S320 := by
  rw [V_def]
  dsimp only [host, List.flatten, List.append]
  after_results
  rfl

theorem V_arg1 : V m c main_arg1 = m (c, main_arg1) := by
  rw [V_def]
  dsimp only [host, List.flatten, List.append]
  after_results

theorem V_arg2 : V m c main_arg2 = m (c, main_arg2) := by
  rw [V_def]
  dsimp only [host, List.flatten, List.append]
  after_results

theorem V_arg3 : V m c main_arg3 = m (c, main_arg3) := by
  rw [V_def]
  dsimp only [host, List.flatten, List.append]
  after_results

theorem V_arg4 : V m c main_arg4 = m (c, main_arg4) := by
  rw [V_def]
  dsimp only [host, List.flatten, List.append]
  after_results

theorem V_arg5 : V m c main_arg5 = m (c, main_arg5) := by
  rw [V_def]
  dsimp only [host, List.flatten, List.append]
  after_results

theorem V_arg6 : V m c main_arg6 = m (c, main_arg6) := by
  rw [V_def]
  dsimp only [host, List.flatten, List.append]
  after_results

end

theorem fold_bits {n : ℕ} (hn : n ≤ 832) (b : Fin n → BitVec 32) (hb : ∀ k, (b k).toNat ≤ 1) (s : Finset (Fin n)) :
    (s.fold IntOp.addi (0#32) b).toNat = ∑ k ∈ s, (b k).toNat := by
  classical
  have hs : ∀ s : Finset (Fin n), ∑ k ∈ s, (b k).toNat ≤ 832 := fun s =>
    (Finset.sum_le_card_nsmul s _ 1 fun k _ => hb k).trans (by
      have h1 : s.card ≤ n := by simpa using s.card_le_univ
      rw [smul_eq_mul, mul_one]; omega)
  induction s using Finset.induction_on with
  | empty => rfl
  | insert k s hk ih =>
    have h1 := hs (insert k s)
    rw [Finset.sum_insert hk] at h1 ⊢
    rw [Finset.fold_insert hk]
    show (b k + s.fold IntOp.addi (0#32) b).toNat = _
    rw [BitVec.toNat_add, ih]
    exact Nat.mod_eq_of_lt (by omega)

theorem reduces_mid : S40x832x8.Reduces [1] S40x8 := by decide

theorem bits_le (p : Vec F S33280x128 .f32) (i : S40x832x8.Idx) : (bits p i).toNat ≤ 1 := by
  unfold bits
  show (BitVec.zeroExtend 32 _ : BitVec 32).toNat ≤ 1
  generalize shapeCast S40x832x8 _ _ i = w
  revert w
  decide

theorem tally_toNat (p : Vec F S33280x128 .f32) (j : S40x8.Idx) :
    (tally p j).toNat = ∑ k : Fin 832, (bits p (reduces_mid.lift j k)).toNat := by
  unfold tally
  rw [Host.reduce_eq_fold_single IntOp.addi (bits p) _ _ reduces_mid]
  exact fold_bits (n := 832) le_rfl _ (fun k => bits_le p _) Finset.univ

theorem tally_le (p : Vec F S33280x128 .f32) (j : S40x8.Idx) : (tally p j).toNat ≤ 832 := by
  rw [tally_toNat]
  exact (Finset.sum_le_card_nsmul _ _ 1 fun k _ => bits_le p _).trans (by simp)

theorem counts_le (m : (ℓ : Loc nD τ sig) → Buf (Elt F) ℓ) (c : Dev nD) : Counts m c := by
  intro j
  have e : counts m c = shapeCast S320 (tally (padded (m (c, main_arg1)))) shapeCasts_S40x8_S320 := V_counts m c
  rw [e]
  exact tally_le _ _

end Cert.Moe

end
-- ==== Proof.Frames.lean ====
/- The kernel runs, and what holds at the end of its run. -/
module

public import proofs.«01_k».proof.Proof.Host

@[expose] public section

set_option maxRecDepth 16384

noncomputable section

namespace Cert.Moe

open Cert.KernelIdeal Cert.KernelIdeal.Gen
open Idealize.ShloMosaic
open Idealize.ShloMosaic.TcCoe
open Idealize.ShloMosaic.Pipeline (RDat)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (m : (ℓ : Loc nD τ sig) → Buf (Elt F) ℓ) (S : ℕ → St F → Prop) (O : ℕ → Vec F S1664x1024 .f32 → Prop)

theorem enters (c : Dev nD) (h : ∀ σ, S 0 σ) : iprop(Pipeline.ΦA (U := UR sig nD τ) spec0 c ∗ Pipeline.ΦT (U := UR sig nD τ) pre0 (tab m).1 c) ⊢ (kept m S c 0 : sProp 𝕄) := by
  unfold Pipeline.ΦA kept scr
  rw [scopedRest0_eq]
  iintro ⟨⟨⟨⟨%f0, H0⟩, ⟨%f1, H1⟩, ⟨%f2, H2⟩, ⟨%f3, H3⟩, ⟨%f4, H4⟩⟩, Hp⟩, HT⟩
  iexists (⟨f0, f1, f2, f3, f4, k0_pay6⟩ : St F)
  isplitr
  · ipureintro; exact h _
  iframe HT Hp
  isplitl [H0]
  · iapply (Entails.of_eq (owns_whole (c : Thread nD τ) cc0_scratch0 fullShare f0).symm); iexact H0
  isplitl [H1]
  · iapply (Entails.of_eq (owns_whole (c : Thread nD τ) cc0_scratch1 fullShare f1).symm); iexact H1
  isplitl [H2]
  · iapply (Entails.of_eq (owns_whole (c : Thread nD τ) cc0_scratch2 fullShare f2).symm); iexact H2
  isplitl [H3]
  · iapply (Entails.of_eq (owns_whole (c : Thread nD τ) cc0_scratch3 fullShare f3).symm); iexact H3
  iapply (Entails.of_eq (owns_whole (c : Thread nD τ) cc0_scratch4 fullShare f4).symm); iexact H4

theorem leaves (c : Dev nD) (n : ℕ) : (kept m S c n : sProp 𝕄) ⊢ Pipeline.ΦA (U := UR sig nD τ) spec0 c := by
  unfold Pipeline.ΦA kept scr
  rw [scopedRest0_eq]
  iintro ⟨%σ, %_, ⟨H0, H1, H2, H3, H4⟩, HT, Hp⟩
  iframe Hp
  isplitl [H0]
  · iexists σ.xb; iapply (Entails.of_eq (owns_whole (c : Thread nD τ) cc0_scratch0 fullShare σ.xb)); iexact H0
  isplitl [H1]
  · iexists σ.xs; iapply (Entails.of_eq (owns_whole (c : Thread nD τ) cc0_scratch1 fullShare σ.xs)); iexact H1
  isplitl [H2]
  · iexists σ.ys; iapply (Entails.of_eq (owns_whole (c : Thread nD τ) cc0_scratch2 fullShare σ.ys)); iexact H2
  isplitl [H3]
  · iexists σ.gs; iapply (Entails.of_eq (owns_whole (c : Thread nD τ) cc0_scratch3 fullShare σ.gs)); iexact H3
  iexists σ.pos; iapply (Entails.of_eq (owns_whole (c : Thread nD τ) cc0_scratch4 fullShare σ.pos)); iexact H4

theorem host_main : Pipeline.HMainP (Ix := Unit) (Name := ℕ) (U := UR sig nD τ) (Lvl := ℕ) (pcfgs (F := F)) 0 defs₀ Variants.none m main (V m) := by
  rw [V_def]
  exact Pipeline.hmainP_prefixes (pcfgs (F := F)) 0 defs₀ Variants.none m main host
    ⟨hostOps0_sub, hostOps0_1_sub, hostOps0_2_sub, hostOps0_3_sub, hostOps0_4_sub⟩
    ⟨⟨rfl, rfl⟩, ⟨rfl, rfl⟩, ⟨rfl, rfl, rfl, rfl, rfl, rfl, rfl⟩, ⟨rfl, rfl⟩, ⟨rfl, rfl, rfl, rfl, rfl, rfl, rfl, rfl, rfl, rfl, rfl⟩⟩
    main_chain

/-- The run, of any `S` and `O` that the points keep. -/
theorem run_main (g : Dev nD → PrngReg) (h0 : ∀ σ, S 0 σ) (hS : ∀ c, Steps m S O c) :
    θ_run (defs (F := F)) (onTc (τ := τ) (main (F := F))) ⟨m, fun _ => 0, g⟩
      (fun r => RDat.FramePost (cfgT m) (rdat m S O) (V m) r ∧ r.2.sem = (fun _ => 0)) :=
  RDat.θ_run_frameP_track (pcfgs (F := F)) (fun _ => tab m) 0 launch0 defs₀ Variants.none (rdat m S O) m g main
    (fun c => obligation m S O Variants.none c (hS c) (counts_le m c)) (fun c w => by unfold RDat.share; split <;> rfl) (fun _ _ => rfl) (V m) (host_main m)
    (fun _ _ => rfl) (fun c k => by obtain rfl : c = 0 := Subsingleton.elim _ _; rfl)
    (fun c => enters m S c h0) (fun c => leaves m S c _) _ (fun _ h => h)

/-- What the run leaves of an argument that is no window's array. -/
theorem kept_arg (r : PUnit × MemSt nD τ sig (Elt F)) (h : RDat.FramePost (cfgT m) (rdat m S O) (V m) r) (c : Dev nD) (b : Ref sig .tc) (hb : b ∈ Pipeline.restRefs sig spec0)
    (hv : V m c b = m ((c.tc : Thread nD τ).loc b)) : r.2.mem ((c.tc : Thread nD τ).loc b) = m ((c.tc : Thread nD τ).loc b) :=
  ((h c).2 b hb).trans hv

theorem arr_in {cfg : Pipeline.Cfg sig Λ₀} {c : Dev nD} (rd : RDat τ (Elt F) Unit ℕ (UR sig nD τ) ℕ cfg c) (w : Fin cfg.W) (hin : (cfg.win w).isOut = false) (n : ℕ)
    (A : Buf (Elt F) ((cfg.win w).arr.view.loc (c.tc : Thread nD τ))) (h : rd.ArrAt w n A) : A = rd.A w := by
  rw [RDat.ArrAt_in rd w hin] at h
  exact h

theorem read_x (w : Fin 9) (hw : (spec0 w).isOut = false) (r : PUnit × MemSt nD τ sig (Elt F)) (h : RDat.FramePost (cfgT m) (rdat m S O) (V m) r) (c : Dev nD) :
    r.2.mem ((spec0 w).arr.view.loc (c.tc : Thread nD τ)) = V m c (Pipeline.arrRef spec0 w) :=
  arr_in (rdat m S O c) w hw (cfgT m).N _ ((h c).1 w)

theorem kept_x (r : PUnit × MemSt nD τ sig (Elt F)) (h : RDat.FramePost (cfgT m) (rdat m S O) (V m) r) (c : Dev nD) :
    r.2.mem ((c.tc : Thread nD τ).loc main_arg0) = m ((c.tc : Thread nD τ).loc main_arg0) := by
  have h0 := read_x m S O 0 rfl r h c
  exact h0.trans (V_x m c)

/-- The arguments as they were, at the end of a run. -/
theorem kept_args (r : PUnit × MemSt nD τ sig (Elt F)) (h : RDat.FramePost (cfgT m) (rdat m S O) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨kept_x m S O r h c, kept_arg m S O r h c main_arg1 (by decide) (V_arg1 m c), kept_arg m S O r h c main_arg2 (by decide) (V_arg2 m c), kept_arg m S O r h c main_arg3 (by decide) (V_arg3 m c),
    kept_arg m S O r h c main_arg4 (by decide) (V_arg4 m c), kept_arg m S O r h c main_arg5 (by decide) (V_arg5 m c), kept_arg m S O r h c main_arg6 (by decide) (V_arg6 m c)⟩

/-- The run leaves the arguments as they were. -/
theorem run_frame (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => kept_args m (fun _ _ => True) (fun _ _ => True) r h.1 c, h.2⟩)
    (run_main m (fun _ _ => True) (fun _ _ => True) g (fun _ => trivial) fun _ _ _ _ _ _ _ _ _ _ _ _ _ _ _ _ => ⟨trivial, trivial⟩)

end

end Cert.Moe

end
-- ==== Proof.Same.lean ====
/- The two printed programs have the same text: the equations that carry the run of the one over to the other. -/
module
public import proofs.«01_k».proof.Defs
public import proofs.«01_k».proof.Proof.Gen.Kernel
public import proofs.«01_k».proof.Proof.Frames

@[expose] public section
set_option maxRecDepth 16384
noncomputable section
namespace Cert.Moe
open Idealize.ShloMosaic Idealize.SL.Sem
set_option maxHeartbeats 4000000

variable {F : FTy → Type} [FloatOps F]

/-- The two bodies are one. -/
theorem body_eq : @Cert.Kernel.cc0_moe_routed F _ _ = @Cert.KernelIdeal.cc0_moe_routed F _ _ := rfl

/-- The two body tables are one. -/
theorem bodies_eq : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) =>
    dsimp only
    rw [body_eq]
    rfl

/-- The two programs' tables are one. -/
theorem defs_eq : Cert.Kernel.defs (F := F) = Cert.KernelIdeal.defs (F := F) := by
  unfold Cert.Kernel.defs Cert.KernelIdeal.defs
  rw [bodies_eq]
  rfl

/-- The two programs' texts are one. -/
theorem main_eq : Cert.Kernel.main (F := F) = Cert.KernelIdeal.main (F := F) := rfl

/-- A run of the one program is a run of the other. -/
theorem run_same (d : Defs Cert.KernelIdeal.nD Cert.KernelIdeal.τ Cert.KernelIdeal.sig (Elt F) (Pipeline.Sig Cert.KernelIdeal.Λ₀ (Fin 1) fun p => (Cert.KernelIdeal.pcfgs (F := F) p).Adm))
    (p : Dev Cert.KernelIdeal.nD → Prog (TpuEff Cert.KernelIdeal.nD Cert.KernelIdeal.τ Cert.KernelIdeal.sig (Elt F) (Pipeline.Sig Cert.KernelIdeal.Λ₀ (Fin 1) fun p => (Cert.KernelIdeal.pcfgs (F := F) p).Adm) .tc) PUnit)
    (hd : d = Cert.KernelIdeal.defs) (hp : p = Cert.KernelIdeal.main) (μ : MemSt Cert.KernelIdeal.nD Cert.KernelIdeal.τ Cert.KernelIdeal.sig (Elt F)) (Q)
    (h : θ_run (Cert.KernelIdeal.defs (F := F)) (onTc (τ := Cert.KernelIdeal.τ) (Cert.KernelIdeal.main (F := F))) μ Q) :
    θ_run d (onTc (τ := Cert.KernelIdeal.τ) p) μ Q := by
  subst hd hp
  exact h

end Cert.Moe
end
-- ==== Proof.Math.lean ====
/- The layer's numbers: who is given which row, and what each expert makes of it. -/
module

public import proofs.«01_k».proof.Proof.Whole
public import Idealize.ShloMosaic.Lib.Pointwise
public import Mathlib.Order.Interval.Finset.Nat
public import Mathlib.Data.Nat.Count

@[expose] public section

set_option maxRecDepth 16384

noncomputable section

namespace Cert.Moe

open Idealize.ShloMosaic
open scoped Classical in
/-- How many of the rows before `r` have a positive gate: the place of row `r`, if its own gate is positive. -/
def spot (γ : ℕ → EReal) (r : ℕ) : ℕ := Nat.count (fun i => 0 < γ i) r

open scoped Classical in
theorem spot_succ (γ : ℕ → EReal) (r : ℕ) : spot γ (r + 1) = spot γ r + if 0 < γ r then 1 else 0 := Nat.count_succ _ _

theorem spot_lt {γ : ℕ → EReal} {r n : ℕ} (h : 0 < γ r) (hr : r < n) : spot γ r < spot γ n := by
  classical
  unfold spot
  convert Nat.count_strict_mono (p := fun i => 0 < γ i) h hr

theorem spot_inj {γ : ℕ → EReal} {r r' : ℕ} (h : 0 < γ r) (h' : 0 < γ r') (e : spot γ r = spot γ r') : r = r' := by
  classical
  unfold spot at e
  refine Nat.count_injective (p := fun i => 0 < γ i) h h' ?_
  convert e

theorem spot_le (γ : ℕ → EReal) (n : ℕ) : spot γ n ≤ n := by
  induction n with
  | zero => simp [spot]
  | succ n ih => rw [spot_succ]; split <;> omega

theorem spot_add (γ : ℕ → EReal) (a b : ℕ) : spot γ (a + b) = spot γ a + spot (fun k => γ (a + k)) b := by
  classical
  unfold spot
  convert Nat.count_add (fun i => 0 < γ i) a b

open scoped Classical in
theorem spot_sum (γ : ℕ → EReal) (n : ℕ) : ((spot γ n : ℕ) : EReal) = ∑ k ∈ Finset.range n, if 0 < γ k then (1 : EReal) else 0 := by
  induction n with
  | zero => simp [spot]
  | succ n ih =>
    rw [Finset.sum_range_succ, ← ih, spot_succ]
    split <;> simp

/-- The place of row `r`, minus one where its gate is not positive. -/
def posv (γ : ℕ → EReal) (r : ℕ) : EReal := by classical exact if 0 < γ r then ((spot γ r : ℕ) : EReal) else -1

theorem posv_pos {γ : ℕ → EReal} {r : ℕ} (h : 0 < γ r) : posv γ r = ((spot γ r : ℕ) : EReal) := by
  unfold posv; rw [if_pos h]
theorem posv_neg {γ : ℕ → EReal} {r : ℕ} (h : ¬ 0 < γ r) : posv γ r = -1 := by
  unfold posv; rw [if_neg h]

/-- A row is at place `n` when its gate is positive and `n` rows before it have a positive gate. -/
theorem posv_eq (γ : ℕ → EReal) (r n : ℕ) : posv γ r = ((n : ℕ) : EReal) ↔ 0 < γ r ∧ spot γ r = n := by
  by_cases h : 0 < γ r
  · rw [posv_pos h]
    simp [h]
  · rw [posv_neg h]
    simp only [h, false_and, iff_false]
    intro e
    have h1 : (-1 : EReal) < 0 := by
      rw [show (-1 : EReal) = ((-1 : ℝ) : EReal) by simp]
      exact_mod_cast (by norm_num : (-1 : ℝ) < 0)
    rw [e] at h1
    exact absurd h1 (not_lt.2 (by exact_mod_cast Nat.zero_le n))

/-- The numbers of the layer. Row `R` of the stream is `x R`; the gate of expert `e` on it `g R e`. -/
structure Data where
  x : ℕ → Fin 1024 → EReal
  g : ℕ → Fin 8 → EReal
  w1 : Fin 8 → ℕ → Fin 1024 → EReal
  w3 : Fin 8 → ℕ → Fin 1024 → EReal
  w2 : Fin 8 → Fin 1024 → ℕ → EReal
  lw : Fin 1024 → EReal
  lb : Fin 1024 → EReal

namespace Data
variable (D : Data)

/-- One hidden value before the gate: the sigmoid unit times the plain one, the expert's gate times that. -/
def hid (e : Fin 8) (R f : ℕ) : EReal :=
  (∑ k, D.w1 e f k * D.x R k) * Ideal.div 1 (1 + Ideal.exp (0 - ∑ k, D.w1 e f k * D.x R k)) * (∑ k, D.w3 e f k * D.x R k) * D.g R e

/-- The part of the expert's result from hidden values `896 n` to `896 n + 895`. -/
def tile (e : Fin 8) (R n : ℕ) (d : Fin 1024) : EReal := ∑ q : Fin 896, D.w2 e d (896 * n + q.val) * D.hid e R (896 * n + q.val)

/-- The first `n` parts together. -/
def parts (e : Fin 8) (R n : ℕ) (d : Fin 1024) : EReal := ∑ k ∈ Finset.range n, D.tile e R k d

/-- What expert `e` gives row `R`. -/
def share (e : Fin 8) (R : ℕ) (d : Fin 1024) : EReal := by classical exact if 0 < D.g R e then D.parts e R 4 d else 0

/-- What the first `n` experts give row `R`. -/
def total (R n : ℕ) (d : Fin 1024) : EReal := ∑ k ∈ Finset.range n, if h : k < 8 then D.share ⟨k, h⟩ R d else 0

/-- The residual stream before the norm. -/
def res (R : ℕ) (d : Fin 1024) : EReal := Ideal.ofBits .f32 1068827891#32 * D.x R d + D.total R 8 d

/-- The mean of a row. -/
def mean (f : Fin 1024 → EReal) : EReal := Ideal.div (∑ k, f k) (Ideal.ofBits .f32 1149239296#32)

/-- The layer's result. -/
def out (R : ℕ) (d : Fin 1024) : EReal :=
  (D.res R d - mean (D.res R)) * Ideal.rsqrt (mean (fun k => (D.res R k - mean (D.res R)) * (D.res R k - mean (D.res R))) + Ideal.ofBits .f32 925353388#32)
    * D.lw d + D.lb d

/-- The gates of expert `e` on half `s` of block `b`. -/
def γ (b : ℕ) (s : Fin 2) (e : Fin 8) : ℕ → EReal := fun r => D.g (1664 * b + 832 * s.val + r) e

/-- Rows past the array's end have gate zero. -/
def Fits : Prop := ∀ R e, 0 < D.g R e → R < 32768
end Data

/-- Row `r` of half `s`, as a row of the block. -/
def br (s : Fin 2) (r : Fin 832) : Fin 1664 := ⟨832 * s.val + r.val, by have := s.isLt; have := r.isLt; omega⟩

/-- The column of expert `e` in the tables of 128 columns. -/
def lane (e : Fin 8) : Fin 128 := ⟨e.val, Nat.lt_of_lt_of_le e.isLt (by decide)⟩

/-- Row `z` of chunk `n` of a half. -/
def inChunk (n : Fin 13) (z : Fin 64) : Fin 832 := ⟨64 * n.val + z.val, by have := n.isLt; have := z.isLt; omega⟩

/-- The slot that holds place `p` of half `s`. -/
def slot (s : Fin 2) (p : ℕ) : Fin 8 := ⟨(4 * s.val + p / 256) % 8, Nat.mod_lt _ (by decide)⟩

/-- The column of the slot that holds place `p`. -/
def col (p : ℕ) : Fin 256 := ⟨p % 256, Nat.mod_lt _ (by decide)⟩

theorem slot_val (s : Fin 2) {p : ℕ} (h : p < 832) : (slot s p).val = 4 * s.val + p / 256 := by
  have := s.isLt
  exact Nat.mod_eq_of_lt (by omega)

end Cert.Moe

end
-- ==== Proof.Pay.lean ====
/- What the kernel's operations make, entry by entry. -/
module

public import proofs.«01_k».proof.Proof.Math

@[expose] public section

set_option maxRecDepth 16384

noncomputable section

namespace Cert.Moe

open Cert.KernelIdeal Cert.KernelIdeal.Gen
open Idealize.ShloMosaic

/-- A sum over columns that keeps the one numbered `e` is that column. -/
theorem sum_pick (e : Fin 8) (f : Fin 128 → EReal) :
    ∑ x : Fin 128, Scalar.select (IntOp.cmpi .eq (BitVec.ofNat 32 x.val) (BitVec.ofNat 32 e.val)) (f x) 0 = f (lane e) := by
  rw [Finset.sum_eq_single (lane e)]
  · have h : IntOp.cmpi .eq (BitVec.ofNat 32 e.val) (BitVec.ofNat 32 e.val) = 1#1 := by revert e; decide
    show Scalar.select (IntOp.cmpi .eq (BitVec.ofNat 32 e.val) (BitVec.ofNat 32 e.val)) _ _ = _
    rw [h]; rfl
  · intro x _ hx
    have h : ∀ (e : Fin 8) (x : Fin 128), x.val ≠ e.val → IntOp.cmpi .eq (BitVec.ofNat 32 x.val) (BitVec.ofNat 32 e.val) = 0#1 := by decide +kernel
    rw [h e x (fun h => hx (Fin.ext h))]; rfl
  · intro h; exact absurd (Finset.mem_univ _) h

theorem place_num (k : ℕ) (hk : k < 4) (q : Fin 256) :
    (FloatOps.sitofp .f32 (BitVec.ofNat 32 q.val) : Ideal .f32) + (((Scalar.muli (Scf.iv 0#32 1#32 k) 256#32).toInt : ℝ) : EReal) = ((256 * k + q.val : ℕ) : EReal) := by
  have h1 : ∀ q : Fin 256, (BitVec.ofNat 32 q.val).toInt = (q.val : ℤ) := by decide +kernel
  have h2 : ∀ k : Fin 4, (Scalar.muli (Scf.iv 0#32 1#32 k.val) 256#32).toInt = ((256 * k.val : ℕ) : ℤ) := by decide +kernel
  show (((BitVec.ofNat 32 q.val).toInt : ℝ) : EReal) + _ = _
  rw [h1 q, h2 ⟨k, hk⟩]
  rw [← EReal.coe_add, show ((256 * k + q.val : ℕ) : EReal) = (((256 * k + q.val : ℕ) : ℝ) : EReal) from rfl]
  congr 1
  push_cast
  ring

section
variable (γ : ℕ → EReal) (e : Fin 8) (v : BitVec 32) (P : Vec Ideal S832x128 .f32)
  (hP : ∀ r : Fin 832, P (ix2 r (lane e)) = posv γ r.val)
include hP

/-- A gathered column holds the row whose place it is. -/
theorem pick_hit (k : Fin (k0_t1_loop v).trips) (hk : k.val < 4) (X : Vec Ideal S832x1024 .bf16) (r : Fin 832) (hr : 0 < γ r.val)
    (hs : spot γ r.val / 256 = k.val) (d : Fin 1024) :
    k0_pay113 (BitVec.ofNat 32 e.val) v lanes 0#32 1#32 k P X (ix3 0 d (col (spot γ r.val))) = X (ix2 r d) := by
  unfold k0_pay113 k0_pay112 lanes
  pointwise
  simp only [sum_pick e, place_num k.val hk, hP, posv_eq]
  rw [Finset.sum_eq_single r]
  · rw [if_pos ⟨hr, by show spot γ r.val = 256 * k.val + spot γ r.val % 256; omega⟩, mul_one]
  · intro x _ hx
    rw [if_neg, mul_zero]
    rintro ⟨h1, h2⟩
    refine hx (Fin.ext (spot_inj h1 hr ?_))
    rw [h2]
    show 256 * k.val + spot γ r.val % 256 = _
    omega
  · intro h; exact absurd (Finset.mem_univ _) h

/-- The gate gathered beside it is that row's. -/
theorem gate_hit (k : Fin (k0_t1_loop v).trips) (hk : k.val < 4) (C : Vec Ideal S832x128 .f32) (r : Fin 832) (hr : 0 < γ r.val)
    (hs : spot γ r.val / 256 = k.val) (j : Fin 8) :
    k0_pay114 (BitVec.ofNat 32 e.val) v lanes (k0_pay129 (BitVec.ofNat 32 e.val) C) 0#32 1#32 k P (ix3 0 j (col (spot γ r.val))) = C (ix2 r (lane e)) := by
  unfold k0_pay114 k0_pay129 k0_pay112 lanes
  pointwise
  simp only [sum_pick e, place_num k.val hk, hP, posv_eq]
  rw [Finset.sum_eq_single r]
  · rw [if_pos ⟨hr, by show spot γ r.val = 256 * k.val + spot γ r.val % 256; omega⟩]
  · intro x _ hx
    rw [if_neg]
    rintro ⟨h1, h2⟩
    refine hx (Fin.ext (spot_inj h1 hr ?_))
    rw [h2]
    show 256 * k.val + spot γ r.val % 256 = _
    omega
  · intro h; exact absurd (Finset.mem_univ _) h

/-- A row is given the column of its place, and nothing by a slot that does not hold its place. -/
theorem back_at (k : Fin (k0_t9_loop v).trips) (hk : k.val < 4) (o : Vec Ideal S832x1024 .f32) (y : Vec Ideal S1x1024x256 .f32) (r : Fin 832) (d : Fin 1024) :
    k0_pay1 (BitVec.ofNat 32 e.val) v lanes k P o y (ix2 r d)
      = o (ix2 r d) + by classical exact if 0 < γ r.val ∧ spot γ r.val / 256 = k.val then y (ix3 0 d (col (spot γ r.val))) else 0 := by
  unfold k0_pay1 lanes
  pointwise
  simp only [sum_pick e, place_num k.val hk, hP, posv_eq]
  congr 1
  split
  · next h =>
    rw [Finset.sum_eq_single (col (spot γ r.val))]
    · rw [if_pos ⟨h.1, by show spot γ r.val = 256 * k.val + spot γ r.val % 256; omega⟩, one_mul]
    · intro x _ hx
      rw [if_neg, zero_mul]
      rintro ⟨h1, h2⟩
      refine hx (Fin.ext ?_)
      show x.val = spot γ r.val % 256
      omega
    · intro h; exact absurd (Finset.mem_univ _) h
  · next h =>
    refine Finset.sum_eq_zero fun x _ => ?_
    rw [if_neg, zero_mul]
    rintro ⟨h1, h2⟩
    exact h ⟨h1, by omega⟩
end

/-- One part of an expert's result, added to what was there. -/
theorem prod_at (x : Vec Ideal S1x1024x256 .bf16) (w1 w3 : Vec Ideal S1x896x1024 .bf16) (g : Vec Ideal S1x8x256 .f32) (y : Vec Ideal S1x1024x256 .f32) (w2 : Vec Ideal S1x1024x896 .bf16)
    (d : Fin 1024) (q : Fin 256) :
    k0_pay135 (k0_pay124 (F := Ideal) x w1 w3 g y w2) (ix3 0 d q) = y (ix3 0 d q) + ∑ f : Fin 896, w2 (ix3 0 d f) *
      (((∑ k, w1 (ix3 0 f k) * x (ix3 0 k q)) * Ideal.div 1 (1 + Ideal.exp (0 - ∑ k, w1 (ix3 0 f k) * x (ix3 0 k q))) * ∑ k, w3 (ix3 0 f k) * x (ix3 0 k q)) * g (ix3 0 0 q)) := by
  unfold k0_pay135 k0_pay124
  pointwise

theorem zero_at (i : S1x1024x256.Idx) : k0_pay130 (F := Ideal) (Scalar.ofBits .f32 0x00000000#32) i = 0 := by
  rw [eq_ix3 i]
  unfold k0_pay130
  pointwise
  try exact Ideal.ofBits_zero_f32

theorem zero_o (i : S1664x1024.Idx) : k0_pay6 (F := Ideal) i = 0 := by
  unfold k0_pay6
  exact Ideal.ofBits_zero_f32

/-- The norm of a row. -/
theorem norm_at (x o : Vec Ideal S1664x1024 .f32) (w b : Vec Ideal S1x1024 .f32) (r : Fin 1664) (d : Fin 1024) (f : Fin 1024 → EReal)
    (hf : ∀ k, f k = Ideal.ofBits .f32 1068827891#32 * x (ix2 r k) + o (ix2 r k)) :
    k0_pay5 (F := Ideal) x o w b (ix2 r d) = (f d - Data.mean f) * Ideal.rsqrt (Data.mean (fun k => (f k - Data.mean f) * (f k - Data.mean f)) + Ideal.ofBits .f32 925353388#32)
      * w (ix2 0 d) + b (ix2 0 d) := by
  unfold k0_pay5
  pointwise
  simp only [← hf]
  rfl

end Cert.Moe

end
-- ==== Proof.Moves.lean ====
/- What the trips of the kernel's loops leave: rows gathered into slots, products added there, results given back to rows. -/
module

public import proofs.«01_k».proof.Proof.Pay

@[expose] public section

set_option maxRecDepth 16384

noncomputable section

namespace Cert.Moe

open Cert.KernelIdeal Cert.KernelIdeal.Gen
open Idealize.ShloMosaic
open Idealize.ShloMosaic.VecWindow

section
variable {α : Type}

theorem put_big (x : S8x1024x256.Idx → α) (n : ℕ) {off : Fin 3 → ℕ} (ho : off = ![n, 0, 0]) (w : S1x1024x256.Idx → α) (j : Fin 8) (d : Fin 1024) (q : Fin 256) :
    put x off S1x1024x256.size w (ix3 j d q) = if j.val = n then w (ix3 0 d q) else x (ix3 j d q) := by
  subst ho
  unfold put
  split
  · next h =>
    have h0 : n ≤ j.val ∧ j.val < n + 1 := h 0
    rw [if_pos (by omega)]
    refine congrArg w (funext fun a => ?_)
    match a with
    | 0 => exact Fin.ext (by show j.val - n = 0; omega)
    | 1 => rfl
    | 2 => rfl
  · next h =>
    rw [if_neg]
    intro hj
    refine h fun a => ?_
    match a with
    | 0 => exact ⟨by show n ≤ j.val; omega, by show j.val < n + 1; omega⟩
    | 1 => exact ⟨Nat.zero_le _, by show d.val < 0 + 1024; omega⟩
    | 2 => exact ⟨Nat.zero_le _, by show q.val < 0 + 256; omega⟩

theorem put_small (x : S8x8x256.Idx → α) (n : ℕ) {off : Fin 3 → ℕ} (ho : off = ![n, 0, 0]) (w : S1x8x256.Idx → α) (j d : Fin 8) (q : Fin 256) :
    put x off S1x8x256.size w (ix3 j d q) = if j.val = n then w (ix3 0 d q) else x (ix3 j d q) := by
  subst ho
  unfold put
  split
  · next h =>
    have h0 : n ≤ j.val ∧ j.val < n + 1 := h 0
    rw [if_pos (by omega)]
    refine congrArg w (funext fun a => ?_)
    match a with
    | 0 => exact Fin.ext (by show j.val - n = 0; omega)
    | 1 => rfl
    | 2 => rfl
  · next h =>
    rw [if_neg]
    intro hj
    refine h fun a => ?_
    match a with
    | 0 => exact ⟨by show n ≤ j.val; omega, by show j.val < n + 1; omega⟩
    | 1 => exact ⟨Nat.zero_le _, by show d.val < 0 + 8; omega⟩
    | 2 => exact ⟨Nat.zero_le _, by show q.val < 0 + 256; omega⟩

theorem window_big (x : S8x1024x256.Idx → α) (j : Fin 8) {off : Fin 3 → ℕ} (ho : off = ![j.val, 0, 0]) (inb) (d : Fin 1024) (q : Fin 256) :
    window x off S1x1024x256.size inb (ix3 (0 : Fin 1) d q) = x (ix3 j d q) := by
  subst ho
  refine congrArg x (funext fun a => ?_)
  match a with
  | 0 => exact Fin.ext (by show j.val + 1 * 0 = j.val; omega)
  | 1 => exact Fin.ext (by show 0 + 1 * d.val = d.val; omega)
  | 2 => exact Fin.ext (by show 0 + 1 * q.val = q.val; omega)

theorem window_small (x : S8x8x256.Idx → α) (j : Fin 8) {off : Fin 3 → ℕ} (ho : off = ![j.val, 0, 0]) (inb) (d : Fin 8) (q : Fin 256) :
    window x off S1x8x256.size inb (ix3 (0 : Fin 1) d q) = x (ix3 j d q) := by
  subst ho
  refine congrArg x (funext fun a => ?_)
  match a with
  | 0 => exact Fin.ext (by show j.val + 1 * 0 = j.val; omega)
  | 1 => exact Fin.ext (by show 0 + 1 * d.val = d.val; omega)
  | 2 => exact Fin.ext (by show 0 + 1 * q.val = q.val; omega)

/-- A half of a buffer of rows, of any width. -/
theorem window_half {c : ℕ} (x : (⟨2, ![1664, c]⟩ : Shape).Idx → α) (s : Fin 2) {off : Fin 2 → ℕ} (ho : off = ![832 * s.val, 0])
    (inb : ∀ a, off a + (![832, c] : Fin 2 → ℕ) a ≤ (⟨2, ![1664, c]⟩ : Shape).size a) (r : Fin 832) (d : Fin c) :
    window x off ![832, c] inb (ix2 r d) = x (ix2 (br s r) d) := by
  subst ho
  refine congrArg x (funext fun a => ?_)
  match a with
  | 0 => exact Fin.ext (by show 832 * s.val + 1 * r.val = 832 * s.val + r.val; omega)
  | 1 => exact Fin.ext (by show 0 + 1 * d.val = d.val; omega)

theorem put_half {c : ℕ} (x : (⟨2, ![1664, c]⟩ : Shape).Idx → α) (s : Fin 2) {off : Fin 2 → ℕ} (ho : off = ![832 * s.val, 0])
    (w : (⟨2, ![832, c]⟩ : Shape).Idx → α) (s' : Fin 2) (r : Fin 832) (d : Fin c) :
    put x off ![832, c] w (ix2 (br s' r) d) = if s' = s then w (ix2 r d) else x (ix2 (br s' r) d) := by
  subst ho
  have hr := r.isLt
  have e1 : (br s' r).val = 832 * s'.val + r.val := rfl
  unfold put
  split
  · next h =>
    have h0 : 832 * s.val ≤ (br s' r).val ∧ (br s' r).val < 832 * s.val + 832 := h 0
    have hs : s' = s := Fin.ext (by omega)
    rw [if_pos hs]
    refine congrArg w (funext fun a => ?_)
    match a with
    | 0 => exact Fin.ext (by show (br s' r).val - 832 * s.val = r.val; rw [hs] at e1 ⊢; omega)
    | 1 => rfl
  · next h =>
    rw [if_neg]
    intro hs
    refine h fun a => ?_
    match a with
    | 0 => exact ⟨by show 832 * s.val ≤ (br s' r).val; rw [hs] at e1 ⊢; omega, by show (br s' r).val < 832 * s.val + 832; rw [hs] at e1 ⊢; omega⟩
    | 1 => exact ⟨Nat.zero_le _, by show d.val < 0 + c; omega⟩
end

/-- Row `r` of half `s` of block `b`, as a row of the stream. -/
def row (b : ℕ) (s : Fin 2) (r : ℕ) : ℕ := 1664 * b + 832 * s.val + r

section
variable (D : Data) (b : ℕ) (e : Fin 8)

/-- The place of row `r` of half `s` among the rows expert `e` is given there. -/
abbrev pl (s : Fin 2) (r : Fin 832) : ℕ := spot (D.γ b s e) r.val

/-- The slots hold the row, its gate, and the first `n` parts of the expert's result on it. -/
structure RowOK (σ : St Ideal) (s : Fin 2) (r : Fin 832) (n : ℕ) : Prop where
  x : ∀ d, σ.xs (ix3 (slot s (pl D b e s r)) d (col (pl D b e s r))) = D.x (row b s r) d
  g : σ.gs (ix3 (slot s (pl D b e s r)) 0 (col (pl D b e s r))) = D.g (row b s r) e
  y : ∀ d, σ.ys (ix3 (slot s (pl D b e s r)) d (col (pl D b e s r))) = D.parts e (row b s r) n d

/-- The rows of the block and their places are stored. -/
structure Base (σ : St Ideal) : Prop where
  pos : ∀ s (r : Fin 832) (e : Fin 8), σ.pos (ix2 (br s r) (lane e)) = posv (D.γ b s e) r.val
  xb : ∀ s (r : Fin 832) (d : Fin 1024), row b s r < 32768 → σ.xb (ix2 (br s r) d) = D.x (row b s r) d

/-- The buffers that loops of a point leave alone. -/
def Same (σ σ' : St Ideal) : Prop := σ'.pos = σ.pos ∧ σ'.xb = σ.xb ∧ σ'.o = σ.o

theorem Same.base {σ σ' : St Ideal} (h : Same σ σ') (hb : Base D b σ) : Base D b σ' :=
  ⟨fun s r e => by rw [h.1]; exact hb.pos s r e, fun s r d hr => by rw [h.2.1]; exact hb.xb s r d hr⟩

theorem pl_lt (s : Fin 2) (r : Fin 832) : pl D b e s r < 832 := lt_of_le_of_lt (spot_le _ _) r.isLt

variable {D b e} in
/-- A row's slots are told apart by half and by place. -/
theorem slot_eq (s s' : Fin 2) (r : Fin 832) {k : ℕ} (hk : k < 4) :
    (slot s' (pl D b e s' r)).val = 4 * s.val + k ↔ s' = s ∧ pl D b e s' r / 256 = k := by
  have h := pl_lt D b e s' r
  rw [slot_val s' h]
  have := s.isLt; have := s'.isLt
  constructor
  · intro h; exact ⟨Fin.ext (by omega), by omega⟩
  · rintro ⟨rfl, rfl⟩; rfl

/-- A trip that gathers the rows of half `s` whose places slot `k` holds. -/
def Picks (s : Fin 2) (N : ℕ) (f : ℕ → St Ideal → St Ideal) : Prop :=
  ∀ k, k < N → ∀ σ, Base D b σ → Same σ (f k σ) ∧ ∀ s' (r : Fin 832), 0 < D.γ b s' e r.val →
    (s' = s ∧ pl D b e s' r / 256 = k → RowOK D b e (f k σ) s' r 0) ∧
    (¬(s' = s ∧ pl D b e s' r / 256 = k) → ∀ n, RowOK D b e σ s' r n → RowOK D b e (f k σ) s' r n)

theorem picks_iter {s : Fin 2} {N : ℕ} {f : ℕ → St Ideal → St Ideal} (hf : Picks D b e s N f) (σ : St Ideal) (hσ : Base D b σ) :
    ∀ k, k ≤ N → Same σ (iter f k σ) ∧ ∀ s' (r : Fin 832), 0 < D.γ b s' e r.val →
      (s' = s ∧ pl D b e s' r / 256 < k → RowOK D b e (iter f k σ) s' r 0) ∧
      (¬ s' = s → ∀ n, RowOK D b e σ s' r n → RowOK D b e (iter f k σ) s' r n)
  | 0, _ => ⟨⟨rfl, rfl, rfl⟩, fun s' r _ => ⟨fun h => absurd h.2 (Nat.not_lt_zero _), fun _ _ h => h⟩⟩
  | k + 1, hk => by
    obtain ⟨h1, h2⟩ := picks_iter hf σ hσ k (by omega)
    obtain ⟨h3, h4⟩ := hf k (by omega) (iter f k σ) (h1.base D b hσ)
    refine ⟨⟨h3.1.trans h1.1, h3.2.1.trans h1.2.1, h3.2.2.trans h1.2.2⟩, fun s' r hr => ⟨fun h => ?_, fun h n hn => ?_⟩⟩
    · by_cases hq : pl D b e s' r / 256 = k
      · exact (h4 s' r hr).1 ⟨h.1, hq⟩
      · exact (h4 s' r hr).2 (fun h' => hq h'.2) 0 ((h2 s' r hr).1 ⟨h.1, by omega⟩)
    · exact (h4 s' r hr).2 (fun h' => h h'.1) n ((h2 s' r hr).2 h n hn)

/-- A trip that adds a part of the expert's result in slot `k` of half `s`. -/
def Prods (m : ℕ) (s : Fin 2) (N : ℕ) (f : ℕ → St Ideal → St Ideal) : Prop :=
  ∀ k, k < N → ∀ σ, Same σ (f k σ) ∧ ∀ s' (r : Fin 832),
    (s' = s ∧ pl D b e s' r / 256 = k → RowOK D b e σ s' r m → RowOK D b e (f k σ) s' r (m + 1)) ∧
    (¬(s' = s ∧ pl D b e s' r / 256 = k) → ∀ n, RowOK D b e σ s' r n → RowOK D b e (f k σ) s' r n)

theorem prods_iter {m : ℕ} {s : Fin 2} {N : ℕ} {f : ℕ → St Ideal → St Ideal} (hf : Prods D b e m s N f) (σ : St Ideal) :
    ∀ k, k ≤ N → Same σ (iter f k σ) ∧ ∀ s' (r : Fin 832),
      (s' = s ∧ pl D b e s' r / 256 < k → RowOK D b e σ s' r m → RowOK D b e (iter f k σ) s' r (m + 1)) ∧
      (¬ (s' = s ∧ pl D b e s' r / 256 < k) → ∀ n, RowOK D b e σ s' r n → RowOK D b e (iter f k σ) s' r n)
  | 0, _ => ⟨⟨rfl, rfl, rfl⟩, fun s' r => ⟨fun h => absurd h.2 (Nat.not_lt_zero _), fun _ _ h => h⟩⟩
  | k + 1, hk => by
    obtain ⟨h1, h2⟩ := prods_iter hf σ k (by omega)
    obtain ⟨h3, h4⟩ := hf k (by omega) (iter f k σ)
    refine ⟨⟨h3.1.trans h1.1, h3.2.1.trans h1.2.1, h3.2.2.trans h1.2.2⟩, fun s' r => ⟨fun h hm => ?_, fun h n hn => ?_⟩⟩
    · by_cases hq : pl D b e s' r / 256 = k
      · exact (h4 s' r).1 ⟨h.1, hq⟩ ((h2 s' r).2 (fun h' => by omega) m hm)
      · exact (h4 s' r).2 (fun h' => hq h'.2) _ ((h2 s' r).1 ⟨h.1, by omega⟩ hm)
    · exact (h4 s' r).2 (fun h' => h ⟨h'.1, by omega⟩) n ((h2 s' r).2 (fun h' => h ⟨h'.1, by omega⟩) n hn)

open scoped Classical in
/-- A trip that gives the results in slot `k` of half `s` back to the rows. -/
def Backs (s : Fin 2) (N : ℕ) (f : ℕ → St Ideal → St Ideal) : Prop :=
  ∀ k, k < N → ∀ σ, Base D b σ → (f k σ).pos = σ.pos ∧ (f k σ).xb = σ.xb ∧ (f k σ).ys = σ.ys ∧ ∀ s' (r : Fin 832) (d : Fin 1024),
    (f k σ).o (ix2 (br s' r) d) = σ.o (ix2 (br s' r) d) + if s' = s ∧ 0 < D.γ b s' e r.val ∧ pl D b e s' r / 256 = k then
      σ.ys (ix3 (slot s' (pl D b e s' r)) d (col (pl D b e s' r))) else 0

open scoped Classical in
theorem backs_iter {s : Fin 2} {N : ℕ} {f : ℕ → St Ideal → St Ideal} (hf : Backs D b e s N f) (σ : St Ideal) (hσ : Base D b σ) :
    ∀ k, k ≤ N → (iter f k σ).pos = σ.pos ∧ (iter f k σ).xb = σ.xb ∧ (iter f k σ).ys = σ.ys ∧ ∀ s' (r : Fin 832) (d : Fin 1024),
      (iter f k σ).o (ix2 (br s' r) d) = σ.o (ix2 (br s' r) d) + if s' = s ∧ 0 < D.γ b s' e r.val ∧ pl D b e s' r / 256 < k then
        σ.ys (ix3 (slot s' (pl D b e s' r)) d (col (pl D b e s' r))) else 0
  | 0, _ => ⟨rfl, rfl, rfl, fun s' r d => by rw [if_neg (fun h => absurd h.2.2 (Nat.not_lt_zero _)), add_zero]; rfl⟩
  | k + 1, hk => by
    obtain ⟨h1, h2, h3, h4⟩ := backs_iter hf σ hσ k (by omega)
    obtain ⟨g1, g2, g3, g4⟩ := hf k (by omega) (iter f k σ) ⟨fun s r e => by rw [h1]; exact hσ.pos s r e, fun s r d hr => by rw [h2]; exact hσ.xb s r d hr⟩
    refine ⟨g1.trans h1, g2.trans h2, g3.trans h3, fun s' r d => ?_⟩
    refine (g4 s' r d).trans ?_
    rw [h4, h3]
    by_cases ha : s' = s ∧ 0 < D.γ b s' e r.val
    · rcases Nat.lt_trichotomy (pl D b e s' r / 256) k with h | h | h
      · rw [if_pos ⟨ha.1, ha.2, h⟩, if_neg (fun h' => by omega), if_pos ⟨ha.1, ha.2, by omega⟩, add_zero]
      · rw [if_neg (fun h' => by omega), if_pos ⟨ha.1, ha.2, h⟩, if_pos ⟨ha.1, ha.2, by omega⟩, add_zero]
      · rw [if_neg (fun h' => by omega), if_neg (fun h' => by omega), if_neg (fun h' => by omega), add_zero, add_zero]
    · rw [if_neg (fun h' => ha ⟨h'.1, h'.2.1⟩), if_neg (fun h' => ha ⟨h'.1, h'.2.1⟩), if_neg (fun h' => ha ⟨h'.1, h'.2.1⟩), add_zero, add_zero]

/-- Slots other than the one written keep what they hold. -/
theorem RowOK.keep {σ σ' : St Ideal} {s : Fin 2} {r : Fin 832} {n : ℕ} (h : RowOK D b e σ s r n)
    (hx : ∀ d q, σ'.xs (ix3 (slot s (pl D b e s r)) d q) = σ.xs (ix3 (slot s (pl D b e s r)) d q))
    (hg : ∀ d q, σ'.gs (ix3 (slot s (pl D b e s r)) d q) = σ.gs (ix3 (slot s (pl D b e s r)) d q))
    (hy : ∀ d q, σ'.ys (ix3 (slot s (pl D b e s r)) d q) = σ.ys (ix3 (slot s (pl D b e s r)) d q)) : RowOK D b e σ' s r n :=
  ⟨fun d => (hx d _).trans (h.x d), (hg 0 _).trans h.g, fun d => (hy d _).trans (h.y d)⟩

theorem picked (s : Fin 2) {k : ℕ} (hk : k < 4) (σ : St Ideal) {off offg : Fin 3 → ℕ} (ho : off = ![4 * s.val + k, 0, 0]) (hg : offg = ![4 * s.val + k, 0, 0])
    (wx : S1x1024x256.Idx → EReal) (wg : S1x8x256.Idx → EReal)
    (hw : ∀ r : Fin 832, 0 < D.γ b s e r.val → pl D b e s r / 256 = k →
      (∀ d, wx (ix3 0 d (col (pl D b e s r))) = D.x (row b s r) d) ∧ wg (ix3 0 0 (col (pl D b e s r))) = D.g (row b s r) e)
    (σ' : St Ideal) (e1 : σ'.xs = put σ.xs off S1x1024x256.size wx) (e2 : σ'.ys = put σ.ys off S1x1024x256.size (k0_pay130 (F := Ideal) (Scalar.ofBits .f32 0x00000000#32)))
    (e3 : σ'.gs = put σ.gs offg S1x8x256.size wg) (s' : Fin 2) (r : Fin 832) (hr : 0 < D.γ b s' e r.val) :
    (s' = s ∧ pl D b e s' r / 256 = k → RowOK D b e σ' s' r 0) ∧
    (¬(s' = s ∧ pl D b e s' r / 256 = k) → ∀ n, RowOK D b e σ s' r n → RowOK D b e σ' s' r n) := by
  have hs := slot_eq (D := D) (b := b) (e := e) s s' r hk
  refine ⟨fun h => ?_, fun h n hn => ?_⟩
  · have h' := hs.2 h
    obtain ⟨rfl, hq⟩ := h
    obtain ⟨h1, h2⟩ := hw r hr hq
    refine ⟨fun d => ?_, ?_, fun d => ?_⟩
    · rw [e1, put_big _ _ ho, if_pos h']; exact h1 d
    · rw [e3, put_small _ _ hg, if_pos h']; exact h2
    · rw [e2, put_big _ _ ho, if_pos h', zero_at]; exact (Finset.sum_range_zero _).symm
  · have h' : ¬ (slot s' (pl D b e s' r)).val = 4 * s.val + k := fun h'' => h (hs.1 h'')
    refine hn.keep D b e ?_ ?_ ?_
    · intro d q; rw [e1, put_big _ _ ho, if_neg h']
    · intro d q; rw [e3, put_small _ _ hg, if_neg h']
    · intro d q; rw [e2, put_big _ _ ho, if_neg h']

variable (i : grid0.Coords) (I : Ins Ideal) (hfit : D.Fits)

section
variable (v : BitVec 32) (hv : v.toNat ≤ 832)
  (hc : ∀ s (r : Fin 832) (e : Fin 8), I.cmb (ix2 (br s r) (lane e)) = D.g (row b s r) e)
include hv hc hfit

theorem picks0 (w : k0_chk1 i v) (h2 : k0_cond2 i = 1#1) : Picks D b e 0 (k0_t1_loop v).trips (pick0 i (BitVec.ofNat 32 e.val) v w h2 I) := by
  intro k hk σ hσ
  have h4 : k < 4 := by
    have h := (loops v hv).2.1
    have := npass_le hv
    omega
  unfold pick0
  rw [dif_pos hk]
  refine ⟨⟨rfl, rfl, rfl⟩, ?_⟩
  refine picked D b e 0 h4 σ ?_ ?_ _ _ ?_ _ rfl rfl rfl
  · refine (off2_eq v hv ⟨k, hk⟩).trans ?_
    exact congrArg (fun n => ![n, 0, 0]) (Nat.zero_add k).symm
  · refine (off2_eq v hv ⟨k, hk⟩).trans ?_
    exact congrArg (fun n => ![n, 0, 0]) (Nat.zero_add k).symm
  · intro r hr hq
    have hP : ∀ r : Fin 832, window σ.pos ![0, 0] S832x128.size inb_S1664x128_S832x128_0_0 (ix2 r (lane e)) = posv (D.γ b 0 e) r.val :=
      fun r => (window_half σ.pos 0 rfl _ r _).trans (hσ.pos 0 r e)
    refine ⟨fun d => ?_, ?_⟩
    · refine (pick_hit (D.γ b 0 e) e v _ hP ⟨k, hk⟩ h4 _ r hr hq d).trans ?_
      exact (window_half σ.xb 0 rfl _ r d).trans (hσ.xb 0 r d (hfit _ e hr))
    · refine (gate_hit (D.γ b 0 e) e v _ hP ⟨k, hk⟩ h4 _ r hr hq 0).trans ?_
      exact (window_half I.cmb 0 rfl _ r _).trans (hc 0 r e)

theorem picks1 (w : k0_chk2 i v) (h2 : k0_cond2 i = 1#1) : Picks D b e 1 (k0_t3_loop v).trips (pick1 i (BitVec.ofNat 32 e.val) v w h2 I) := by
  intro k hk σ hσ
  have h4 : k < 4 := by
    have h : (k0_t3_loop v).trips = _ := (loops v hv).2.1
    have := npass_le hv
    omega
  unfold pick1
  rw [dif_pos hk]
  refine ⟨⟨rfl, rfl, rfl⟩, ?_⟩
  refine picked D b e 1 h4 σ ?_ ?_ _ _ ?_ _ rfl rfl rfl
  · exact off6_eq v hv ⟨k, hk⟩
  · exact off6_eq v hv ⟨k, hk⟩
  · intro r hr hq
    have hP : ∀ r : Fin 832, window σ.pos ![832, 0] S832x128.size inb_S1664x128_S832x128_832_0 (ix2 r (lane e)) = posv (D.γ b 1 e) r.val :=
      fun r => (window_half σ.pos 1 rfl _ r _).trans (hσ.pos 1 r e)
    refine ⟨fun d => ?_, ?_⟩
    · refine (pick_hit (D.γ b 1 e) e v _ hP ⟨k, hk⟩ h4 _ r hr hq d).trans ?_
      exact (window_half σ.xb 1 rfl _ r d).trans (hσ.xb 1 r d (hfit _ e hr))
    · refine (gate_hit (D.γ b 1 e) e v _ hP ⟨k, hk⟩ h4 _ r hr hq 0).trans ?_
      exact (window_half I.cmb 1 rfl _ r _).trans (hc 1 r e)
end

section
variable (v : BitVec 32) (hv : v.toNat ≤ 832) (m : ℕ)
  (h1 : ∀ (f : Fin 896) k, I.w1 (ix3 0 f k) = D.w1 e (896 * m + f.val) k)
  (h3 : ∀ (f : Fin 896) k, I.w3 (ix3 0 f k) = D.w3 e (896 * m + f.val) k)
  (h2 : ∀ d (f : Fin 896), I.w2 (ix3 0 d f) = D.w2 e d (896 * m + f.val))
include h1 h2 h3

theorem prodded (s : Fin 2) {k : ℕ} (hk : k < 4) (σ : St Ideal) {off offg : Fin 3 → ℕ} (ho : off = ![4 * s.val + k, 0, 0]) (hg : offg = ![4 * s.val + k, 0, 0])
    (inb inbg) (σ' : St Ideal) (e1 : σ'.xs = σ.xs) (e3 : σ'.gs = σ.gs)
    (e2 : σ'.ys = put σ.ys off S1x1024x256.size (k0_pay135 (k0_pay124 (F := Ideal) (window σ.xs off S1x1024x256.size inb) I.w1 I.w3
      (window σ.gs offg S1x8x256.size inbg) (window σ.ys off S1x1024x256.size inb) I.w2))) (s' : Fin 2) (r : Fin 832) :
    (s' = s ∧ pl D b e s' r / 256 = k → RowOK D b e σ s' r m → RowOK D b e σ' s' r (m + 1)) ∧
    (¬(s' = s ∧ pl D b e s' r / 256 = k) → ∀ n, RowOK D b e σ s' r n → RowOK D b e σ' s' r n) := by
  have hs := slot_eq (D := D) (b := b) (e := e) s s' r hk
  refine ⟨fun h hm => ?_, fun h n hn => ?_⟩
  · have h' := hs.2 h
    rw [← h'] at ho hg
    refine ⟨fun d => by rw [e1]; exact hm.x d, by rw [e3]; exact hm.g, fun d => ?_⟩
    rw [e2, put_big _ _ ho, if_pos rfl, prod_at]
    have ey : ∀ d, window σ.ys off S1x1024x256.size inb (ix3 (0 : Fin 1) d (col (pl D b e s' r))) = D.parts e (row b s' r) m d :=
      fun d => (window_big σ.ys _ ho inb d _).trans (hm.y d)
    have ex : ∀ d, window σ.xs off S1x1024x256.size inb (ix3 (0 : Fin 1) d (col (pl D b e s' r))) = D.x (row b s' r) d :=
      fun d => (window_big σ.xs _ ho inb d _).trans (hm.x d)
    have eg : window σ.gs offg S1x8x256.size inbg (ix3 (0 : Fin 1) 0 (col (pl D b e s' r))) = D.g (row b s' r) e :=
      (window_small σ.gs _ hg inbg 0 _).trans hm.g
    rw [ey, eg]
    simp only [ex, h1, h2, h3]
    exact (Finset.sum_range_succ _ _).symm
  · have h' : ¬ (slot s' (pl D b e s' r)).val = 4 * s.val + k := fun h'' => h (hs.1 h'')
    refine hn.keep D b e ?_ ?_ ?_
    · intro d q; rw [e1]
    · intro d q; rw [e3]
    · intro d q; rw [e2, put_big _ _ ho, if_neg h']

include hv
theorem prods0 (w : k0_chk1 i v) : Prods D b e m 0 (k0_t5_loop v).trips (prod0 i v w I) := by
  intro k hk σ
  have h4 : k < 4 := by
    have h : (k0_t5_loop v).trips = _ := (loops v hv).2.1
    have := npass_le hv
    omega
  unfold prod0
  rw [dif_pos hk]
  refine ⟨⟨rfl, rfl, rfl⟩, ?_⟩
  refine prodded D b e I m h1 h3 h2 0 h4 σ ?_ ?_ _ _ _ rfl rfl rfl
  · refine (off2_eq v hv ⟨k, hk⟩).trans ?_
    exact congrArg (fun n => ![n, 0, 0]) (Nat.zero_add k).symm
  · refine (off2_eq v hv ⟨k, hk⟩).trans ?_
    exact congrArg (fun n => ![n, 0, 0]) (Nat.zero_add k).symm

theorem prods1 (w : k0_chk2 i v) : Prods D b e m 1 (k0_t7_loop v).trips (prod1 i v w I) := by
  intro k hk σ
  have h4 : k < 4 := by
    have h : (k0_t7_loop v).trips = _ := (loops v hv).2.1
    have := npass_le hv
    omega
  unfold prod1
  rw [dif_pos hk]
  refine ⟨⟨rfl, rfl, rfl⟩, ?_⟩
  refine prodded D b e I m h1 h3 h2 1 h4 σ ?_ ?_ _ _ _ rfl rfl rfl
  · exact off6_eq v hv ⟨k, hk⟩
  · exact off6_eq v hv ⟨k, hk⟩
end

section
variable (v : BitVec 32) (hv : v.toNat ≤ 832)

open scoped Classical in
theorem backed (s : Fin 2) {k : ℕ} (hk : k < 4) (kk : Fin (k0_t9_loop v).trips) (hkk : kk.val = k) (σ : St Ideal) (hσ : Base D b σ) {off : Fin 3 → ℕ} {o2 : Fin 2 → ℕ}
    (ho : off = ![4 * s.val + k, 0, 0]) (h2 : o2 = ![832 * s.val, 0])
    (inb inp ino) (σ' : St Ideal) (e1 : σ'.o = put σ.o o2 S832x1024.size (k0_pay1 (BitVec.ofNat 32 e.val) v lanes kk (window σ.pos o2 S832x128.size inp)
      (window σ.o o2 S832x1024.size ino) (window σ.ys off S1x1024x256.size inb))) (s' : Fin 2) (r : Fin 832) (d : Fin 1024) :
    σ'.o (ix2 (br s' r) d) = σ.o (ix2 (br s' r) d) + if s' = s ∧ 0 < D.γ b s' e r.val ∧ pl D b e s' r / 256 = k then
      σ.ys (ix3 (slot s' (pl D b e s' r)) d (col (pl D b e s' r))) else 0 := by
  have hs := slot_eq (D := D) (b := b) (e := e) s s' r hk
  rw [e1]
  refine (put_half σ.o s h2 _ s' r d).trans ?_
  by_cases h : s' = s
  · rw [if_pos h]
    have hP : ∀ r : Fin 832, window σ.pos o2 S832x128.size inp (ix2 r (lane e)) = posv (D.γ b s e) r.val :=
      fun r => (window_half σ.pos s h2 _ r _).trans (hσ.pos s r e)
    refine (back_at (D.γ b s e) e v _ hP kk (by omega) _ _ r d).trans ?_
    subst h
    refine congrArg₂ (· + ·) (window_half σ.o s' h2 _ r d) ?_
    by_cases hq : 0 < D.γ b s' e r.val ∧ pl D b e s' r / 256 = k
    · rw [if_pos (by rw [hkk]; exact hq), if_pos ⟨rfl, hq⟩]
      rw [← hs.2 ⟨rfl, hq.2⟩] at ho
      exact window_big σ.ys _ ho inb d _
    · rw [if_neg (by rw [hkk]; exact hq), if_neg (fun h' => hq h'.2)]
  · rw [if_neg h, if_neg (fun h' => h h'.1), add_zero]

include hv
theorem backs0 (w : k0_chk1 i v) (h3 : k0_cond3 i = 1#1) : Backs D b e 0 (k0_t9_loop v).trips (back0 i (BitVec.ofNat 32 e.val) v w h3) := by
  intro k hk σ hσ
  have h4 : k < 4 := by
    have h : (k0_t9_loop v).trips = _ := (loops v hv).2.1
    have := npass_le hv
    omega
  unfold back0
  rw [dif_pos hk]
  refine ⟨rfl, rfl, rfl, ?_⟩
  refine backed D b e v 0 h4 ⟨k, hk⟩ rfl σ hσ ?_ rfl _ _ _ _ rfl
  refine (off2_eq v hv ⟨k, hk⟩).trans ?_
  exact congrArg (fun n => ![n, 0, 0]) (Nat.zero_add k).symm

theorem backs1 (w : k0_chk2 i v) (h3 : k0_cond3 i = 1#1) : Backs D b e 1 (k0_t11_loop v).trips (back1 i (BitVec.ofNat 32 e.val) v w h3) := by
  intro k hk σ hσ
  have h4 : k < 4 := by
    have h : (k0_t11_loop v).trips = _ := (loops v hv).2.1
    have := npass_le hv
    omega
  unfold back1
  rw [dif_pos hk]
  refine ⟨rfl, rfl, rfl, ?_⟩
  refine backed D b e v 1 h4 ⟨k, hk⟩ rfl σ hσ ?_ rfl _ _ _ _ rfl
  exact off6_eq v hv ⟨k, hk⟩
end
end

end Cert.Moe

end
-- ==== Proof.Begin.lean ====
/- What the first point of a block leaves: its rows, their places, and nothing yet given. -/
module

public import proofs.«01_k».proof.Proof.Moves

@[expose] public section

set_option maxRecDepth 16384

noncomputable section

namespace Cert.Moe

open Cert.KernelIdeal Cert.KernelIdeal.Gen
open Idealize.ShloMosaic
open Idealize.ShloMosaic.VecWindow

theorem below0 : ∀ (b : Fin 20) (r : Fin 832), IntOp.cmpi .slt (BitVec.ofNat 32 r.val) (Scalar.subi 32768#32 (Scalar.muli (Scalar.addi (Scalar.muli (BitVec.ofNat 32 b.val) 2#32) 0#32) 832#32))
   = BitVec.ofBool (decide (1664 * b.val + 832 * 0 + r.val < 32768)) := by decide +kernel
theorem below1 : ∀ (b : Fin 20) (r : Fin 832), IntOp.cmpi .slt (BitVec.ofNat 32 r.val) (Scalar.subi 32768#32 (Scalar.muli (Scalar.addi (Scalar.muli (BitVec.ofNat 32 b.val) 2#32) 1#32) 832#32))
   = BitVec.ofBool (decide (1664 * b.val + 832 * 1 + r.val < 32768)) := by decide +kernel

/-- Whether a row of the block is a row of the array. -/
theorem inside_at {b : ℕ} (hb : b < 20) (s : Fin 2) (r : Fin 832) :
    inside (BitVec.ofNat 32 b) s (ix2 r 0) = BitVec.ofBool (decide (row b s r < 32768)) := by
  match s with
  | 0 =>
    show k0_pay7 _ _ = _
    unfold k0_pay7
    pointwise
    exact below0 ⟨b, hb⟩ r
  | 1 =>
    show k0_pay57 _ _ = _
    unfold k0_pay57
    pointwise
    exact below1 ⟨b, hb⟩ r

theorem first_half {b : ℕ} (hb : b < 20) (x : Vec Ideal S832x1024 .f32) (r : Fin 832) (d : Fin 1024) (h : row b 0 r < 32768) :
    k0_pay8 (BitVec.ofNat 32 b) x (ix2 r d) = x (ix2 r d) := by
  unfold k0_pay8 k0_pay7
  pointwise
  rw [below0 ⟨b, hb⟩ r]
  have h' : 1664 * b + 832 * 0 + r.val < 32768 := h
  rw [decide_eq_true h']
  rfl

theorem second_half {b : ℕ} (hb : b < 20) (x : Vec Ideal S832x1024 .f32) (r : Fin 832) (d : Fin 1024) (h : row b 1 r < 32768) :
    k0_pay58 (k0_pay57 (BitVec.ofNat 32 b)) x (ix2 r d) = x (ix2 r d) := by
  unfold k0_pay58 k0_pay57
  pointwise
  rw [below1 ⟨b, hb⟩ r]
  have h' : 1664 * b + 832 * 1 + r.val < 32768 := h
  rw [decide_eq_true h']
  rfl

theorem minus_one : Ideal.ofBits .f32 3212836864#32 = -1 := by
  rw [show (-1 : EReal) = ((-1 : ℝ) : EReal) by simp]
  simp [Ideal.ofBits, Ideal.ieee, -EReal.coe_mul, -EReal.coe_neg]; norm_num

theorem given_eq (m : IVec S832x1 1) (n : Fin 13) (v : Vec Ideal S64x128 .f32) (z : Fin 64) (j : Fin 128) :
    given m n v (ix2 z j) = Scalar.select (IntOp.andi (m (ix2 (inChunk n z) 0)) (BitVec.ofBool (decide (0 < v (ix2 z j))))) (1 : EReal) 0 := by
  unfold given
  pointwise
  rfl

theorem upto_zero (m : IVec S832x1 1) (cmb : Vec Ideal S1664x128 .f32) (lt : Vec Ideal S64x64 .f32) (s : Fin 2) (h : 0 < 13) (z : Fin 64) (j : Fin 128) :
    upto m cmb lt s 0 h (ix2 z j) = ∑ x, lt (ix2 z x) * given m ⟨0, h⟩ (window cmb ![832 * s.val + 64 * 0, 0] S64x128.size (inb26 s ⟨0, h⟩)) (ix2 x j) := by
  unfold upto
  pointwise

theorem upto_succ (m : IVec S832x1 1) (cmb : Vec Ideal S1664x128 .f32) (lt : Vec Ideal S64x64 .f32) (s : Fin 2) (n : ℕ) (h : n + 1 < 13) (z : Fin 64) (j : Fin 128) :
    upto m cmb lt s (n + 1) h (ix2 z j) = (∑ x, lt (ix2 z x) * given m ⟨n + 1, h⟩ (window cmb ![832 * s.val + 64 * (n + 1), 0] S64x128.size (inb26 s ⟨n + 1, h⟩)) (ix2 x j))
      + upto m cmb lt s n (Nat.lt_of_succ_lt h) (ix2 63 j) := by
  conv => lhs; unfold upto
  pointwise

theorem place_eq (m : IVec S832x1 1) (cmb : Vec Ideal S1664x128 .f32) (lt : Vec Ideal S64x64 .f32) (s : Fin 2) (n : Fin 13) (z : Fin 64) (j : Fin 128) :
    place m cmb lt s n (ix2 z j) = if 0 < given m n (window cmb ![832 * s.val + 64 * n.val, 0] S64x128.size (inb26 s n)) (ix2 z j)
      then upto m cmb lt s n.val n.isLt (ix2 z j) - 1 else Ideal.ofBits .f32 3212836864#32 := by
  unfold place
  pointwise

section
variable (D : Data) {b : ℕ} (hb : b < 20) (I : Ins Ideal) (hfit : D.Fits)
  (hc : ∀ s (r : Fin 832) (e : Fin 8), I.cmb (ix2 (br s r) (lane e)) = D.g (row b s r) e)
  (hl : ∀ z x : Fin 64, I.lt (ix2 z x) = if x ≤ z then 1 else 0)
include hb hfit hc

open scoped Classical in
theorem given_at (s : Fin 2) (n : Fin 13) (z : Fin 64) (e : Fin 8) :
    given (inside (BitVec.ofNat 32 b) s) n (window I.cmb ![832 * s.val + 64 * n.val, 0] S64x128.size (inb26 s n)) (ix2 z (lane e))
      = if 0 < D.γ b s e (64 * n.val + z.val) then 1 else 0 := by
  rw [given_eq, inside_at hb, show (inChunk n z).val = 64 * n.val + z.val from rfl]
  have hw : window I.cmb ![832 * s.val + 64 * n.val, 0] S64x128.size (inb26 s n) (ix2 z (lane e)) = D.γ b s e (64 * n.val + z.val) := by
    refine Eq.trans ?_ (hc s (inChunk n z) e)
    refine congrArg I.cmb (funext fun a => ?_)
    match a with
    | 0 => exact Fin.ext (by show 832 * s.val + 64 * n.val + 1 * z.val = 832 * s.val + (64 * n.val + z.val); omega)
    | 1 => exact Fin.ext (by show 0 + 1 * e.val = e.val; omega)
  rw [hw]
  by_cases h : 0 < D.γ b s e (64 * n.val + z.val)
  · have h' : row b s (64 * n.val + z.val) < 32768 := hfit _ e h
    rw [if_pos h, decide_eq_true h', decide_eq_true h]; rfl
  · rw [if_neg h, decide_eq_false h]
    cases decide (row b s (64 * n.val + z.val) < 32768) <;> rfl

include hl

theorem chunk_at (s : Fin 2) (n : Fin 13) (z : Fin 64) (e : Fin 8) :
    ∑ x, I.lt (ix2 z x) * given (inside (BitVec.ofNat 32 b) s) n (window I.cmb ![832 * s.val + 64 * n.val, 0] S64x128.size (inb26 s n)) (ix2 x (lane e))
      = ((spot (fun k => D.γ b s e (64 * n.val + k)) (z.val + 1) : ℕ) : EReal) := by
  classical
  rw [spot_sum]
  simp only [given_at D hb I hfit hc, hl]
  refine (Fin.sum_univ_eq_sum_range (fun x => (if x ≤ z.val then (1 : EReal) else 0) * if 0 < D.γ b s e (64 * n.val + x) then 1 else 0) 64).trans ?_
  refine (Finset.sum_subset (Finset.range_subset_range.2 (by omega : z.val + 1 ≤ 64)) fun x _ hx => ?_).symm.trans ?_
  · rw [if_neg (fun h => hx (Finset.mem_range.2 (by omega))), zero_mul]
  · refine Finset.sum_congr rfl fun x hx => ?_
    rw [if_pos (by have := Finset.mem_range.1 hx; omega), one_mul]

theorem upto_at (s : Fin 2) (e : Fin 8) : ∀ (n : ℕ) (h : n < 13) (z : Fin 64),
    upto (inside (BitVec.ofNat 32 b) s) I.cmb I.lt s n h (ix2 z (lane e)) = ((spot (D.γ b s e) (64 * n + z.val + 1) : ℕ) : EReal)
  | 0, h, z => by
    rw [upto_zero]
    refine (chunk_at D hb I hfit hc hl s ⟨0, h⟩ z e).trans ?_
    have : (fun k => D.γ b s e (64 * 0 + k)) = D.γ b s e := funext fun k => by rw [Nat.mul_zero, Nat.zero_add]
    show ((spot (fun k => D.γ b s e (64 * 0 + k)) (z.val + 1) : ℕ) : EReal) = _
    rw [this, Nat.mul_zero, Nat.zero_add]
  | n + 1, h, z => by
    rw [upto_succ, upto_at s e n (Nat.lt_of_succ_lt h) 63]
    refine (congrArg (· + _) (chunk_at D hb I hfit hc hl s ⟨n + 1, h⟩ z e)).trans ?_
    have e1 : 64 * n + (63 : Fin 64).val + 1 = 64 * (n + 1) := by show 64 * n + 63 + 1 = _; omega
    rw [e1, show 64 * (n + 1) + z.val + 1 = 64 * (n + 1) + (z.val + 1) from rfl, spot_add (D.γ b s e) (64 * (n + 1)) (z.val + 1), Nat.cast_add]
    exact add_comm _ _

theorem places_val (s : Fin 2) (r : Fin 832) (e : Fin 8) :
    places (BitVec.ofNat 32 b) I.cmb I.lt (ix2 (br s r) (lane e)) = posv (D.γ b s e) r.val := by
  classical
  have hr : r.val = 64 * (r.val / 64) + r.val % 64 := by omega
  refine (places_at _ _ _ s ⟨r.val / 64, by omega⟩ _ (ix2 ⟨r.val % 64, by omega⟩ (lane e)) ?_ rfl).trans ?_
  · show 832 * s.val + r.val = 832 * s.val + 64 * (r.val / 64) + r.val % 64; omega
  · rw [place_eq, given_at D hb I hfit hc, upto_at D hb I hfit hc hl]
    show (if 0 < (if 0 < D.γ b s e (64 * (r.val / 64) + r.val % 64) then (1 : EReal) else 0) then
      ((spot (D.γ b s e) (64 * (r.val / 64) + r.val % 64 + 1) : ℕ) : EReal) - 1 else _) = _
    rw [← hr]
    by_cases h : 0 < D.γ b s e r.val
    · rw [if_pos h, if_pos zero_lt_one, posv_pos h, spot_succ, if_pos h]
      rw [show ((spot (D.γ b s e) r.val + 1 : ℕ) : EReal) = (((spot (D.γ b s e) r.val + 1 : ℕ) : ℝ) : EReal) from rfl,
        show (1 : EReal) = ((1 : ℝ) : EReal) from rfl, ← EReal.coe_sub]
      show _ = (((spot (D.γ b s e) r.val : ℕ) : ℝ) : EReal)
      congr 1
      push_cast
      ring
    · rw [if_neg h, if_neg (lt_irrefl _), posv_neg h]
      exact minus_one

theorem start_base (hx : ∀ s (r : Fin 832) (d : Fin 1024), row b s r < 32768 → I.x (ix2 (br s r) d) = D.x (row b s r) d) (σ : St Ideal) :
    Base D b (start (BitVec.ofNat 32 b) I σ) := by
  refine ⟨fun s r e => places_val D hb I hfit hc hl s r e, fun s r d h => ?_⟩
  show put (put σ.xb ![0, 0] S832x1024.size _) ![832, 0] S832x1024.size _ (ix2 (br s r) d) = _
  refine (put_half _ 1 rfl _ s r d).trans ?_
  match s with
  | 0 =>
    rw [if_neg (by decide)]
    refine (put_half _ 0 rfl _ 0 r d).trans ?_
    rw [if_pos rfl, first_half hb _ r d h]
    exact (window_half I.x 0 rfl _ r d).trans (hx 0 r d h)
  | 1 =>
    rw [if_pos rfl, second_half hb _ r d h]
    exact (window_half I.x 1 rfl _ r d).trans (hx 1 r d h)
end

end Cert.Moe

end
-- ==== Proof.Point.lean ====
/- What each grid point does to the numbers: the invariant of the kernel's scratch buffers and of its result. -/
module

public import proofs.«01_k».proof.Proof.Begin

@[expose] public section

set_option maxRecDepth 16384

noncomputable section

namespace Cert.Moe

open Cert.KernelIdeal Cert.KernelIdeal.Gen
open Idealize.ShloMosaic
open Idealize.ShloMosaic.VecWindow

theorem coord_one (i : grid0.Coords) : ∃ a : Fin 8, a.val = (i 1).val := ⟨⟨(i 1).val, (i 1).isLt⟩, rfl⟩
theorem coord_two (i : grid0.Coords) : ∃ a : Fin 4, a.val = (i 2).val := ⟨⟨(i 2).val, (i 2).isLt⟩, rfl⟩

theorem cond1_iff (i : grid0.Coords) : k0_cond1 i = 1#1 ↔ (i 1).val = 0 ∧ (i 2).val = 0 := by
  obtain ⟨a, ha⟩ := coord_one i
  obtain ⟨c, hc⟩ := coord_two i
  unfold k0_cond1
  rw [← ha, ← hc]
  revert a c
  decide +revert
theorem cond2_iff (i : grid0.Coords) : k0_cond2 i = 1#1 ↔ (i 2).val = 0 := by
  obtain ⟨c, hc⟩ := coord_two i
  unfold k0_cond2
  rw [← hc]
  clear hc
  revert c
  decide
theorem cond3_iff (i : grid0.Coords) : k0_cond3 i = 1#1 ↔ (i 2).val = 3 := by
  obtain ⟨c, hc⟩ := coord_two i
  unfold k0_cond3
  rw [← hc]
  clear hc
  revert c
  decide
theorem cond4_iff (i : grid0.Coords) : k0_cond4 i = 1#1 ↔ (i 1).val = 7 := by
  obtain ⟨c, hc⟩ := coord_one i
  unfold k0_cond4
  rw [← hc]
  clear hc
  revert c
  decide

/-- What a grid point reads, in the layer's numbers: block `b`, expert `e`, part `f` of the inner width. -/
structure Good (D : Data) (b : ℕ) (e : Fin 8) (f : ℕ) (I : Ins Ideal) (v5 v29 : BitVec 32) : Prop where
  x : ∀ s (r : Fin 832) (d : Fin 1024), row b s r < 32768 → I.x (ix2 (br s r) d) = D.x (row b s r) d
  cmb : ∀ s (r : Fin 832) (e : Fin 8), I.cmb (ix2 (br s r) (lane e)) = D.g (row b s r) e
  lt : ∀ z x : Fin 64, I.lt (ix2 z x) = if x ≤ z then 1 else 0
  w1 : ∀ (q : Fin 896) k, I.w1 (ix3 0 q k) = D.w1 e (896 * f + q.val) k
  w3 : ∀ (q : Fin 896) k, I.w3 (ix3 0 q k) = D.w3 e (896 * f + q.val) k
  w2 : ∀ d (q : Fin 896), I.w2 (ix3 0 d q) = D.w2 e d (896 * f + q.val)
  lw : ∀ d, I.lw (ix2 0 d) = D.lw d
  lb : ∀ d, I.lb (ix2 0 d) = D.lb d
  n0 : v5.toNat = spot (D.γ b 0 e) 832
  n1 : v29.toNat = spot (D.γ b 1 e) 832

/-- The slots hold every row the expert is given, with `n` parts of its result. -/
def Rows (D : Data) (b : ℕ) (e : Fin 8) (n : ℕ) (σ : St Ideal) : Prop :=
  ∀ s (r : Fin 832), 0 < D.γ b s e r.val → RowOK D b e σ s r n

/-- The expert whose turn it is at point `n`. -/
def turn (n : ℕ) : Fin 8 := ⟨n / 4 % 8, Nat.mod_lt _ (by decide)⟩

/-- What holds of the scratch buffers before point `n`. -/
def Keeps (D : Data) (n : ℕ) (σ : St Ideal) : Prop :=
  n % 32 = 0 ∨ (Base D (n / 32) σ ∧ (n % 4 = 0 ∨ Rows D (n / 32) (turn n) (n % 4) σ))

/-- What holds of the result's buffer before point `n`: within a block, what the experts so far gave; after one, its result. -/
def Leaves (D : Data) (n : ℕ) (o : Vec Ideal S1664x1024 .f32) : Prop :=
  (n % 32 ≠ 0 → ∀ s (r : Fin 832) (d : Fin 1024), o (ix2 (br s r) d) = D.total (row (n / 32) s r) (n % 32 / 4) d) ∧
  (n % 32 = 0 → ∀ s (r : Fin 832) (d : Fin 1024), row ((n - 1) / 32) s r < 32768 → o (ix2 (br s r) d) = D.out (row ((n - 1) / 32) s r) d)

theorem two (s : Fin 2) : s = 0 ∨ s = 1 := by
  match s with
  | 0 => exact Or.inl rfl
  | 1 => exact Or.inr rfl

section
variable (D : Data) (hfit : D.Fits) {b : ℕ} {e : Fin 8} {f : ℕ} {I : Ins Ideal} {v5 v29 : BitVec 32} (hG : Good D b e f I v5 v29)
  (i : grid0.Coords) (w1 : k0_chk1 i v5) (w2 : k0_chk2 i v29) (hv5 : v5.toNat ≤ 832) (hv29 : v29.toNat ≤ 832)

include hG in
/-- Every row an expert is given is in one of the passes. -/
theorem in_pass0 (hv5 : v5.toNat ≤ 832) (r : Fin 832) (hr : 0 < D.γ b 0 e r.val) : pl D b e 0 r / 256 < (k0_t1_loop v5).trips := by
  have h1 := (loops v5 hv5).2.1
  have h2 : pl D b e 0 r < spot (D.γ b 0 e) 832 := spot_lt hr r.isLt
  rw [← hG.n0] at h2
  unfold npass at h1
  omega
include hG in
theorem in_pass1 (hv29 : v29.toNat ≤ 832) (r : Fin 832) (hr : 0 < D.γ b 1 e r.val) : pl D b e 1 r / 256 < (k0_t1_loop v29).trips := by
  have h1 := (loops v29 hv29).2.1
  have h2 : pl D b e 1 r < spot (D.γ b 1 e) 832 := spot_lt hr r.isLt
  rw [← hG.n1] at h2
  unfold npass at h1
  omega

include hfit hG hv5 hv29

theorem pickAll_rows (h2 : k0_cond2 i = 1#1) (σ : St Ideal) (hσ : Base D b σ) :
    Same σ (pickAll i (BitVec.ofNat 32 e.val) v5 v29 w1 w2 h2 I σ) ∧ Rows D b e 0 (pickAll i (BitVec.ofNat 32 e.val) v5 v29 w1 w2 h2 I σ) := by
  unfold pickAll
  obtain ⟨a1, a2⟩ := picks_iter D b e (picks0 D b e i I hfit v5 hv5 hG.cmb w1 h2) σ hσ _ le_rfl
  obtain ⟨b1, b2⟩ := picks_iter D b e (picks1 D b e i I hfit v29 hv29 hG.cmb w2 h2) _ (a1.base D b hσ) _ le_rfl
  refine ⟨⟨b1.1.trans a1.1, b1.2.1.trans a1.2.1, b1.2.2.trans a1.2.2⟩, fun s r hr => ?_⟩
  rcases two s with rfl | rfl
  · exact (b2 0 r hr).2 (by decide) 0 ((a2 0 r hr).1 ⟨rfl, in_pass0 D hG hv5 r hr⟩)
  · exact (b2 1 r hr).1 ⟨rfl, in_pass1 D hG hv29 r hr⟩

omit hfit in
theorem prodAll_rows (σ : St Ideal) (hσ : Rows D b e f σ) :
    Same σ (prodAll i v5 v29 w1 w2 I σ) ∧ Rows D b e (f + 1) (prodAll i v5 v29 w1 w2 I σ) := by
  unfold prodAll
  obtain ⟨a1, a2⟩ := prods_iter D b e (prods0 D b e i I v5 hv5 f hG.w1 hG.w3 hG.w2 w1) σ _ le_rfl
  obtain ⟨b1, b2⟩ := prods_iter D b e (prods1 D b e i I v29 hv29 f hG.w1 hG.w3 hG.w2 w2) (iter (prod0 i v5 w1 I) (k0_t5_loop v5).trips σ) _ le_rfl
  refine ⟨⟨b1.1.trans a1.1, b1.2.1.trans a1.2.1, b1.2.2.trans a1.2.2⟩, fun s r hr => ?_⟩
  rcases two s with rfl | rfl
  · exact (b2 0 r).2 (fun h => absurd h.1 (by decide)) _ ((a2 0 r).1 ⟨rfl, in_pass0 D hG hv5 r hr⟩ (hσ 0 r hr))
  · exact (b2 1 r).1 ⟨rfl, in_pass1 D hG hv29 r hr⟩ ((a2 1 r).2 (fun h => absurd h.1 (by decide)) _ (hσ 1 r hr))

omit hfit in
theorem backAll_rows (h3 : k0_cond3 i = 1#1) (σ : St Ideal) (hb : Base D b σ) (hσ : Rows D b e 4 σ) :
    let σ' := backAll i (BitVec.ofNat 32 e.val) v5 v29 w1 w2 h3 σ
    σ'.pos = σ.pos ∧ σ'.xb = σ.xb ∧ ∀ s (r : Fin 832) (d : Fin 1024), σ'.o (ix2 (br s r) d) = σ.o (ix2 (br s r) d) + D.share e (row b s r) d := by
  classical
  dsimp only
  unfold backAll
  obtain ⟨a1, a2, a3, a4⟩ := backs_iter D b e (backs0 D b e i v5 hv5 w1 h3) σ hb _ le_rfl
  obtain ⟨b1, b2, b3, b4⟩ := backs_iter D b e (backs1 D b e i v29 hv29 w2 h3) (iter (back0 i (BitVec.ofNat 32 e.val) v5 w1 h3) (k0_t9_loop v5).trips σ)
    ⟨fun s r e => by rw [a1]; exact hb.pos s r e, fun s r d hr => by rw [a2]; exact hb.xb s r d hr⟩ _ le_rfl
  refine ⟨b1.trans a1, b2.trans a2, fun s r d => ?_⟩
  refine (b4 s r d).trans ?_
  rw [a4, a3]
  by_cases hr : 0 < D.γ b s e r.val
  · have hsh : D.share e (row b s r) d = D.parts e (row b s r) 4 d := if_pos hr
    rw [hsh]
    rcases two s with rfl | rfl
    · rw [if_pos ⟨rfl, hr, in_pass0 D hG hv5 r hr⟩, if_neg (fun h => absurd h.1 (by decide)), add_zero, (hσ 0 r hr).y d]
    · rw [if_neg (fun h => absurd h.1 (by decide)), if_pos ⟨rfl, hr, in_pass1 D hG hv29 r hr⟩, add_zero, (hσ 1 r hr).y d]
  · have hsh : D.share e (row b s r) d = 0 := if_neg hr
    rw [hsh, if_neg (fun h => hr h.2.1), if_neg (fun h => hr h.2.1), add_zero]

end

theorem total_succ (D : Data) (R : ℕ) (e : Fin 8) (d : Fin 1024) : D.total R (e.val + 1) d = D.total R e.val d + D.share e R d := by
  unfold Data.total
  rw [Finset.sum_range_succ, dif_pos e.isLt]

section
variable (D : Data) (hfit : D.Fits) {t : ℕ} (ht : t < 640) {I : Ins Ideal} {v5 v29 : BitVec 32} (hG : Good D (t / 32) (turn t) (t % 4) I v5 v29)
  (i : grid0.Coords) (i0 : (i 0).val = t / 32) (i1 : (i 1).val = t / 4 % 8) (i2 : (i 2).val = t % 4)
  (w1 : k0_chk1 i v5) (w2 : k0_chk2 i v29) (hv5 : v5.toNat ≤ 832) (hv29 : v29.toNat ≤ 832)
include hfit ht hG i0 i1 i2 hv5 hv29

theorem front_keeps (σ : St Ideal) (hK : Keeps D t σ) (hO : t % 32 ≠ 0 → Leaves D t σ.o) :
    let σ' := front i v5 v29 w1 w2 I σ
    Base D (t / 32) σ' ∧ Rows D (t / 32) (turn t) (t % 4 + 1) σ' ∧
      ∀ s (r : Fin 832) (d : Fin 1024), σ'.o (ix2 (br s r) d) = D.total (row (t / 32) s r) (turn t).val d := by
  dsimp only
  unfold front
  have ht1 : (turn t).val = t / 4 % 8 := rfl
  have e1 : BitVec.ofNat 32 (i 1).val = BitVec.ofNat 32 (turn t).val := by rw [i1]; rfl
  rw [e1]
  have key1 : ∀ σ1, σ1 = (if k0_cond1 i = 1#1 then start (BitVec.ofNat 32 (i 0).val) I σ else σ) → Base D (t / 32) σ1 ∧
      (t % 4 = 0 ∨ Rows D (t / 32) (turn t) (t % 4) σ1) ∧ ∀ s (r : Fin 832) (d : Fin 1024), σ1.o (ix2 (br s r) d) = D.total (row (t / 32) s r) (turn t).val d := by
    intro σ1 h1
    by_cases h : t % 32 = 0
    · rw [if_pos ((cond1_iff i).2 ⟨by omega, by omega⟩), i0] at h1
      subst h1
      refine ⟨start_base D (by omega) I hfit hG.cmb hG.lt hG.x σ, Or.inl (by omega), fun s r d => ?_⟩
      have h0 : (turn t).val = 0 := by omega
      rw [h0]
      refine (zero_o (ix2 (br s r) d)).trans ?_
      exact (Finset.sum_range_zero _).symm
    · rw [if_neg (fun h' => h (by have := (cond1_iff i).1 h'; omega))] at h1
      subst h1
      rcases hK with h' | h'
      · exact absurd h' h
      · refine ⟨h'.1, h'.2, fun s r d => ?_⟩
        have e2 : t % 32 / 4 = (turn t).val := by omega
        rw [← e2]
        exact (hO h).1 h s r d
  generalize (if k0_cond1 i = 1#1 then start (BitVec.ofNat 32 (i 0).val) I σ else σ) = σ1 at key1 ⊢
  obtain ⟨k1, k2, k3⟩ := key1 σ1 rfl
  have key2 : ∀ σ2, σ2 = (if h2 : k0_cond2 i = 1#1 then pickAll i (BitVec.ofNat 32 (turn t).val) v5 v29 w1 w2 h2 I σ1 else σ1) →
      Same σ1 σ2 ∧ Rows D (t / 32) (turn t) (t % 4) σ2 := by
    intro σ2 h2
    by_cases h : t % 4 = 0
    · rw [dif_pos ((cond2_iff i).2 (by omega))] at h2
      subst h2
      rw [h]
      exact pickAll_rows D hfit hG i w1 w2 hv5 hv29 _ σ1 k1
    · rw [dif_neg (fun h' => h (by have := (cond2_iff i).1 h'; omega))] at h2
      subst h2
      exact ⟨⟨rfl, rfl, rfl⟩, k2.resolve_left h⟩
  dsimp only
  generalize (if h2 : k0_cond2 i = 1#1 then pickAll i (BitVec.ofNat 32 (turn t).val) v5 v29 w1 w2 h2 I σ1 else σ1) = σ2 at key2 ⊢
  obtain ⟨k4, k5⟩ := key2 σ2 rfl
  obtain ⟨k6, k7⟩ := prodAll_rows D hG i w1 w2 hv5 hv29 σ2 k5
  refine ⟨k6.base D _ (k4.base D _ k1), k7, fun s r d => ?_⟩
  rw [k6.2.2, k4.2.2]
  exact k3 s r d

/-- A grid point keeps the invariant. -/
theorem point_keeps (σ : St Ideal) (hK : Keeps D t σ) (hO : t % 32 ≠ 0 → Leaves D t σ.o) :
    Keeps D (t + 1) (point i v5 v29 w1 w2 I σ) ∧ Leaves D (t + 1) (point i v5 v29 w1 w2 I σ).o := by
  have ht1 : (turn t).val = t / 4 % 8 := rfl
  obtain ⟨f1, f2, f3⟩ := front_keeps D hfit ht hG i i0 i1 i2 w1 w2 hv5 hv29 σ hK hO
  unfold point
  generalize front i v5 v29 w1 w2 I σ = σ' at f1 f2 f3 ⊢
  have e1 : BitVec.ofNat 32 (i 1).val = BitVec.ofNat 32 (turn t).val := by rw [i1]; rfl
  rw [e1]
  by_cases h3 : t % 4 = 3
  · rw [dif_pos ((cond3_iff i).2 (by omega))]
    rw [h3] at f2
    obtain ⟨g1, g2, g3⟩ := backAll_rows D hG i w1 w2 hv5 hv29 ((cond3_iff i).2 (by omega)) σ' f1 f2
    generalize backAll i (BitVec.ofNat 32 (turn t).val) v5 v29 w1 w2 _ σ' = σ2 at g1 g2 g3 ⊢
    have g4 : ∀ s (r : Fin 832) (d : Fin 1024), σ2.o (ix2 (br s r) d) = D.total (row (t / 32) s r) ((turn t).val + 1) d := fun s r d => by
      rw [total_succ, g3, f3]
    unfold lastly
    by_cases h7 : t / 4 % 8 = 7
    · rw [if_pos ((cond4_iff i).2 (by omega))]
      refine ⟨Or.inl (by omega), fun h => absurd h (by omega), fun _ s r d hr => ?_⟩
      have e2 : (t + 1 - 1) / 32 = t / 32 := by omega
      rw [e2] at hr ⊢
      refine (norm_at I.x σ2.o I.lw I.lb (br s r) d (D.res (row (t / 32) s r)) fun k => ?_).trans ?_
      · have e3 : (turn t).val + 1 = 8 := by omega
        rw [g4, hG.x s r k hr, e3]; rfl
      · rw [hG.lw, hG.lb]; rfl
    · rw [if_neg (fun h' => h7 (by have := (cond4_iff i).1 h'; omega))]
      have e2 : (t + 1) / 32 = t / 32 := by omega
      refine ⟨Or.inr ⟨?_, Or.inl (by omega)⟩, fun _ s r d => ?_, fun h => absurd h (by omega)⟩
      · rw [e2]
        exact ⟨fun s r e => by rw [g1]; exact f1.pos s r e, fun s r d hr => by rw [g2]; exact f1.xb s r d hr⟩
      · rw [e2, g4]
        have e3 : (t + 1) % 32 / 4 = (turn t).val + 1 := by omega
        rw [e3]
  · rw [dif_neg (fun h' => h3 (by have := (cond3_iff i).1 h'; omega))]
    have e2 : (t + 1) / 32 = t / 32 := by omega
    have e4 : turn (t + 1) = turn t := Fin.ext (by show (t + 1) / 4 % 8 = t / 4 % 8; omega)
    have e5 : (t + 1) % 4 = t % 4 + 1 := by omega
    refine ⟨Or.inr ⟨?_, Or.inr ?_⟩, fun _ s r d => ?_, fun h => absurd h (by omega)⟩
    · rw [e2]; exact f1
    · rw [e2, e4, e5]; exact f2
    · rw [e2, f3]
      have e3 : (t + 1) % 32 / 4 = (turn t).val := by omega
      rw [e3]
end

end Cert.Moe

end
-- ==== Proof.Seen.lean ====
/- What a grid point reads, in the layer's numbers. -/
module

public import proofs.«01_k».proof.Proof.Point
public import proofs.«01_k».proof.Proof.Frames

@[expose] public section

set_option maxRecDepth 16384

noncomputable section

namespace Cert.Moe

open Cert.KernelIdeal Cert.KernelIdeal.Gen
open Idealize.ShloMosaic
open Idealize.ShloMosaic.TcCoe
open Idealize.ShloMosaic.VecWindow

/-- An element a transfer moves is an element of the array. -/
theorem fill_at {α : Type} {G : Pipeline.Grid} (w : Pipeline.Window sig G) (i : G.Coords) (d : w.block.Idx → α) (g : (w.xblock i).Idx → α) (j : w.block.Idx)
    (h : ∀ a, (j a).val < w.xsize i a) : w.fill i d g j = g fun a => ⟨(j a).val, h a⟩ := by
  unfold Pipeline.Window.fill
  rw [dif_pos ((w.moved_iff i j).mpr h)]

theorem lt_extent (ix k d a : ℕ) (h1 : a < k) (h2 : ix * k + a < d) : a < (Pipeline.Clip.of ix k d).extent k := by
  unfold Pipeline.Clip.of
  split
  · exact h1
  · show a < d - ix * k
    omega

section
variable (m : (ℓ : Loc nD τ sig) → Buf (Elt Ideal) ℓ) (c : Dev nD)

theorem t_lt (t : Fin grid0.N) : t.val < 640 := N_0 ▸ t.isLt

theorem index0 (t : Fin grid0.N) : cc0_transform_0 (grid0.coords t) = ![t.val / 32, 0] := by
  have h := t_lt t
  unfold cc0_transform_0
  dsimp only
  rw [coord0]
  simp only [BitVec.toNat_ofNat]
  congr 1 <;> first | rfl | omega

theorem index1 (t : Fin grid0.N) : cc0_transform_1 (grid0.coords t) = ![t.val / 32, 0] := by
  have h := t_lt t
  unfold cc0_transform_1
  dsimp only
  rw [coord0]
  simp only [BitVec.toNat_ofNat]
  congr 1 <;> first | rfl | omega

theorem index3 (t : Fin grid0.N) : cc0_transform_3 (grid0.coords t) = ![t.val / 4 % 8, t.val % 4, 0] := by
  have h := t_lt t
  unfold cc0_transform_3
  dsimp only
  rw [coord1, coord2]
  simp only [BitVec.toNat_ofNat]
  rw [Nat.mod_eq_of_lt (show t.val / 4 % 8 < 2 ^ 32 by omega), Nat.mod_eq_of_lt (show t.val % 4 < 2 ^ 32 by omega)]

theorem index4 (t : Fin grid0.N) : cc0_transform_4 (grid0.coords t) = ![t.val / 4 % 8, t.val % 4, 0] := by
  have h := t_lt t
  unfold cc0_transform_4
  dsimp only
  rw [coord1, coord2]
  simp only [BitVec.toNat_ofNat]
  rw [Nat.mod_eq_of_lt (show t.val / 4 % 8 < 2 ^ 32 by omega), Nat.mod_eq_of_lt (show t.val % 4 < 2 ^ 32 by omega)]

theorem index5 (t : Fin grid0.N) : cc0_transform_5 (grid0.coords t) = ![t.val / 4 % 8, 0, t.val % 4] := by
  have h := t_lt t
  unfold cc0_transform_5
  dsimp only
  rw [coord1, coord2]
  simp only [BitVec.toNat_ofNat]
  rw [Nat.mod_eq_of_lt (show t.val / 4 % 8 < 2 ^ 32 by omega), Nat.mod_eq_of_lt (show t.val % 4 < 2 ^ 32 by omega)]

theorem index8 (t : Fin grid0.N) : cc0_transform_8 (grid0.coords t) = ![t.val / 32, 0] := by
  have h := t_lt t
  unfold cc0_transform_8
  dsimp only
  rw [coord0]
  simp only [BitVec.toNat_ofNat]
  congr 1 <;> first | rfl | omega

theorem seen_x (t : Fin (cfgT m).N) (d) (r : Fin 1664) (k : Fin 1024) (R : Fin 32768) (hR : R.val = 1664 * (t.val / 32) + r.val) :
    seen m c 0 t d (ix2 r k) = V m c main_arg0 (ix2 R k) := by
  unfold seen
  have hx : ∀ a, ((ix2 r k : S1664x1024.Idx) a).val < ((cfgT m).win (0 : Fin 9)).xsize ((cfgT m).grid.coords t) a := by
    intro a
    show _ < (Pipeline.Clip.of (cc0_transform_0 (grid0.coords t) a) (S1664x1024.size a) (S32768x1024.size a)).extent (S1664x1024.size a)
    refine lt_extent _ _ _ _ (Fin.isLt _) ?_
    rw [index0]
    have := R.isLt
    match a with
    | 0 => show t.val / 32 * 1664 + r.val < 32768; omega
    | 1 => show 0 * 1024 + k.val < 1024; omega
  refine (fill_at ((cfgT m).win (0 : Fin 9)) _ d _ (ix2 r k) hx).trans ?_
  show V m c main_arg0 ((((cfgT m).win (0 : Fin 9)).rect t).emb _) = _
  congr 1
  funext a
  apply Fin.ext
  refine (Pipeline.Window.rect_emb_val ((cfgT m).win (0 : Fin 9)) t _ a rfl).trans ?_
  show cc0_transform_0 (grid0.coords t) a * S1664x1024.size a + _ = _
  rw [index0]
  match a with
  | 0 => show t.val / 32 * 1664 + r.val = R.val; omega
  | 1 => show 0 * 1024 + k.val = k.val; omega

theorem seen_cmb (t : Fin (cfgT m).N) (d) (r : Fin 1664) (k : Fin 128) (R : Fin 33280) (hR : R.val = 1664 * (t.val / 32) + r.val) :
    seen m c 1 t d (ix2 r k) = V m c main_v7 (ix2 R k) := by
  unfold seen
  refine (fill_at ((cfgT m).win (1 : Fin 9)) _ d _ (ix2 r k) (fun a => Fin.isLt _)).trans ?_
  show V m c main_v7 ((((cfgT m).win (1 : Fin 9)).rect t).emb _) = _
  congr 1
  funext a
  apply Fin.ext
  refine (Pipeline.Window.rect_emb_val ((cfgT m).win (1 : Fin 9)) t _ a rfl).trans ?_
  show cc0_transform_1 (grid0.coords t) a * S1664x128.size a + _ = _
  rw [index1]
  match a with
  | 0 => show t.val / 32 * 1664 + r.val = R.val; omega
  | 1 => show 0 * 128 + k.val = k.val; omega

theorem seen_lt (t : Fin (cfgT m).N) (d) (r k : Fin 64)  :
    seen m c 2 t d (ix2 r k) = V m c main_cst (ix2 r k) := by
  unfold seen
  refine (fill_at ((cfgT m).win (2 : Fin 9)) _ d _ (ix2 r k) (fun a => Fin.isLt _)).trans ?_
  show V m c main_cst ((((cfgT m).win (2 : Fin 9)).rect t).emb _) = _
  congr 1
  funext a
  apply Fin.ext
  refine (Pipeline.Window.rect_emb_val ((cfgT m).win (2 : Fin 9)) t _ a rfl).trans ?_
  show cc0_transform_2 (grid0.coords t) a * S64x64.size a + _ = _
  match a with
  | 0 => show 0 * 64 + r.val = r.val; omega
  | 1 => show 0 * 64 + k.val = k.val; omega

theorem seen_w1 (t : Fin (cfgT m).N) (d) (q : Fin 896) (k : Fin 1024) (E : Fin 8) (Q : Fin 3584) (hE : E.val = t.val / 4 % 8) (hQ : Q.val = 896 * (t.val % 4) + q.val) :
    seen m c 3 t d (ix3 (0 : Fin 1) q k) = V m c main_v2 (ix3 E Q k) := by
  unfold seen
  refine (fill_at ((cfgT m).win (3 : Fin 9)) _ d _ (ix3 (0 : Fin 1) q k) (fun a => Fin.isLt _)).trans ?_
  show V m c main_v2 ((((cfgT m).win (3 : Fin 9)).rect t).emb _) = _
  congr 1
  funext a
  apply Fin.ext
  refine (Pipeline.Window.rect_emb_val ((cfgT m).win (3 : Fin 9)) t _ a rfl).trans ?_
  show cc0_transform_3 (grid0.coords t) a * S1x896x1024.size a + _ = _
  rw [index3]
  match a with
  | 0 => show t.val / 4 % 8 * 1 + 0 = E.val; omega
  | 1 => show t.val % 4 * 896 + q.val = Q.val; omega
  | 2 => show 0 * 1024 + k.val = k.val; omega

theorem seen_w3 (t : Fin (cfgT m).N) (d) (q : Fin 896) (k : Fin 1024) (E : Fin 8) (Q : Fin 3584) (hE : E.val = t.val / 4 % 8) (hQ : Q.val = 896 * (t.val % 4) + q.val) :
    seen m c 4 t d (ix3 (0 : Fin 1) q k) = V m c main_v4 (ix3 E Q k) := by
  unfold seen
  refine (fill_at ((cfgT m).win (4 : Fin 9)) _ d _ (ix3 (0 : Fin 1) q k) (fun a => Fin.isLt _)).trans ?_
  show V m c main_v4 ((((cfgT m).win (4 : Fin 9)).rect t).emb _) = _
  congr 1
  funext a
  apply Fin.ext
  refine (Pipeline.Window.rect_emb_val ((cfgT m).win (4 : Fin 9)) t _ a rfl).trans ?_
  show cc0_transform_4 (grid0.coords t) a * S1x896x1024.size a + _ = _
  rw [index4]
  match a with
  | 0 => show t.val / 4 % 8 * 1 + 0 = E.val; omega
  | 1 => show t.val % 4 * 896 + q.val = Q.val; omega
  | 2 => show 0 * 1024 + k.val = k.val; omega

theorem seen_w2 (t : Fin (cfgT m).N) (d) (k : Fin 1024) (q : Fin 896) (E : Fin 8) (Q : Fin 3584) (hE : E.val = t.val / 4 % 8) (hQ : Q.val = 896 * (t.val % 4) + q.val) :
    seen m c 5 t d (ix3 (0 : Fin 1) k q) = V m c main_v6 (ix3 E k Q) := by
  unfold seen
  refine (fill_at ((cfgT m).win (5 : Fin 9)) _ d _ (ix3 (0 : Fin 1) k q) (fun a => Fin.isLt _)).trans ?_
  show V m c main_v6 ((((cfgT m).win (5 : Fin 9)).rect t).emb _) = _
  congr 1
  funext a
  apply Fin.ext
  refine (Pipeline.Window.rect_emb_val ((cfgT m).win (5 : Fin 9)) t _ a rfl).trans ?_
  show cc0_transform_5 (grid0.coords t) a * S1x1024x896.size a + _ = _
  rw [index5]
  match a with
  | 0 => show t.val / 4 % 8 * 1 + 0 = E.val; omega
  | 1 => show 0 * 1024 + k.val = k.val; omega
  | 2 => show t.val % 4 * 896 + q.val = Q.val; omega

theorem seen_lw (t : Fin (cfgT m).N) (d) (k : Fin 1024)  :
    seen m c 6 t d (ix2 (0 : Fin 1) k) = V m c main_v15 (ix2 (0 : Fin 1) k) := by
  unfold seen
  refine (fill_at ((cfgT m).win (6 : Fin 9)) _ d _ (ix2 (0 : Fin 1) k) (fun a => Fin.isLt _)).trans ?_
  show V m c main_v15 ((((cfgT m).win (6 : Fin 9)).rect t).emb _) = _
  congr 1
  funext a
  apply Fin.ext
  refine (Pipeline.Window.rect_emb_val ((cfgT m).win (6 : Fin 9)) t _ a rfl).trans ?_
  show cc0_transform_6 (grid0.coords t) a * S1x1024.size a + _ = _
  match a with
  | 0 => show 0 * 1 + 0 = 0; omega
  | 1 => show 0 * 1024 + k.val = k.val; omega

theorem seen_lb (t : Fin (cfgT m).N) (d) (k : Fin 1024)  :
    seen m c 7 t d (ix2 (0 : Fin 1) k) = V m c main_v16 (ix2 (0 : Fin 1) k) := by
  unfold seen
  refine (fill_at ((cfgT m).win (7 : Fin 9)) _ d _ (ix2 (0 : Fin 1) k) (fun a => Fin.isLt _)).trans ?_
  show V m c main_v16 ((((cfgT m).win (7 : Fin 9)).rect t).emb _) = _
  congr 1
  funext a
  apply Fin.ext
  refine (Pipeline.Window.rect_emb_val ((cfgT m).win (7 : Fin 9)) t _ a rfl).trans ?_
  show cc0_transform_7 (grid0.coords t) a * S1x1024.size a + _ = _
  match a with
  | 0 => show 0 * 1 + 0 = 0; omega
  | 1 => show 0 * 1024 + k.val = k.val; omega

end

end Cert.Moe

end
-- ==== Proof.Nums.lean ====
/- The layer's numbers, from the arguments: what the host's operations hand the kernel. -/
module

public import proofs.«01_k».proof.Proof.Seen

@[expose] public section

set_option maxRecDepth 16384

noncomputable section

namespace Cert.Moe

open Cert.KernelIdeal Cert.KernelIdeal.Gen
open Idealize.ShloMosaic
open Idealize.ShloMosaic.TcCoe
open Idealize.ShloMosaic.VecWindow

/-- The layer's numbers of the arguments; beyond the last row everything is zero. -/
def nums (a0 : Vec Ideal S32768x1024 .f32) (a1 : Vec Ideal S32768x8 .f32) (a2 a3 : Vec Ideal S8x1024x3584 .f32) (a4 : Vec Ideal S8x3584x1024 .f32) (a5 a6 : Vec Ideal S1024 .f32) : Data where
  x R d := if h : R < 32768 then a0 (ix2 ⟨R, h⟩ d) else 0
  g R e := if h : R < 32768 then a1 (ix2 ⟨R, h⟩ e) else 0
  w1 e f k := if h : f < 3584 then a2 (ix3 e k ⟨f, h⟩) else 0
  w3 e f k := if h : f < 3584 then a3 (ix3 e k ⟨f, h⟩) else 0
  w2 e d f := if h : f < 3584 then a4 (ix3 e ⟨f, h⟩ d) else 0
  lw d := a5 (ix1 d)
  lb d := a6 (ix1 d)

section
variable (a0 : Vec Ideal S32768x1024 .f32) (a1 : Vec Ideal S32768x8 .f32) (a2 a3 : Vec Ideal S8x1024x3584 .f32) (a4 : Vec Ideal S8x3584x1024 .f32) (a5 a6 : Vec Ideal S1024 .f32)
theorem nums_x (R : ℕ) (d : Fin 1024) (h : R < 32768) : (nums a0 a1 a2 a3 a4 a5 a6).x R d = a0 (ix2 ⟨R, h⟩ d) := dif_pos h
theorem nums_g (R : ℕ) (e : Fin 8) (h : R < 32768) : (nums a0 a1 a2 a3 a4 a5 a6).g R e = a1 (ix2 ⟨R, h⟩ e) := dif_pos h
theorem nums_g0 (R : ℕ) (e : Fin 8) (h : ¬R < 32768) : (nums a0 a1 a2 a3 a4 a5 a6).g R e = 0 := dif_neg h
theorem nums_w1 (e : Fin 8) (f : ℕ) (k : Fin 1024) (h : f < 3584) : (nums a0 a1 a2 a3 a4 a5 a6).w1 e f k = a2 (ix3 e k ⟨f, h⟩) := dif_pos h
theorem nums_w3 (e : Fin 8) (f : ℕ) (k : Fin 1024) (h : f < 3584) : (nums a0 a1 a2 a3 a4 a5 a6).w3 e f k = a3 (ix3 e k ⟨f, h⟩) := dif_pos h
theorem nums_w2 (e : Fin 8) (f : ℕ) (k : Fin 1024) (h : f < 3584) : (nums a0 a1 a2 a3 a4 a5 a6).w2 e k f = a4 (ix3 e ⟨f, h⟩ k) := dif_pos h
end

theorem zero_word : (FloatOps.sitofp .f32 (0#32) : Ideal .f32) = 0 := by
  show ((((0#32 : BitVec 32).toInt : ℝ) : EReal)) = 0
  norm_num

theorem padded_at (g : Vec Ideal S32768x8 .f32) (R : Fin 33280) (k : Fin 128) :
    padded g (ix2 R k) = if h : R.val < 32768 ∧ k.val < 8 then g (ix2 ⟨R.val, h.1⟩ ⟨k.val, h.2⟩) else 0 := by
  unfold padded
  pointwise
  rw [zero_word]
  by_cases h1 : R.val < 32768 <;> by_cases h2 : k.val < 8 <;> simp [h1, h2]

theorem bits_at (p : Vec Ideal S33280x128 .f32) (B : Fin 40) (r : Fin 832) (e : Fin 8) (R : Fin 33280) (hR : R.val = 832 * B.val + r.val) :
    (bits p (ix3 B r e)).toNat = if 0 < p (ix2 R (lane e)) then 1 else 0 := by
  unfold bits
  pointwise
  have e1 : R = ⟨B.val * 832 + r.val, by have := R.isLt; omega⟩ := Fin.ext (by show R.val = B.val * 832 + r.val; omega)
  have e2 : lane e = ⟨e.val, Nat.lt_of_lt_of_le e.isLt (by decide)⟩ := rfl
  rw [e1, e2]
  split
  · next h => rw [decide_eq_true h]; rfl
  · next h => rw [decide_eq_false h]; rfl

theorem turned_at (a : Vec Ideal S8x1024x3584 .f32) (h) (hb) (e : Fin 8) (q : Fin 3584) (k : Fin 1024) :
    truncf (F := Ideal) (φ := .f32) .bf16 (transpose S8x3584x1024 [0, 2, 1] a h) hb (ix3 e q k) = a (ix3 e k q) := by
  pointwise

theorem turned2_at (a : Vec Ideal S8x3584x1024 .f32) (h) (hb) (e : Fin 8) (q : Fin 3584) (k : Fin 1024) :
    truncf (F := Ideal) (φ := .f32) .bf16 (transpose S8x1024x3584 [0, 2, 1] a h) hb (ix3 e k q) = a (ix3 e q k) := by
  pointwise

theorem line_at (a : Vec Ideal S1024 .f32) (h) (k : Fin 1024) : shapeCast S1x1024 a h (ix2 (0 : Fin 1) k) = a (ix1 k) := by
  pointwise

/-- The table of the lower triangle. -/
theorem low_words : ∀ z x : Fin 64, lit0t (z.val * 64 + x.val) = if x ≤ z then 0x3F800000#32 else 0#32 := by decide +kernel

theorem low_at (z x : Fin 64) : (FloatOps.ofBits .f32 (lit0 (S64x64.rowMajor (ix2 z x))) : Ideal .f32) = if x ≤ z then 1 else 0 := by
  have e : lit0 (S64x64.rowMajor (ix2 z x)) = lit0t (S64x64.rowMajor (ix2 z x)).val := rfl
  have h : (S64x64.rowMajor (ix2 z x)).val = z.val * 64 + x.val := Shape.rowMajor_val_two _
  rw [e, h, low_words]
  split
  · exact Ideal.ofBits_one_f32
  · exact Ideal.ofBits_zero_f32

theorem flat_at (v : IVec S40x8 32) (h) (B : Fin 40) (e : Fin 8) (q : Fin 320) (hq : q.val = 8 * B.val + e.val) : shapeCast S320 v h (ix1 q) = v (ix2 B e) := by
  pointwise
  congr 2
  · apply Fin.ext
    show q.val / 8 = B.val
    have := e.isLt
    omega
  · apply Fin.ext
    show q.val % 8 = e.val
    have := e.isLt
    omega

theorem lift_at (B : Fin 40) (e : Fin 8) (r : Fin 832) : reduces_mid.lift (ix2 B e) r = ix3 B r e := by
  funext a
  apply Fin.ext
  refine (Shape.Reduces.lift_val reduces_mid _ _ a).trans ?_
  match a with
  | 0 => rfl
  | 1 => rfl
  | 2 => rfl

/-- The gates a table of the call holds: its rows are cut into half blocks. -/
theorem count_at (p : Vec Ideal S33280x128 .f32) (h) (γ : ℕ → EReal) (B : Fin 40) (e : Fin 8) (q : Fin 320) (hq : q.val = 8 * B.val + e.val)
    (hγ : ∀ (r : Fin 832) (R : Fin 33280), R.val = 832 * B.val + r.val → p (ix2 R (lane e)) = γ r.val) :
    (shapeCast S320 (tally p) h (ix1 q)).toNat = spot γ 832 := by
  rw [flat_at _ _ B e q hq, tally_toNat]
  have h1 : ∀ r : Fin 832, (bits p (reduces_mid.lift (ix2 B e) r)).toNat = if 0 < γ r.val then 1 else 0 := by
    intro r
    have hR : 832 * B.val + r.val < 33280 := by have := B.isLt; have := r.isLt; omega
    rw [lift_at, bits_at p B r e ⟨_, hR⟩ rfl, hγ r ⟨_, hR⟩ rfl]
  refine (Finset.sum_congr rfl fun r _ => h1 r).trans ?_
  refine (Fin.sum_univ_eq_sum_range (fun k => if 0 < γ k then 1 else 0) 832).trans ?_
  unfold spot
  rw [Nat.count_eq_card_filter_range, Finset.card_filter]

theorem off_at (i : grid0.Coords) (s : Fin 2) : (k0_off1 i (BitVec.ofNat 32 s.val)) 0 = 8 * (2 * (i 0).val + s.val) + (i 1).val := by
  obtain ⟨a, ha⟩ : ∃ a : Fin 20, a.val = (i 0).val := ⟨⟨(i 0).val, (i 0).isLt⟩, rfl⟩
  obtain ⟨b, hb⟩ := coord_one i
  unfold k0_off1
  rw [← ha, ← hb]
  clear ha hb
  revert a b s
  decide

theorem cnt_at (i : grid0.Coords) (I : Ins Ideal) (s : Fin 2) (q : Fin 320) (hq : q.val = 8 * (2 * (i 0).val + s.val) + (i 1).val) : cntOf i I s = I.cnt (ix1 q) := by
  unfold cntOf window
  congr 1
  funext a
  match a with
  | 0 =>
    apply Fin.ext
    rw [Rect.emb_apply]
    show k0_off1 i (BitVec.ofNat 32 s.val) 0 + 1 * 0 = q.val
    rw [off_at]
    omega

section
variable (m : (ℓ : Loc nD τ sig) → Buf (Elt Ideal) ℓ) (c : Dev nD)

/-- The layer's numbers at the launch. -/
def layer : Data := nums (m (c, main_arg0)) (m (c, main_arg1)) (m (c, main_arg2)) (m (c, main_arg3)) (m (c, main_arg4)) (m (c, main_arg5)) (m (c, main_arg6))

theorem layer_fits : (layer m c).Fits := by
  intro R e h
  by_contra hR
  have h0 : (layer m c).g R e = 0 := nums_g0 _ _ _ _ _ _ _ R e hR
  rw [h0] at h
  exact lt_irrefl _ h

/-- The padded gates are the layer's. -/
theorem gate_at (R : Fin 33280) (e : Fin 8) : padded (m (c, main_arg1)) (ix2 R (lane e)) = (layer m c).g R.val e := by
  rw [padded_at]
  unfold layer
  by_cases h : R.val < 32768
  · rw [dif_pos (show R.val < 32768 ∧ (lane e).val < 8 from ⟨h, e.isLt⟩), nums_g _ _ _ _ _ _ _ _ _ h]
    rfl
  · rw [dif_neg (fun h' => h h'.1), nums_g0 _ _ _ _ _ _ _ _ _ h]

theorem count_seen (t : Fin grid0.N) (I : Ins Ideal) (hI : I.cnt = counts m c) (s : Fin 2) :
    (cntOf (grid0.coords t) I s).toNat = spot ((layer m c).γ (t.val / 32) s (turn t.val)) 832 := by
  have ht := t_lt t
  have hs := s.isLt
  have hB : 2 * (t.val / 32) + s.val < 40 := by omega
  have hq : 8 * (2 * (t.val / 32) + s.val) + t.val / 4 % 8 < 320 := by omega
  rw [cnt_at _ I s ⟨_, hq⟩ (by rw [coord0, coord1]), hI]
  have e : counts m c = shapeCast S320 (tally (padded (m (c, main_arg1)))) shapeCasts_S40x8_S320 := V_counts m c
  rw [e]
  refine count_at _ _ _ ⟨_, hB⟩ (turn t.val) _ rfl fun r R hR => ?_
  rw [gate_at]
  show (layer m c).g R.val _ = (layer m c).g (1664 * (t.val / 32) + 832 * s.val + r.val) _
  rw [hR]
  congr 1
  show 832 * (2 * (t.val / 32) + s.val) + r.val = _
  omega

/-- What a grid point reads is the layer's numbers. -/
theorem good_of_seen (t : Fin grid0.N) (I : Ins Ideal) (v5 v29 : BitVec 32) (hI : Seen m c t I)
    (h5 : cntOf (grid0.coords t) I 0 = v5) (h29 : cntOf (grid0.coords t) I 1 = v29) :
    Good (layer m c) (t.val / 32) (turn t.val) (t.val % 4) I v5 v29 := by
  obtain ⟨hcnt, ⟨d0, hx⟩, ⟨d1, hcmb⟩, ⟨d2, hlt⟩, ⟨d3, hw1⟩, ⟨d4, hw3⟩, ⟨d5, hw2⟩, ⟨d6, hlw⟩, ⟨d7, hlb⟩⟩ := hI
  have ht := t_lt t
  have hQ : ∀ q : Fin 896, 896 * (t.val % 4) + q.val < 3584 := fun q => by have := q.isLt; omega
  constructor
  · intro s r d hr
    rw [hx, seen_x m c t d0 (br s r) d ⟨_, hr⟩ (Nat.add_assoc _ _ _), V_x]
    exact (nums_x _ _ _ _ _ _ _ _ _ hr).symm
  · intro s r e
    have hR : 1664 * (t.val / 32) + (br s r).val < 33280 := by have := (br s r).isLt; omega
    rw [hcmb, seen_cmb m c t d1 _ _ ⟨_, hR⟩ rfl, V_cmb, gate_at]
    show (layer m c).g (1664 * (t.val / 32) + (832 * s.val + r.val)) e = (layer m c).g (1664 * (t.val / 32) + 832 * s.val + r.val) e
    rw [Nat.add_assoc]
  · intro z x
    rw [hlt, seen_lt, V_lt]
    exact low_at z x
  · intro q k
    rw [hw1, seen_w1 m c t d3 q k (turn t.val) ⟨_, hQ q⟩ rfl rfl, V_w1, turned_at]
    exact (nums_w1 _ _ _ _ _ _ _ _ _ _ (hQ q)).symm
  · intro q k
    rw [hw3, seen_w3 m c t d4 q k (turn t.val) ⟨_, hQ q⟩ rfl rfl, V_w3, turned_at]
    exact (nums_w3 _ _ _ _ _ _ _ _ _ _ (hQ q)).symm
  · intro d q
    rw [hw2, seen_w2 m c t d5 d q (turn t.val) ⟨_, hQ q⟩ rfl rfl, V_w2, turned2_at]
    exact (nums_w2 _ _ _ _ _ _ _ _ _ _ (hQ q)).symm
  · intro d
    rw [hlw, seen_lw, V_lw, line_at]
    rfl
  · intro d
    rw [hlb, seen_lb, V_lb, line_at]
    rfl
  · rw [← h5]; exact count_seen m c t I hcnt 0
  · rw [← h29]; exact count_seen m c t I hcnt 1
end

end Cert.Moe

end
-- ==== Proof.Out.lean ====
/- What the whole run leaves in the result: the layer's normed stream. -/
module

public import proofs.«01_k».proof.Proof.Nums
public import Idealize.ShloMosaic.Lib.Pipeline.Value
public import Idealize.ShloMosaic.Lib.Pipeline.ValueKit.Geometry

@[expose] public section

set_option maxRecDepth 16384

noncomputable section

namespace Cert.Moe

open Cert.KernelIdeal Cert.KernelIdeal.Gen
open Idealize.ShloMosaic
open Idealize.ShloMosaic.TcCoe
open Idealize.ShloMosaic.VecWindow
open Idealize.ShloMosaic.Pipeline (RDat)
open Idealize.SL Idealize.SL.Sem

section
variable (m : (ℓ : Loc nD τ sig) → Buf (Elt Ideal) ℓ) (c : Dev nD)

theorem Keeps.of_o {D : Data} {n : ℕ} {σ : St Ideal} (o : Vec Ideal S1664x1024 .f32) (h : Keeps D n { σ with o := o }) : Keeps D n σ := by
  rcases h with h | ⟨h1, h2⟩
  · exact Or.inl h
  · refine Or.inr ⟨⟨h1.pos, h1.xb⟩, ?_⟩
    rcases h2 with h2 | h2
    · exact Or.inl h2
    · exact Or.inr fun s r hr => ⟨(h2 s r hr).x, (h2 s r hr).g, (h2 s r hr).y⟩

/-- Each point keeps the invariant. -/
theorem steps : Steps m (Keeps (layer m c)) (Leaves (layer m c)) c := by
  intro t I σ o v5 v29 w1 w2 hI h5 h29 hv5 hv29 hK hO
  exact point_keeps (layer m c) (layer_fits m c) (t_lt t) (good_of_seen m c t I v5 v29 hI h5 h29) (grid0.coords t) (coord0 t) (coord1 t) (coord2 t)
    w1 w2 hv5 hv29 σ (Keeps.of_o o hK) hO

/-- The result of the layer. -/
def result : Vec Ideal S32768x1024 .f32 := fun i => (layer m c).out (i 0).val (i 1)

/-- The result's buffer is written back at the ends of blocks. -/
theorem flush_iff (t : Fin grid0.N) : ((cfgT m).win (8 : Fin 9)).flush t = true ↔ t.val % 32 = 31 := by
  have ht := t_lt t
  have hi : ∀ t : Fin grid0.N, ((cfgT m).win (8 : Fin 9)).index t = ![t.val / 32, 0] := index8
  unfold Pipeline.Window.flush
  rw [Bool.and_eq_true, Bool.or_eq_true, decide_eq_true_eq, decide_eq_true_eq]
  constructor
  · rintro ⟨-, h | ⟨h, hne⟩⟩
    · have : t.val + 1 = 640 := h.trans N_0
      omega
    · by_contra hc
      refine hne ?_
      rw [hi, hi]
      congr 1
      show (t.val + 1) / 32 = t.val / 32
      omega
  · intro h
    refine ⟨rfl, ?_⟩
    by_cases hl : t.val + 1 = 640
    · exact Or.inl (hl.trans N_0.symm)
    · have h' : t.val + 1 < grid0.N := lt_of_lt_of_eq (show t.val + 1 < 640 by omega) N_0.symm
      refine Or.inr ⟨h', fun e => ?_⟩
      rw [hi, hi] at e
      have e0 : (t.val + 1) / 32 = t.val / 32 := congrFun e 0
      omega

theorem xsize8 (t : Fin grid0.N) (a) : ((cfgT m).win (8 : Fin 9)).xsize ((cfgT m).grid.coords t) a
    = (Pipeline.Clip.of (cc0_transform_8 (grid0.coords t) a) (S1664x1024.size a) (S32768x1024.size a)).extent (S1664x1024.size a) := rfl

/-- What is written back at the end of a block is the block of the result. -/
theorem wrote (X : Vec Ideal S1664x1024 .f32) (t : Fin (cfgT m).N) (ht : t.val % 32 = 31) (h : Leaves (layer m c) (t.val + 1) X) :
    ((cfgT m).win (8 : Fin 9)).cut ((cfgT m).grid.coords t) X = (((cfgT m).win (8 : Fin 9)).blk t).view.read (Elt Ideal) (result m c) := by
  funext y
  have e := fun a => (Pipeline.Window.rect_emb_val ((cfgT m).win (8 : Fin 9)) t y a rfl).trans
    (show _ = cc0_transform_8 (grid0.coords t) a * S1664x1024.size a + (y a).val from rfl)
  have e0 : ((((cfgT m).win (8 : Fin 9)).rect t).emb y 0).val = t.val / 32 * 1664 + (y 0).val := by
    have := e 0
    rw [index8] at this
    exact this
  have e1 : ((((cfgT m).win (8 : Fin 9)).rect t).emb y 1).val = 0 * 1024 + (y 1).val := by
    have := e 1
    rw [index8] at this
    exact this
  have hy0 : (y 0).val < 1664 := lt_of_lt_of_le (y 0).isLt (((cfgT m).win (8 : Fin 9)).xsize_le (grid0.coords t) 0)
  have hR : t.val / 32 * 1664 + (y 0).val < 32768 := e0 ▸ ((((cfgT m).win (8 : Fin 9)).rect t).emb y 0).isLt
  have hy1 : (y 1).val < 1024 := lt_of_lt_of_le (y 1).isLt (((cfgT m).win (8 : Fin 9)).xsize_le (grid0.coords t) 1)
  show X _ = result m c ((((cfgT m).win (8 : Fin 9)).rect t).emb y)
  have key : ∀ (s : Fin 2) (r : Fin 832), 832 * s.val + r.val = (y 0).val →
      X (((cfgT m).win (8 : Fin 9)).xinj ((cfgT m).grid.coords t) y) = result m c ((((cfgT m).win (8 : Fin 9)).rect t).emb y) := by
    intro s r hsr
    have hrow : row ((t.val + 1 - 1) / 32) s r.val = t.val / 32 * 1664 + (y 0).val := by
      show 1664 * ((t.val + 1 - 1) / 32) + 832 * s.val + r.val = _
      rw [Nat.add_sub_cancel]
      omega
    have hx := h.2 (by omega) s r ⟨(y 1).val, hy1⟩ (by rw [hrow]; exact hR)
    have ei : (((cfgT m).win (8 : Fin 9)).xinj ((cfgT m).grid.coords t) y : S1664x1024.Idx) = ix2 (br s r) ⟨(y 1).val, hy1⟩ := by
      funext a
      match a with
      | 0 => exact Fin.ext hsr.symm
      | 1 => rfl
    rw [hrow] at hx
    refine (congrArg X ei).trans (hx.trans ?_)
    show (layer m c).out _ _ = (layer m c).out ((((cfgT m).win (8 : Fin 9)).rect t).emb y 0).val ((((cfgT m).win (8 : Fin 9)).rect t).emb y 1)
    rw [e0]
    congr 1
    exact Fin.ext ((Nat.zero_add _).symm.trans (by rw [e1, Nat.zero_mul]))
  by_cases h8 : (y 0).val < 832
  · exact key 0 ⟨(y 0).val, h8⟩ (by show 832 * 0 + (y 0).val = _; omega)
  · exact key 1 ⟨(y 0).val - 832, by omega⟩ (by show 832 * 1 + ((y 0).val - 832) = _; omega)

/-- Every element of the result is in a block. -/
theorem covered (i : S32768x1024.Idx) : ∃ t : Fin (cfgT m).N, ((cfgT m).win (8 : Fin 9)).flush t = true ∧ i ∈ (((cfgT m).win (8 : Fin 9)).blk t).view.set := by
  have hi0 : (i 0).val < 32768 := (i 0).isLt
  have hi1 : (i 1).val < 1024 := (i 1).isLt
  have ht : 32 * ((i 0).val / 1664) + 31 < grid0.N := by rw [N_0]; omega
  refine ⟨⟨_, ht⟩, (flush_iff m _).mpr (by show (32 * ((i 0).val / 1664) + 31) % 32 = 31; omega), ?_⟩
  refine (Pipeline.Window.emb_mem_blk_iff ((cfgT m).win (8 : Fin 9)) ⟨_, ht⟩ i rfl).mpr fun a => ?_
  rw [xsize8]
  show cc0_transform_8 (grid0.coords ⟨_, ht⟩) a * S1664x1024.size a ≤ (i a).val ∧ (i a).val < cc0_transform_8 (grid0.coords ⟨_, ht⟩) a * S1664x1024.size a + _
  have hb : (32 * ((i 0).val / 1664) + 31) / 32 = (i 0).val / 1664 := by omega
  have hidx : cc0_transform_8 (grid0.coords ⟨_, ht⟩) = ![(i 0).val / 1664, 0] := (index8 ⟨_, ht⟩).trans (by show ![(32 * ((i 0).val / 1664) + 31) / 32, 0] = _; rw [hb])
  have h0 : cc0_transform_8 (grid0.coords ⟨_, ht⟩) a * S1664x1024.size a ≤ (i a).val ∧ (i a).val - cc0_transform_8 (grid0.coords ⟨_, ht⟩) a * S1664x1024.size a < S1664x1024.size a := by
    rw [hidx]
    match a with
    | 0 => show (i 0).val / 1664 * 1664 ≤ (i 0).val ∧ (i 0).val - (i 0).val / 1664 * 1664 < 1664; omega
    | 1 => show 0 * 1024 ≤ (i 1).val ∧ (i 1).val - 0 * 1024 < 1024; omega
  have h1 := lt_extent (cc0_transform_8 (grid0.coords ⟨_, ht⟩) a) (S1664x1024.size a) (S32768x1024.size a) ((i a).val - cc0_transform_8 (grid0.coords ⟨_, ht⟩) a * S1664x1024.size a) h0.2
    (by have := (i a).isLt; have := h0.1; omega)
  refine ⟨h0.1, ?_⟩
  have := h0.1
  omega

theorem out_eq (r : PUnit × MemSt nD τ sig (Elt Ideal)) (h : RDat.FramePost (cfgT m) (rdat m (Keeps (layer m c)) (Leaves (layer m c))) (V m) r) :
    r.2.mem (c, main_v17) = result m c := by
  obtain ⟨after, hA, hG⟩ := RDat.ArrAt.exists_exact_all (rd := rdat m (Keeps (layer m c)) (Leaves (layer m c)) c) (n := (cfgT m).N) (fun w => (h c).1 w)
  refine (hG (8 : Fin 9)).trans ?_
  refine Pipeline.Dat.arrAt_eq_of_cover (cfg := cfgT m) ((rdat m (Keeps (layer m c)) (Leaves (layer m c)) c).withAfter after) (8 : Fin 9) (result m c) ?_ (covered m)
  intro t hf
  obtain ⟨Y, -, hX⟩ := hA (8 : Fin 9) t t.isLt hf
  exact wrote m c _ t ((flush_iff m t).mp hf) hX

/-- The run ends with the layer's result, its arguments unchanged. -/
theorem run_value (g : Dev nD → PrngReg) :
    θ_run (defs (F := Ideal)) (onTc (τ := τ) (main (F := Ideal))) ⟨m, fun _ => 0, g⟩ (fun r => ∀ c : Dev nD,
      r.2.mem (c, main_v17) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) := by
  refine (θ_run defs _ _).mono (fun r h => ?_) (run_main m (Keeps (layer m 0)) (Leaves (layer m 0)) g (fun σ => Or.inl rfl) (fun c => ?_))
  · intro c
    obtain rfl : c = 0 := Subsingleton.elim _ _
    exact ⟨out_eq m 0 r h.1, kept_args m _ _ r h.1 0⟩
  · obtain rfl : c = 0 := Subsingleton.elim _ _
    exact steps m 0
end

end Cert.Moe

end
-- ==== Proof.RefVal.lean ====
/- The reference's result, index by index. -/
module

public import proofs.«01_k».proof.Proof.Gen.ReferenceIdeal.Run
public import proofs.«01_k».proof.Proof.Math

@[expose] public section

set_option maxRecDepth 16384

noncomputable section

namespace Cert.Moe

open Cert.ReferenceIdeal Cert.ReferenceIdeal.Gen Cert.ReferenceIdeal.Value
open Idealize.ShloMosaic
open Idealize.ShloMosaic.TcCoe
open Idealize.ShloMosaic.StableHlo

/-- One expert of the reference: its gate times its gated unit of the rows. -/
def expert (x : FVec Ideal S32768x1024 .f32) (g : FVec Ideal S32768x1 .f32) (A B : FVec Ideal S1024x3584 .f32) (C : FVec Ideal S3584x1024 .f32) : FVec Ideal S32768x1024 .f32 :=
  mulf (F := Ideal) (φ := .f32) (broadcastInDim S32768x1024 ![0, 1] bcast_S32768x1_S32768x1024_0_1 g)
    (Host.dotGeneral dot_S32768x3584_S3584x1024_S32768x1024_1_0_0_1_n_n none
      (mulf (mulf (Host.dotGeneral dot_S32768x1024_S1024x3584_S32768x3584_1_0_0_1_n_n none x A)
          (Host.divf (broadcastInDim S32768x3584 ![] bcast_S_S32768x3584 (constant S_ .f32 0x3F800000#32))
            (addf (broadcastInDim S32768x3584 ![] bcast_S_S32768x3584 (constant S_ .f32 0x3F800000#32))
              (Host.exp (Host.negf (Host.dotGeneral dot_S32768x1024_S1024x3584_S32768x3584_1_0_0_1_n_n none x A))))))
        (Host.dotGeneral dot_S32768x1024_S1024x3584_S32768x3584_1_0_0_1_n_n none x B)) C)

theorem expert_at (x : FVec Ideal S32768x1024 .f32) (g : FVec Ideal S32768x1 .f32) (A B : FVec Ideal S1024x3584 .f32) (C : FVec Ideal S3584x1024 .f32) (R : Fin 32768) (d : Fin 1024) :
    expert x g A B C (ix2 R d) = g (ix2 R 0) * ∑ f : Fin 3584, (∑ k : Fin 1024, x (ix2 R k) * A (ix2 k f)) * Ideal.div 1 (1 + Ideal.exp (-∑ k : Fin 1024, x (ix2 R k) * A (ix2 k f)))
      * (∑ k : Fin 1024, x (ix2 R k) * B (ix2 k f)) * C (ix2 f d) := by
  unfold expert
  pointwise

theorem slice_at (a : Vec Ideal S8x1024x3584 .f32) (e : Fin 8) (h) (h') (k : Fin 1024) (f : Fin 3584) :
    shapeCast S1024x3584 (extractStridedSlice S1x1024x3584 ![e.val, 0, 0] a h) h' (ix2 k f) = a (ix3 e k f) := by
  pointwise

theorem slice2_at (a : Vec Ideal S8x3584x1024 .f32) (e : Fin 8) (h) (h') (k : Fin 1024) (f : Fin 3584) :
    shapeCast S3584x1024 (extractStridedSlice S1x3584x1024 ![e.val, 0, 0] a h) h' (ix2 f k) = a (ix3 e f k) := by
  pointwise

theorem col_at (a : Vec Ideal S32768x8 .f32) (e : Fin 8) (h) (R : Fin 32768) :
    extractStridedSlice S32768x1 ![0, e.val] a h (ix2 R (0 : Fin 1)) = a (ix2 R e) := by
  pointwise

/-- One expert on the arguments. -/
def nth (V0 : Valuation τ sig (Elt Ideal)) (e : Fin 8) (h1 : S32768x8.Slices ![0, e.val] S32768x1) (h2 : S8x1024x3584.Slices ![e.val, 0, 0] S1x1024x3584) (h3 : S8x3584x1024.Slices ![e.val, 0, 0] S1x3584x1024) : Vec Ideal S32768x1024 .f32 :=
  expert (V0 (Proc.devRef .tc main_arg0)) (extractStridedSlice S32768x1 ![0, e.val] (V0 (Proc.devRef .tc main_arg1)) h1)
    (shapeCast S1024x3584 (extractStridedSlice S1x1024x3584 ![e.val, 0, 0] (V0 (Proc.devRef .tc main_arg2)) h2) shapeCasts_S1x1024x3584_S1024x3584)
    (shapeCast S1024x3584 (extractStridedSlice S1x1024x3584 ![e.val, 0, 0] (V0 (Proc.devRef .tc main_arg3)) h2) shapeCasts_S1x1024x3584_S1024x3584)
    (shapeCast S3584x1024 (extractStridedSlice S1x3584x1024 ![e.val, 0, 0] (V0 (Proc.devRef .tc main_arg4)) h3) shapeCasts_S1x3584x1024_S3584x1024)

theorem first_five (V0 : Valuation τ sig (Elt Ideal)) : res_main_v75 V0 =
    addf (addf (addf (addf (addf (broadcastInDim S32768x1024 ![] bcast_S_S32768x1024 (constant (F := Ideal) S_ .f32 0x00000000#32))
      (nth V0 0 slices_S32768x8_S32768x1_0_0 slices_S8x1024x3584_S1x1024x3584_0_0_0 slices_S8x3584x1024_S1x3584x1024_0_0_0))
      (nth V0 1 slices_S32768x8_S32768x1_0_1 slices_S8x1024x3584_S1x1024x3584_1_0_0 slices_S8x3584x1024_S1x3584x1024_1_0_0))
      (nth V0 2 slices_S32768x8_S32768x1_0_2 slices_S8x1024x3584_S1x1024x3584_2_0_0 slices_S8x3584x1024_S1x3584x1024_2_0_0))
      (nth V0 3 slices_S32768x8_S32768x1_0_3 slices_S8x1024x3584_S1x1024x3584_3_0_0 slices_S8x3584x1024_S1x3584x1024_3_0_0))
      (nth V0 4 slices_S32768x8_S32768x1_0_4 slices_S8x1024x3584_S1x1024x3584_4_0_0 slices_S8x3584x1024_S1x3584x1024_4_0_0) := rfl

theorem all_eight (V0 : Valuation τ sig (Elt Ideal)) : res_main_v123 V0 =
    addf (mulf (broadcastInDim S32768x1024 ![] bcast_S_S32768x1024 (constant (F := Ideal) S_ .f32 0x3FB504F3#32)) (V0 (Proc.devRef .tc main_arg0)))
      (addf (addf (addf (res_main_v75 V0)
      (nth V0 5 slices_S32768x8_S32768x1_0_5 slices_S8x1024x3584_S1x1024x3584_5_0_0 slices_S8x3584x1024_S1x3584x1024_5_0_0))
      (nth V0 6 slices_S32768x8_S32768x1_0_6 slices_S8x1024x3584_S1x1024x3584_6_0_0 slices_S8x3584x1024_S1x3584x1024_6_0_0))
      (nth V0 7 slices_S32768x8_S32768x1_0_7 slices_S8x1024x3584_S1x1024x3584_7_0_0 slices_S8x3584x1024_S1x3584x1024_7_0_0)) := rfl

/-- The means of rows, as the reference computes them. -/
def means (u : FVec Ideal S32768x1024 .f32) : FVec Ideal S32768x1 .f32 :=
  Host.divf (broadcastInDim S32768x1 ![0] bcast_S32768_S32768x1_0 (Host.reduceAdd u (constant (F := Ideal) S_ .f32 0x00000000#32) reducesTo_S32768x1024_S32768_d1 h_S_))
    (broadcastInDim S32768x1 ![] bcast_S_S32768x1 (constant S_ .f32 0x44800000#32))

/-- Rows less their means. -/
def centred (u : FVec Ideal S32768x1024 .f32) : FVec Ideal S32768x1024 .f32 :=
  subf u (broadcastInDim S32768x1024 ![0, 1] bcast_S32768x1_S32768x1024_0_1 (means u))

/-- The norm at the end of the reference. -/
def normed (u : FVec Ideal S32768x1024 .f32) (lw lb : FVec Ideal S1024 .f32) : FVec Ideal S32768x1024 .f32 :=
  addf (mulf (mulf (centred u) (broadcastInDim S32768x1024 ![0, 1] bcast_S32768x1_S32768x1024_0_1 (Host.rsqrt (addf (means (mulf (centred u) (centred u)))
      (broadcastInDim S32768x1 ![] bcast_S_S32768x1 (constant S_ .f32 0x3727C5AC#32))))))
    (broadcastInDim S32768x1024 ![0, 1] bcast_S1x1024_S32768x1024_0_1 (broadcastInDim S1x1024 ![1] bcast_S1024_S1x1024_1 lw)))
    (broadcastInDim S32768x1024 ![0, 1] bcast_S1x1024_S32768x1024_0_1 (broadcastInDim S1x1024 ![1] bcast_S1024_S1x1024_1 lb))

theorem means_at (u : FVec Ideal S32768x1024 .f32) (R : Fin 32768) : means u (ix2 R (0 : Fin 1)) = Data.mean fun k => u (ix2 R k) := by
  unfold means
  pointwise
  rfl

theorem centred_at (u : FVec Ideal S32768x1024 .f32) (R : Fin 32768) (d : Fin 1024) : centred u (ix2 R d) = u (ix2 R d) - Data.mean fun k => u (ix2 R k) := by
  have h := means_at u R
  unfold centred
  generalize means u = v at h ⊢
  pointwise
  rw [h]

theorem normed_at (u : FVec Ideal S32768x1024 .f32) (lw lb : FVec Ideal S1024 .f32) (R : Fin 32768) (d : Fin 1024) :
    normed u lw lb (ix2 R d) = (u (ix2 R d) - Data.mean fun k => u (ix2 R k)) * Ideal.rsqrt (Data.mean (fun k => (u (ix2 R k) - Data.mean fun k => u (ix2 R k)) * (u (ix2 R k) - Data.mean fun k => u (ix2 R k)))
      + Ideal.ofBits .f32 925353388#32) * lw (ix1 d) + lb (ix1 d) := by
  have h := centred_at u R
  have h2 := means_at (mulf (centred u) (centred u)) R
  unfold normed
  generalize hc : centred u = v at h h2 ⊢
  have h3 : ∀ k, mulf v v (ix2 R k) = v (ix2 R k) * v (ix2 R k) := fun k => by pointwise
  generalize hm : means (mulf v v) = w at h2 ⊢
  pointwise
  rw [h2, h]
  simp only [h3, h]

theorem mul_sum_of {ι : Type} (s : Finset ι) (g : EReal) (h0 : 0 ≤ g) (ht : g ≠ ⊤) (f : ι → EReal) : g * ∑ i ∈ s, f i = ∑ i ∈ s, g * f i := by
  classical
  induction s using Finset.induction_on with
  | empty => simp
  | insert i s hi ih => rw [Finset.sum_insert hi, Finset.sum_insert hi, EReal.left_distrib_of_nonneg_of_ne_top h0 ht, ih]

/-- What an expert gives a row, as the reference sums it. -/
theorem share_eq (D : Data) (e : Fin 8) (R : ℕ) (d : Fin 1024) (h0 : 0 ≤ D.g R e) (ht : D.g R e ≠ ⊤) :
    D.g R e * (∑ f : Fin 3584, (∑ k : Fin 1024, D.x R k * D.w1 e f.val k) * Ideal.div 1 (1 + Ideal.exp (-∑ k : Fin 1024, D.x R k * D.w1 e f.val k))
      * (∑ k : Fin 1024, D.x R k * D.w3 e f.val k) * D.w2 e d f.val) = D.share e R d := by
  unfold Data.share
  split
  · have hf : ∀ f : ℕ, D.g R e * ((∑ k : Fin 1024, D.x R k * D.w1 e f k) * Ideal.div 1 (1 + Ideal.exp (-∑ k : Fin 1024, D.x R k * D.w1 e f k))
      * (∑ k : Fin 1024, D.x R k * D.w3 e f k) * D.w2 e d f) = D.w2 e d f * D.hid e R f := by
      intro f
      unfold Data.hid
      have e1 : ∀ w : ℕ → Fin 1024 → EReal, ∑ k : Fin 1024, D.x R k * w f k = ∑ k : Fin 1024, w f k * D.x R k := fun w => Finset.sum_congr rfl fun k _ => mul_comm _ _
      rw [e1 (D.w1 e), e1 (D.w3 e), zero_sub, mul_comm (D.g R e), mul_comm _ (D.w2 e d f), mul_assoc]
    rw [mul_sum_of _ _ h0 ht, Finset.sum_congr rfl fun f _ => hf f.val]
    rw [Fin.sum_univ_eq_sum_range (fun f => D.w2 e d f * D.hid e R f) 3584]
    unfold Data.parts Data.tile
    have ht : ∀ n, (∑ q : Fin 896, D.w2 e d (896 * n + q.val) * D.hid e R (896 * n + q.val)) = ∑ q ∈ Finset.range 896, D.w2 e d (896 * n + q) * D.hid e R (896 * n + q) :=
      fun n => Fin.sum_univ_eq_sum_range (fun q => D.w2 e d (896 * n + q) * D.hid e R (896 * n + q)) 896
    rw [Finset.sum_congr rfl fun n _ => ht n]
    have hs : ∀ n, ∑ f ∈ Finset.range (896 * n), D.w2 e d f * D.hid e R f = ∑ k ∈ Finset.range n, ∑ q ∈ Finset.range 896, D.w2 e d (896 * k + q) * D.hid e R (896 * k + q) := by
      intro n
      induction n with
      | zero => simp
      | succ n ih => rw [Nat.mul_succ, Finset.sum_range_add, ih, Finset.sum_range_succ (fun k => ∑ q ∈ Finset.range 896, D.w2 e d (896 * k + q) * D.hid e R (896 * k + q)) n]
    exact hs 4
  · next h =>
    rw [le_antisymm (not_lt.1 h) h0, zero_mul]

/-- The experts together. -/
theorem total_eq (D : Data) (R : ℕ) (d : Fin 1024) :
    D.total R 8 d = 0 + D.share 0 R d + D.share 1 R d + D.share 2 R d + D.share 3 R d + D.share 4 R d + D.share 5 R d + D.share 6 R d + D.share 7 R d := by
  unfold Data.total
  simp only [Finset.sum_range_succ, Finset.range_zero, Finset.sum_empty]
  rfl

end Cert.Moe

end
-- ==== Proof.Bridge.lean ====
/- The reference's result is the layer's normed stream, when the gates are finite and not negative. -/
module

public import proofs.«01_k».proof.Defs
public import proofs.«01_k».proof.Proof.Nums
public import proofs.«01_k».proof.Proof.RefVal

@[expose] public section

set_option maxRecDepth 16384

noncomputable section

namespace Cert.Moe

open Cert.ReferenceIdeal Cert.ReferenceIdeal.Gen Cert.ReferenceIdeal.Value
open Idealize.ShloMosaic
open Idealize.ShloMosaic.TcCoe
open Idealize.ShloMosaic.StableHlo

/-- The layer's numbers of the reference's arguments. -/
def numsRef (V0 : Valuation τ sig (Elt Ideal)) : Data :=
  nums (V0 (Proc.devRef .tc main_arg0)) (V0 (Proc.devRef .tc main_arg1)) (V0 (Proc.devRef .tc main_arg2)) (V0 (Proc.devRef .tc main_arg3))
    (V0 (Proc.devRef .tc main_arg4)) (V0 (Proc.devRef .tc main_arg5)) (V0 (Proc.devRef .tc main_arg6))

/-- The gates are finite and not negative. -/
def Gates (D : Data) : Prop := ∀ R e, 0 ≤ D.g R e ∧ D.g R e ≠ ⊤

section
variable (V0 : Valuation τ sig (Elt Ideal))

/-- An expert of the reference gives each row its share. -/
theorem nth_at (hG : Gates (numsRef V0)) (e : Fin 8) (h1 : S32768x8.Slices ![0, e.val] S32768x1) (h2 : S8x1024x3584.Slices ![e.val, 0, 0] S1x1024x3584)
    (h3 : S8x3584x1024.Slices ![e.val, 0, 0] S1x3584x1024) (R : Fin 32768) (d : Fin 1024) :
    nth V0 e h1 h2 h3 (ix2 R d) = (numsRef V0).share e R.val d := by
  have hx : ∀ k : Fin 1024, (numsRef V0).x R.val k = (V0 (Proc.devRef .tc main_arg0) : Vec Ideal S32768x1024 .f32) (ix2 R k) := fun k => nums_x _ _ _ _ _ _ _ R.val k R.isLt
  have hg : (numsRef V0).g R.val e = (V0 (Proc.devRef .tc main_arg1) : Vec Ideal S32768x8 .f32) (ix2 R e) := nums_g _ _ _ _ _ _ _ R.val e R.isLt
  have hw1 : ∀ (f : Fin 3584) (k : Fin 1024), (numsRef V0).w1 e f.val k = (V0 (Proc.devRef .tc main_arg2) : Vec Ideal S8x1024x3584 .f32) (ix3 e k f) := fun f k => nums_w1 _ _ _ _ _ _ _ e f.val k f.isLt
  have hw3 : ∀ (f : Fin 3584) (k : Fin 1024), (numsRef V0).w3 e f.val k = (V0 (Proc.devRef .tc main_arg3) : Vec Ideal S8x1024x3584 .f32) (ix3 e k f) := fun f k => nums_w3 _ _ _ _ _ _ _ e f.val k f.isLt
  have hw2 : ∀ f : Fin 3584, (numsRef V0).w2 e d f.val = (V0 (Proc.devRef .tc main_arg4) : Vec Ideal S8x3584x1024 .f32) (ix3 e f d) := fun f => nums_w2 _ _ _ _ _ _ _ e f.val d f.isLt
  rw [← share_eq (numsRef V0) e R.val d (hG R.val e).1 (hG R.val e).2]
  simp only [hx, hg, hw1, hw3, hw2]
  unfold nth
  rw [expert_at]
  have s0 := col_at (V0 (Proc.devRef .tc main_arg1)) e h1 R
  have s1 := fun k f => slice_at (V0 (Proc.devRef .tc main_arg2)) e h2 shapeCasts_S1x1024x3584_S1024x3584 k f
  have s3 := fun k f => slice_at (V0 (Proc.devRef .tc main_arg3)) e h2 shapeCasts_S1x1024x3584_S1024x3584 k f
  have s2 := fun k f => slice2_at (V0 (Proc.devRef .tc main_arg4)) e h3 shapeCasts_S1x3584x1024_S3584x1024 k f
  generalize shapeCast S1024x3584 _ _ = A at s1 ⊢
  rw [s0]
  simp only [s1, s2, s3]

/-- The stream before the norm. -/
theorem res_at (hG : Gates (numsRef V0)) (R : Fin 32768) (d : Fin 1024) : res_main_v123 V0 (ix2 R d) = (numsRef V0).res R.val d := by
  have hx : (numsRef V0).x R.val d = (V0 (Proc.devRef .tc main_arg0) : Vec Ideal S32768x1024 .f32) (ix2 R d) := nums_x _ _ _ _ _ _ _ R.val d R.isLt
  unfold Data.res
  rw [total_eq, hx]
  have hn := nth_at V0 hG
  rw [← hn 0 slices_S32768x8_S32768x1_0_0 slices_S8x1024x3584_S1x1024x3584_0_0_0 slices_S8x3584x1024_S1x3584x1024_0_0_0 R d,
    ← hn 1 slices_S32768x8_S32768x1_0_1 slices_S8x1024x3584_S1x1024x3584_1_0_0 slices_S8x3584x1024_S1x3584x1024_1_0_0 R d,
    ← hn 2 slices_S32768x8_S32768x1_0_2 slices_S8x1024x3584_S1x1024x3584_2_0_0 slices_S8x3584x1024_S1x3584x1024_2_0_0 R d,
    ← hn 3 slices_S32768x8_S32768x1_0_3 slices_S8x1024x3584_S1x1024x3584_3_0_0 slices_S8x3584x1024_S1x3584x1024_3_0_0 R d,
    ← hn 4 slices_S32768x8_S32768x1_0_4 slices_S8x1024x3584_S1x1024x3584_4_0_0 slices_S8x3584x1024_S1x3584x1024_4_0_0 R d,
    ← hn 5 slices_S32768x8_S32768x1_0_5 slices_S8x1024x3584_S1x1024x3584_5_0_0 slices_S8x3584x1024_S1x3584x1024_5_0_0 R d,
    ← hn 6 slices_S32768x8_S32768x1_0_6 slices_S8x1024x3584_S1x1024x3584_6_0_0 slices_S8x3584x1024_S1x3584x1024_6_0_0 R d,
    ← hn 7 slices_S32768x8_S32768x1_0_7 slices_S8x1024x3584_S1x1024x3584_7_0_0 slices_S8x3584x1024_S1x3584x1024_7_0_0 R d]
  rw [all_eight, first_five, ← Ideal.ofBits_zero_f32]
  rfl

/-- The reference's result. -/
theorem ref_at (hG : Gates (numsRef V0)) :
    normed (res_main_v123 V0) (V0 (Proc.devRef .tc main_arg5)) (V0 (Proc.devRef .tc main_arg6)) = fun i => (numsRef V0).out (i 0).val (i 1) := by
  funext i
  obtain ⟨R, d, rfl⟩ : ∃ (R : Fin 32768) (d : Fin 1024), i = ix2 R d := ⟨i 0, i 1, eq_ix2 i⟩
  refine (normed_at _ _ _ R d).trans ?_
  simp only [res_at V0 hG]
  rfl

end

/-- The condition's shapes fit. -/
theorem pre_facts : Cert.Pre_gates_finite.Facts := ⟨by decide⟩

theorem top_word : Ideal.ofBits .f32 0x7F800000#32 = (⊤ : EReal) := by
  simp [Ideal.ofBits, Ideal.ieee]

/-- What the condition says of each gate. -/
theorem gates_of_pre (a0 : FVec Ideal S32768x1024 .f32) (a1 : FVec Ideal S32768x8 .f32) (a2 a3 : FVec Ideal S8x1024x3584 .f32) (a4 : FVec Ideal S8x3584x1024 .f32) (a5 a6 : FVec Ideal S1024 .f32)
    (h : (letI := pre_facts; Cert.Pre_gates_finite.fn (F := Ideal) a0 a1 a2 a3 a4 a5 a6) = fun _ => 1#1) : Gates (nums a0 a1 a2 a3 a4 a5 a6) := by
  intro R e
  by_cases hR : R < 32768
  · rw [nums_g _ _ _ _ _ _ _ R e hR]
    have h' := congrFun h (ix2 ⟨R, hR⟩ e)
    generalize (⟨R, hR⟩ : Fin 32768) = r at h' ⊢
    have h2 : (BitVec.ofBool (decide (Ideal.ofBits .f32 0#32 ≤ a1 (ix2 r e))) &&& BitVec.ofBool (decide (a1 (ix2 r e) < Ideal.ofBits .f32 0x7F800000#32))) = 1#1 := h'
    rw [Ideal.ofBits_zero_f32, top_word] at h2
    by_cases p : (0 : EReal) ≤ a1 (ix2 r e)
    · by_cases q : a1 (ix2 r e) < (⊤ : EReal)
      · exact ⟨p, q.ne⟩
      · simp [q] at h2
    · simp [p] at h2
  · rw [nums_g0 _ _ _ _ _ _ _ R e hR]
    exact ⟨le_refl _, EReal.zero_ne_top⟩

end Cert.Moe

end
-- ==== Proof.DenseCases.lean ====
/- What a grid point of the dense feed-forward leaves behind, in its payloads. -/
module

public import proofs.«01_k».proof.Proof.Gen.Kernel2Ideal.Value
public import proofs.«01_k».proof.Proof.Math

@[expose] public section

set_option maxRecDepth 16384

noncomputable section

namespace Cert.Dense

open Cert.Kernel2Ideal Cert.Kernel2Ideal.Gen
open Idealize.ShloMosaic
open Idealize.ShloMosaic.TcCoe

variable {F : FTy → Type} [FloatOps F]

theorem hz : (![0, 0] : Fin 2 → Nat) = fun _ => 0 := funext fun a => by fin_cases a <;> rfl

section
variable (c : Dev nD) (i : grid0.Coords)
  {a2 : Memref sig .tc .vmem S1024x1024 .f32} (h2 : a2.IsWhole) {a3 : Memref sig .tc .vmem S1024x256 .bf16} (h3 : a3.IsWhole)
  {a4 : Memref sig .tc .vmem S1024x256 .bf16} (h4 : a4.IsWhole) {a5 : Memref sig .tc .vmem S256x1024 .bf16} (h5 : a5.IsWhole)
  {a6 : Memref sig .tc .vmem S1x1024 .f32} (h6 : a6.IsWhole) {a7 : Memref sig .tc .vmem S1x1024 .f32} (h7 : a7.IsWhole)
  {a8 : Memref sig .tc .vmem S1024x1024 .f32} (h8 : a8.IsWhole) {a9 : Memref sig .tc .vmem S1024x1024 .bf16} (h9 : a9.IsWhole)
  {a10 : Memref sig .tc .vmem S1024x1024 .f32} (h10 : a10.IsWhole)
  (x : Vec F S1024x1024 .f32) (u v : Vec F S1024x256 .bf16) (w : Vec F S256x1024 .bf16) (lw lb : Vec F S1x1024 .f32)
  (s : Vec F S1024x1024 .bf16) (t : Vec F S1024x1024 .f32)

/-- The first point of a row block keeps the rows rounded. -/
theorem kept_first (p : cond0_0 i) (q : ¬cond0_1 i) :
    sout0_A_0 c i a2 h2 a3 h3 a4 h4 a5 h5 a6 h6 a7 h7 a8 h8 a9 h9 a10 h10 p q x u v w lw lb = k0_pay1 x := by
  unfold sout0_A_0
  rw [View.read_writes_eq_canon _ _ _ (scover0_A_0 c i a2 h2 a3 h3 a4 h4 a5 h5 a6 h6 a7 h7 a8 h8 a9 h9 a10 h10 p q x u v w lw lb)]
  unfold kernelRun0_A
  dsimp only
  sl_unfold_words
  rw [View.canon_unit_zero hz]
  simp only [View.readAt_eq_ld, h2.read_unread, View.ld_unit_zero (S := S1024x1024) hz]

/-- It starts the running sum from nothing. -/
theorem sum_first (p : cond0_0 i) (q : ¬cond0_1 i) :
    sout0_A_1 c i a2 h2 a3 h3 a4 h4 a5 h5 a6 h6 a7 h7 a8 h8 a9 h9 a10 h10 p q x u v w lw lb = k0_pay3 (k0_pay1 x) u v k0_pay2 w := by
  unfold sout0_A_1
  rw [View.read_writes_eq_canon _ _ _ (scover0_A_1 c i a2 h2 a3 h3 a4 h4 a5 h5 a6 h6 a7 h7 a8 h8 a9 h9 a10 h10 p q x u v w lw lb)]
  unfold kernelRun0_A
  dsimp only
  sl_unfold_words
  rw [View.canon_cons_unit_zero (S := S1024x1024) hz, View.readCov_unit_zero (S := S1024x1024) _ hz, View.readCov_unit_zero (S := S1024x1024) _ hz]
  simp only [View.readAt_eq_ld, h2.read_unread, h3.read_unread, h4.read_unread, h5.read_unread, View.ld_unit_zero (S := S1024x1024) hz,
    View.ld_unit_zero (S := S1024x256) hz, View.ld_unit_zero (S := S256x1024) hz]

/-- A middle point adds to the running sum. -/
theorem sum_mid (p : ¬cond0_0 i) (q : ¬cond0_1 i) :
    sout0_B_1 c i a2 h2 a3 h3 a4 h4 a5 h5 a6 h6 a7 h7 a8 h8 a9 h9 a10 h10 p q x u v w lw lb s t = k0_pay3 s u v t w := by
  unfold sout0_B_1
  rw [View.read_writes_eq_canon _ _ _ (scover0_B_1 c i a2 h2 a3 h3 a4 h4 a5 h5 a6 h6 a7 h7 a8 h8 a9 h9 a10 h10 p q x u v w lw lb s t)]
  unfold kernelRun0_B
  dsimp only
  rw [View.canon_unit_zero hz]
  simp only [View.readAt_eq_ld, h9.read_unread, h10.read_unread, h3.read_unread, h4.read_unread, h5.read_unread, View.ld_unit_zero (S := S1024x1024) hz,
    View.ld_unit_zero (S := S1024x256) hz, View.ld_unit_zero (S := S256x1024) hz]

/-- The last point adds to the running sum, -/
theorem sum_last (p : ¬cond0_0 i) (q : cond0_1 i) :
    sout0_C_1 c i a2 h2 a3 h3 a4 h4 a5 h5 a6 h6 a7 h7 a8 h8 a9 h9 a10 h10 p q x u v w lw lb s t = k0_pay3 s u v t w := by
  unfold sout0_C_1
  rw [View.read_writes_eq_canon _ _ _ (scover0_C_1 c i a2 h2 a3 h3 a4 h4 a5 h5 a6 h6 a7 h7 a8 h8 a9 h9 a10 h10 p q x u v w lw lb s t)]
  unfold kernelRun0_C
  dsimp only
  sl_unfold_words
  rw [View.canon_unit_zero hz]
  simp only [View.readAt_eq_ld, h9.read_unread, h10.read_unread, h3.read_unread, h4.read_unread, h5.read_unread, View.ld_unit_zero (S := S1024x1024) hz,
    View.ld_unit_zero (S := S1024x256) hz, View.ld_unit_zero (S := S256x1024) hz]

/-- and stores the norm. -/
theorem out_last (p : ¬cond0_0 i) (q : cond0_1 i) :
    out0_C_6 c i a2 h2 a3 h3 a4 h4 a5 h5 a6 h6 a7 h7 a8 h8 a9 h9 a10 h10 p q x u v w lw lb s t = k0_pay4 x (k0_pay3 s u v t w) lw lb := by
  unfold out0_C_6
  rw [View.read_writes_eq_canon _ _ _ (cover0_C_6 c i a2 h2 a3 h3 a4 h4 a5 h5 a6 h6 a7 h7 a8 h8 a9 h9 a10 h10 p q x u v w lw lb s t)]
  unfold kernelRun0_C
  dsimp only
  sl_unfold_words
  rw [View.canon_unit_zero hz, View.readCov_unit_zero (S := S1024x1024) _ hz]
  simp only [View.readAt_eq_ld, h2.read_unread, h9.read_unread, h10.read_unread, h3.read_unread, h4.read_unread, h5.read_unread, h6.read_unread, h7.read_unread,
    View.ld_unit_zero (S := S1024x1024) hz, View.ld_unit_zero (S := S1024x256) hz, View.ld_unit_zero (S := S256x1024) hz, View.ld_unit_zero (S := S1x1024) hz]
end

end Cert.Dense

end
-- ==== Proof.DensePay.lean ====
/- The dense feed-forward's payloads at an index. -/
module

public import proofs.«01_k».proof.Proof.Gen.Kernel2Ideal.Skeleton
public import proofs.«01_k».proof.Proof.Math

@[expose] public section

set_option maxRecDepth 16384

noncomputable section

namespace Cert.Dense

open Cert.Kernel2Ideal Cert.Kernel2Ideal.Gen
open Idealize.ShloMosaic
open Idealize.ShloMosaic.TcCoe

theorem round_at (x : Vec Ideal S1024x1024 .f32) (r d : Fin 1024) : k0_pay1 (F := Ideal) x (ix2 r d) = x (ix2 r d) := by
  unfold k0_pay1
  pointwise

theorem none_at (r d : Fin 1024) : k0_pay2 (F := Ideal) (ix2 r d) = 0 := by
  unfold k0_pay2
  pointwise
  try exact Ideal.ofBits_zero_f32

/-- The sum a point leaves: what was there and its share of the second product. -/
theorem step_at (s : Vec Ideal S1024x1024 .bf16) (u v : Vec Ideal S1024x256 .bf16) (o : Vec Ideal S1024x1024 .f32) (w : Vec Ideal S256x1024 .bf16) (r d : Fin 1024) :
    k0_pay3 (F := Ideal) s u v o w (ix2 r d) = o (ix2 r d) + ∑ q : Fin 256,
      (∑ k, s (ix2 r k) * u (ix2 k q)) * Ideal.div 1 (1 + Ideal.exp (0 - ∑ k, s (ix2 r k) * u (ix2 k q))) * (∑ k, s (ix2 r k) * v (ix2 k q)) * w (ix2 q d) := by
  unfold k0_pay3
  pointwise

theorem norm_at (x o : Vec Ideal S1024x1024 .f32) (w b : Vec Ideal S1x1024 .f32) (r d : Fin 1024) (f : Fin 1024 → EReal)
    (hf : ∀ k, f k = Ideal.ofBits .f32 1068827891#32 * x (ix2 r k) + o (ix2 r k)) :
    k0_pay4 (F := Ideal) x o w b (ix2 r d) = (f d - Cert.Moe.Data.mean f) * Ideal.rsqrt (Cert.Moe.Data.mean (fun k => (f k - Cert.Moe.Data.mean f) * (f k - Cert.Moe.Data.mean f)) + Ideal.ofBits .f32 925353388#32)
      * w (ix2 0 d) + b (ix2 0 d) := by
  unfold k0_pay4
  pointwise
  simp only [← hf]
  rfl

end Cert.Dense

end
-- ==== Proof.Dense.lean ====
/- The dense feed-forward's result, entry by entry. -/
module

public import proofs.«01_k».proof.Proof.DenseCases
public import proofs.«01_k».proof.Proof.DensePay
public import Idealize.ShloMosaic.Lib.StableHlo.RunRead

@[expose] public section

set_option maxRecDepth 16384

noncomputable section

namespace Cert.Dense

open Cert.Kernel2Ideal Cert.Kernel2Ideal.Gen
open Idealize.ShloMosaic
open Idealize.ShloMosaic.TcCoe
open Idealize.ShloMosaic.StableHlo

/-- The arguments as numbers: rows, the two first products' columns, the second product's rows, the norm's weights. -/
structure Nums where
  x : ℕ → Fin 1024 → EReal
  w1 : ℕ → Fin 1024 → EReal
  w3 : ℕ → Fin 1024 → EReal
  w2 : ℕ → Fin 1024 → EReal
  lw : Fin 1024 → EReal
  lb : Fin 1024 → EReal

namespace Nums
variable (D : Nums)

/-- One hidden value: the sigmoid unit times the plain one. -/
def hid (R f : ℕ) : EReal :=
  (∑ k, D.x R k * D.w1 f k) * Ideal.div 1 (1 + Ideal.exp (0 - ∑ k, D.x R k * D.w1 f k)) * ∑ k, D.x R k * D.w3 f k

/-- The part of the second product from hidden values `256 n` to `256 n + 255`. -/
def tile (R n : ℕ) (d : Fin 1024) : EReal := ∑ q : Fin 256, D.hid R (256 * n + q.val) * D.w2 (256 * n + q.val) d

/-- The first `n` parts together. -/
def parts (R n : ℕ) (d : Fin 1024) : EReal := ∑ k ∈ Finset.range n, D.tile R k d

/-- The residual stream before the norm. -/
def res (R : ℕ) (d : Fin 1024) : EReal := Ideal.ofBits .f32 1068827891#32 * D.x R d + D.parts R 11 d

/-- The result. -/
def out (R : ℕ) (d : Fin 1024) : EReal :=
  (D.res R d - Cert.Moe.Data.mean (D.res R)) * Ideal.rsqrt (Cert.Moe.Data.mean (fun k => (D.res R k - Cert.Moe.Data.mean (D.res R)) * (D.res R k - Cert.Moe.Data.mean (D.res R)))
    + Ideal.ofBits .f32 925353388#32) * D.lw d + D.lb d
end Nums

/-- The numbers of six arrays. -/
def nums (x : FVec Ideal S32768x1024 .f32) (a b : FVec Ideal S1024x2816 .f32) (w : FVec Ideal S2816x1024 .f32) (lw lb : FVec Ideal S1024 .f32) : Nums where
  x R k := if h : R < 32768 then x (ix2 ⟨R, h⟩ k) else 0
  w1 f k := if h : f < 2816 then a (ix2 k ⟨f, h⟩) else 0
  w3 f k := if h : f < 2816 then b (ix2 k ⟨f, h⟩) else 0
  w2 f d := if h : f < 2816 then w (ix2 ⟨f, h⟩ d) else 0
  lw d := lw (ix1 d)
  lb d := lb (ix1 d)

theorem t_lt (t : Fin grid0.N) : t.val < 352 := N_0 ▸ t.isLt

theorem coord0 (t : Fin grid0.N) : (grid0.coords t 0).val = t.val / 11 := by
  rw [Pipeline.Grid.coords_val t 0 (S := 11) (B := 32) (by decide) rfl]
  have h := t_lt t
  omega

theorem coord1 (t : Fin grid0.N) : (grid0.coords t 1).val = t.val % 11 := by
  rw [Pipeline.Grid.coords_val t 1 (S := 1) (B := 11) (by decide) rfl]
  omega

theorem index0 (t : Fin grid0.N) : cc0_transform_0 (grid0.coords t) = ![t.val / 11, 0] := by
  have h := t_lt t
  unfold cc0_transform_0
  dsimp only
  rw [coord0]
  simp only [BitVec.toNat_ofNat]
  congr 1 <;> first | rfl | omega

theorem index1 (t : Fin grid0.N) : cc0_transform_1 (grid0.coords t) = ![0, t.val % 11] := by
  have h := t_lt t
  unfold cc0_transform_1
  dsimp only
  rw [coord1]
  simp only [BitVec.toNat_ofNat]
  rw [show t.val % 11 % 2 ^ 32 = t.val % 11 by omega]

theorem index3 (t : Fin grid0.N) : cc0_transform_3 (grid0.coords t) = ![t.val % 11, 0] := by
  have h := t_lt t
  unfold cc0_transform_3
  dsimp only
  rw [coord1]
  simp only [BitVec.toNat_ofNat]
  congr 1 <;> first | rfl | omega

section
variable (m : (ℓ : Loc nD τ sig) → Buf (Elt Ideal) ℓ) (c : Dev nD)

theorem found_w1 : V m c main_v0 = truncf (F := Ideal) .bf16 (m (c, main_arg1)) bitsLt_bf16_f32 := by
  show after hostOps0 (fun b => m (c, b)) (Proc.devRef .tc main_v0) = _
  dsimp only [hostOps0]
  after_results

theorem found_w3 : V m c main_v1 = truncf (F := Ideal) .bf16 (m (c, main_arg2)) bitsLt_bf16_f32 := by
  show after hostOps0 (fun b => m (c, b)) (Proc.devRef .tc main_v1) = _
  dsimp only [hostOps0]
  after_results

theorem found_w2 : V m c main_v2 = truncf (F := Ideal) .bf16 (m (c, main_arg3)) bitsLt_bf16_f32 := by
  show after hostOps0 (fun b => m (c, b)) (Proc.devRef .tc main_v2) = _
  dsimp only [hostOps0]
  after_results

theorem found_lw : V m c main_v3 = shapeCast S1x1024 (m (c, main_arg4)) shapeCasts_S1024_S1x1024 := by
  show after hostOps0 (fun b => m (c, b)) (Proc.devRef .tc main_v3) = _
  dsimp only [hostOps0]
  after_results
  rfl

theorem found_lb : V m c main_v4 = shapeCast S1x1024 (m (c, main_arg5)) shapeCasts_S1024_S1x1024 := by
  show after hostOps0 (fun b => m (c, b)) (Proc.devRef .tc main_v4) = _
  dsimp only [hostOps0]
  after_results
  rfl

/-- The numbers of the arguments. -/
def args : Nums := nums (m (c, main_arg0)) (m (c, main_arg1)) (m (c, main_arg2)) (m (c, main_arg3)) (m (c, main_arg4)) (m (c, main_arg5))

theorem read_x (t : Fin cfg0.N) (r k : Fin 1024) : (iblk m c 0 t : Vec Ideal S1024x1024 .f32) (ix2 r k) = (args m c).x (1024 * (t.val / 11) + r.val) k := by
  have ht := t_lt t
  have hR : 1024 * (t.val / 11) + r.val < 32768 := by omega
  show _ = dite _ _ _
  rw [dif_pos hR]
  unfold iblk
  rw [View.read_apply]
  show V m c main_arg0 _ = _
  rw [V_main_arg0]
  congr 1
  funext a
  apply Fin.ext
  match a with
  | ⟨0, _⟩ =>
    show cc0_transform_0 (grid0.coords t) 0 * 1024 + 1 * r.val = 1024 * (t.val / 11) + r.val
    rw [index0]; show t.val / 11 * 1024 + 1 * r.val = _; omega
  | ⟨1, _⟩ =>
    show cc0_transform_0 (grid0.coords t) 1 * 1024 + 1 * k.val = k.val
    rw [index0]; show 0 * 1024 + 1 * k.val = _; omega

theorem read_w1 (t : Fin cfg0.N) (k : Fin 1024) (q : Fin 256) : (iblk m c 1 t : Vec Ideal S1024x256 .bf16) (ix2 k q) = (args m c).w1 (256 * (t.val % 11) + q.val) k := by
  have hf : 256 * (t.val % 11) + q.val < 2816 := by omega
  show _ = dite _ _ _
  rw [dif_pos hf]
  unfold iblk
  rw [View.read_apply]
  show V m c main_v0 _ = _
  rw [found_w1]
  refine Eq.trans (b := (m (c, main_arg1)) _) rfl ?_
  congr 1
  funext a
  apply Fin.ext
  match a with
  | ⟨0, _⟩ =>
    show cc0_transform_1 (grid0.coords t) 0 * 1024 + 1 * k.val = k.val
    rw [index1]; show 0 * 1024 + 1 * k.val = _; omega
  | ⟨1, _⟩ =>
    show cc0_transform_1 (grid0.coords t) 1 * 256 + 1 * q.val = 256 * (t.val % 11) + q.val
    rw [index1]; show t.val % 11 * 256 + 1 * q.val = _; omega

theorem read_w3 (t : Fin cfg0.N) (k : Fin 1024) (q : Fin 256) : (iblk m c 2 t : Vec Ideal S1024x256 .bf16) (ix2 k q) = (args m c).w3 (256 * (t.val % 11) + q.val) k := by
  have hf : 256 * (t.val % 11) + q.val < 2816 := by omega
  show _ = dite _ _ _
  rw [dif_pos hf]
  unfold iblk
  rw [View.read_apply]
  show V m c main_v1 _ = _
  rw [found_w3]
  refine Eq.trans (b := (m (c, main_arg2)) _) rfl ?_
  congr 1
  funext a
  apply Fin.ext
  match a with
  | ⟨0, _⟩ =>
    show cc0_transform_1 (grid0.coords t) 0 * 1024 + 1 * k.val = k.val
    rw [index1]; show 0 * 1024 + 1 * k.val = _; omega
  | ⟨1, _⟩ =>
    show cc0_transform_1 (grid0.coords t) 1 * 256 + 1 * q.val = 256 * (t.val % 11) + q.val
    rw [index1]; show t.val % 11 * 256 + 1 * q.val = _; omega

theorem read_w2 (t : Fin cfg0.N) (q : Fin 256) (d : Fin 1024) : (iblk m c 3 t : Vec Ideal S256x1024 .bf16) (ix2 q d) = (args m c).w2 (256 * (t.val % 11) + q.val) d := by
  have hf : 256 * (t.val % 11) + q.val < 2816 := by omega
  show _ = dite _ _ _
  rw [dif_pos hf]
  unfold iblk
  rw [View.read_apply]
  show V m c main_v2 _ = _
  rw [found_w2]
  refine Eq.trans (b := (m (c, main_arg3)) _) rfl ?_
  congr 1
  funext a
  apply Fin.ext
  match a with
  | ⟨0, _⟩ =>
    show cc0_transform_3 (grid0.coords t) 0 * 256 + 1 * q.val = 256 * (t.val % 11) + q.val
    rw [index3]; show t.val % 11 * 256 + 1 * q.val = _; omega
  | ⟨1, _⟩ =>
    show cc0_transform_3 (grid0.coords t) 1 * 1024 + 1 * d.val = d.val
    rw [index3]; show 0 * 1024 + 1 * d.val = _; omega

/-- A row reshaped is the row. -/
theorem row_at (v : Vec Ideal S1024 .f32) (h) (d : Fin 1024) : shapeCast S1x1024 v h (ix2 (0 : Fin 1) d) = v (ix1 d) := by
  pointwise

theorem read_lw (t : Fin cfg0.N) (d : Fin 1024) : (iblk m c 4 t : Vec Ideal S1x1024 .f32) (ix2 (0 : Fin 1) d) = (args m c).lw d := by
  refine Eq.trans ?_ (row_at (m (c, main_arg4)) shapeCasts_S1024_S1x1024 d)
  unfold iblk
  rw [View.read_apply]
  show V m c main_v3 _ = _
  rw [found_lw]
  congr 1
  funext a
  apply Fin.ext
  match a with
  | ⟨0, _⟩ => show 0 * 1 + 1 * 0 = 0; rfl
  | ⟨1, _⟩ => show 0 * 1024 + 1 * d.val = d.val; omega

theorem read_lb (t : Fin cfg0.N) (d : Fin 1024) : (iblk m c 5 t : Vec Ideal S1x1024 .f32) (ix2 (0 : Fin 1) d) = (args m c).lb d := by
  refine Eq.trans ?_ (row_at (m (c, main_arg5)) shapeCasts_S1024_S1x1024 d)
  unfold iblk
  rw [View.read_apply]
  show V m c main_v4 _ = _
  rw [found_lb]
  congr 1
  funext a
  apply Fin.ext
  match a with
  | ⟨0, _⟩ => show 0 * 1 + 1 * 0 = 0; rfl
  | ⟨1, _⟩ => show 0 * 1024 + 1 * d.val = d.val; omega

/-- What a point adds, when the rows it kept are the row block's. -/
theorem adds (t : Fin cfg0.N) (s : Vec Ideal S1024x1024 .bf16) (hs : ∀ r k, s (ix2 r k) = (args m c).x (1024 * (t.val / 11) + r.val) k) (o : Vec Ideal S1024x1024 .f32)
    (r d : Fin 1024) : k0_pay3 (F := Ideal) s (iblk m c 1 t) (iblk m c 2 t) o (iblk m c 3 t) (ix2 r d)
      = o (ix2 r d) + (args m c).tile (1024 * (t.val / 11) + r.val) (t.val % 11) d := by
  refine (step_at s (iblk m c 1 t) (iblk m c 2 t) o (iblk m c 3 t) r d).trans ?_
  have h1 := read_w1 m c t
  have h3 := read_w3 m c t
  have h2 := read_w2 m c t
  simp only [hs, h1, h3, h2]
  rfl

/-- After a point the rows are kept and the parts so far are summed. -/
theorem carried (n : ℕ) : ∀ hn : n < cfg0.N,
    (∀ r k, (outsAt0 m c n hn).2.1 (ix2 r k) = (args m c).x (1024 * (n / 11) + r.val) k)
    ∧ ∀ r d, (outsAt0 m c n hn).2.2 (ix2 r d) = (args m c).parts (1024 * (n / 11) + r.val) (n % 11 + 1) d := by
  have first : ∀ t : Fin cfg0.N, t.val % 11 = 0 → (∀ r k, (outsAt0 m c t.val t.isLt).2.1 (ix2 r k) = (args m c).x (1024 * (t.val / 11) + r.val) k)
      ∧ ∀ r d, (outsAt0 m c t.val t.isLt).2.2 (ix2 r d) = (args m c).parts (1024 * (t.val / 11) + r.val) (t.val % 11 + 1) d := by
    intro t h0
    have hx : ∀ r k, k0_pay1 (F := Ideal) (iblk m c 0 t) (ix2 r k) = (args m c).x (1024 * (t.val / 11) + r.val) k :=
      fun r k => (round_at (iblk m c 0 t) r k).trans (read_x m c t r k)
    rw [outsAt0_A m c t h0 (by omega)]
    dsimp only
    rw [kept_first, sum_first]
    refine ⟨hx, fun r d => ?_⟩
    rw [adds m c t _ hx, none_at, zero_add, h0]
    exact (Finset.sum_range_one fun k => (args m c).tile (1024 * (t.val / 11) + r.val) k d).symm
  induction n with
  | zero => exact fun hn => first ⟨0, hn⟩ rfl
  | succ n ih =>
    intro hn
    have hN := t_lt ⟨n + 1, hn⟩
    by_cases h0 : (n + 1) % 11 = 0
    · exact first ⟨n + 1, hn⟩ h0
    have ⟨ix, io⟩ := ih (by omega)
    have e1 : (n + 1) / 11 = n / 11 := by omega
    have e2 : (n + 1) % 11 = n % 11 + 1 := by omega
    have hx : ∀ r k, (outsAt0 m c n (by omega)).2.1 (ix2 r k) = (args m c).x (1024 * ((n + 1) / 11) + r.val) k := by rw [e1]; exact ix
    have hs : ∀ r d, k0_pay3 (F := Ideal) (outsAt0 m c n (by omega)).2.1 (iblk m c 1 ⟨n + 1, hn⟩) (iblk m c 2 ⟨n + 1, hn⟩) (outsAt0 m c n (by omega)).2.2 (iblk m c 3 ⟨n + 1, hn⟩) (ix2 r d)
        = (args m c).parts (1024 * ((n + 1) / 11) + r.val) ((n + 1) % 11 + 1) d := by
      intro r d
      refine (adds m c ⟨n + 1, hn⟩ _ hx _ r d).trans ?_
      show _ + (args m c).tile (1024 * ((n + 1) / 11) + r.val) ((n + 1) % 11) d = _
      rw [io, e1, e2]
      exact (Finset.sum_range_succ _ _).symm
    by_cases h1 : (n + 1) % 11 = 10
    · rw [outsAt0_C m c ⟨n + 1, hn⟩ h0 h1]
      dsimp only
      rw [sum_last]
      exact ⟨hx, hs⟩
    · rw [outsAt0_B m c ⟨n + 1, hn⟩ h0 h1]
      dsimp only
      rw [sum_mid]
      exact ⟨hx, hs⟩

/-- The last point of a row block leaves its rows' result. -/
theorem block_out (t : Fin cfg0.N) (h : t.val % 11 = 10) (r d : Fin 1024) :
    (outsAt0 m c t.val t.isLt).1 (ix2 r d) = (args m c).out (1024 * (t.val / 11) + r.val) d := by
  have hc := carried m c t.val t.isLt
  rw [outsAt0_C m c t (by omega) h] at hc ⊢
  dsimp only at hc ⊢
  rw [sum_last] at hc
  rw [out_last]
  refine (norm_at _ _ _ _ r d ((args m c).res (1024 * (t.val / 11) + r.val)) fun k => ?_).trans ?_
  · rw [hc.2, h, read_x m c t]
    rfl
  · rw [read_lw m c t, read_lb m c t]
    rfl

theorem same_point (a b : ℕ) (ha : a < cfg0.N) (hb : b < cfg0.N) (h : a = b) : outsAt0 m c a ha = outsAt0 m c b hb := by
  subst h
  rfl

/-- The result the call leaves. -/
theorem result_at (R : Fin 32768) (d : Fin 1024) : Value.G6 m c (ix2 R d) = (args m c).out R.val d := by
  have hp : Value.pt6Of (ix2 R d) = 11 * (R.val / 1024) + 10 := by
    show 11 * (1 * (R.val / 1024 - 0) + 1 * (d.val / 1024 - 0)) + 10 = _
    omega
  have hl : Value.loc6Of (ix2 R d) = ix2 (⟨R.val % 1024, by omega⟩ : Fin 1024) d := by
    funext a
    apply Fin.ext
    match a with
    | ⟨0, _⟩ => show R.val % 1024 = R.val % 1024; rfl
    | ⟨1, _⟩ => show d.val % 1024 = d.val; omega
  have hlt : 11 * (R.val / 1024) + 10 < cfg0.N := lt_of_lt_of_eq (by omega) N_0.symm
  unfold Value.G6
  rw [dif_pos (hp ▸ hlt), ← Value.outsAt0_sweep m c _ (hp ▸ hlt), hl]
  have := block_out m c ⟨11 * (R.val / 1024) + 10, hlt⟩ (by dsimp only; omega) ⟨R.val % 1024, by omega⟩ d
  dsimp only at this
  rw [show 1024 * ((11 * (R.val / 1024) + 10) / 11) + R.val % 1024 = R.val by omega] at this
  rw [← this]
  exact congrFun (congrArg Prod.fst (same_point m c _ _ (hp ▸ hlt) hlt hp)) _
end

end Cert.Dense

end
-- ==== Proof.DenseRef.lean ====
/- The dense feed-forward's reference, entry by entry. -/
module

public import proofs.«01_k».proof.Proof.Gen.Reference2Ideal.Run
public import proofs.«01_k».proof.Proof.RefVal
public import proofs.«01_k».proof.Proof.Dense

@[expose] public section

set_option maxRecDepth 16384

noncomputable section

namespace Cert.Dense

open Cert.Reference2Ideal Cert.Reference2Ideal.Gen
open Idealize.ShloMosaic
open Idealize.ShloMosaic.TcCoe

/-- The residual stream of the reference before the norm. -/
def stream (x : FVec Ideal S32768x1024 .f32) (A B : FVec Ideal S1024x2816 .f32) (C : FVec Ideal S2816x1024 .f32) : FVec Ideal S32768x1024 .f32 :=
  addf (F := Ideal) (φ := .f32) (mulf (broadcastInDim S32768x1024 ![] bcast_S_S32768x1024 (constant S_ .f32 0x3FB504F3#32)) x)
    (Host.dotGeneral dot_S32768x2816_S2816x1024_S32768x1024_1_0_0_1_n_n none
      (mulf (mulf (Host.dotGeneral dot_S32768x1024_S1024x2816_S32768x2816_1_0_0_1_n_n none x A)
          (Host.divf (broadcastInDim S32768x2816 ![] bcast_S_S32768x2816 (constant S_ .f32 0x3F800000#32))
            (addf (broadcastInDim S32768x2816 ![] bcast_S_S32768x2816 (constant S_ .f32 0x3F800000#32))
              (Host.exp (Host.negf (Host.dotGeneral dot_S32768x1024_S1024x2816_S32768x2816_1_0_0_1_n_n none x A))))))
        (Host.dotGeneral dot_S32768x1024_S1024x2816_S32768x2816_1_0_0_1_n_n none x B)) C)

theorem stream_at (x : FVec Ideal S32768x1024 .f32) (A B : FVec Ideal S1024x2816 .f32) (C : FVec Ideal S2816x1024 .f32) (R : Fin 32768) (d : Fin 1024) :
    stream x A B C (ix2 R d) = Ideal.ofBits .f32 1068827891#32 * x (ix2 R d) + ∑ f : Fin 2816, (∑ k : Fin 1024, x (ix2 R k) * A (ix2 k f)) * Ideal.div 1 (1 + Ideal.exp (-∑ k : Fin 1024, x (ix2 R k) * A (ix2 k f)))
      * (∑ k : Fin 1024, x (ix2 R k) * B (ix2 k f)) * C (ix2 f d) := by
  unfold stream
  pointwise

/-- The hidden values summed in parts are summed whole. -/
theorem parts_eq (D : Nums) (R : ℕ) (d : Fin 1024) : D.parts R 11 d = ∑ f : Fin 2816, D.hid R f.val * D.w2 f.val d := by
  rw [Fin.sum_univ_eq_sum_range (fun f => D.hid R f * D.w2 f d) 2816]
  unfold Nums.parts Nums.tile
  have hq : ∀ n, (∑ q : Fin 256, D.hid R (256 * n + q.val) * D.w2 (256 * n + q.val) d) = ∑ q ∈ Finset.range 256, D.hid R (256 * n + q) * D.w2 (256 * n + q) d :=
    fun n => Fin.sum_univ_eq_sum_range (fun q => D.hid R (256 * n + q) * D.w2 (256 * n + q) d) 256
  rw [Finset.sum_congr rfl fun n _ => hq n]
  have hs : ∀ n, ∑ k ∈ Finset.range n, ∑ q ∈ Finset.range 256, D.hid R (256 * k + q) * D.w2 (256 * k + q) d = ∑ f ∈ Finset.range (256 * n), D.hid R f * D.w2 f d := by
    intro n
    induction n with
    | zero => simp
    | succ n ih => rw [Nat.mul_succ, Finset.sum_range_add (fun f => D.hid R f * D.w2 f d), ← ih, Finset.sum_range_succ (fun k => ∑ q ∈ Finset.range 256, D.hid R (256 * k + q) * D.w2 (256 * k + q) d) n]
  exact hs 11

/-- The stream in the layer's numbers. -/
theorem stream_res (x : FVec Ideal S32768x1024 .f32) (A B : FVec Ideal S1024x2816 .f32) (C : FVec Ideal S2816x1024 .f32) (lw lb : FVec Ideal S1024 .f32) (R : Fin 32768) (d : Fin 1024) :
    stream x A B C (ix2 R d) = (nums x A B C lw lb).res R.val d := by
  have hx : ∀ k, (nums x A B C lw lb).x R.val k = x (ix2 R k) := fun k => dif_pos R.isLt
  have h1 : ∀ (f : Fin 2816) k, (nums x A B C lw lb).w1 f.val k = A (ix2 k f) := fun f k => dif_pos f.isLt
  have h3 : ∀ (f : Fin 2816) k, (nums x A B C lw lb).w3 f.val k = B (ix2 k f) := fun f k => dif_pos f.isLt
  have h2 : ∀ (f : Fin 2816) k, (nums x A B C lw lb).w2 f.val k = C (ix2 f k) := fun f k => dif_pos f.isLt
  rw [stream_at]
  unfold Nums.res
  rw [parts_eq]
  unfold Nums.hid
  simp only [hx, h1, h3, h2, zero_sub]

/-- The reference's result. -/
theorem ref_eq (m : (ℓ : Loc nD τ sig) → Buf (Elt Ideal) ℓ) (c : Dev nD) : Value.res_main_v31 m c =
    Cert.Moe.normed (stream (m (c.tc.loc main_arg0)) (m (c.tc.loc main_arg1)) (m (c.tc.loc main_arg2)) (m (c.tc.loc main_arg3))) (m (c.tc.loc main_arg4)) (m (c.tc.loc main_arg5)) := rfl

theorem ref_at (x : FVec Ideal S32768x1024 .f32) (A B : FVec Ideal S1024x2816 .f32) (C : FVec Ideal S2816x1024 .f32) (lw lb : FVec Ideal S1024 .f32) (R : Fin 32768) (d : Fin 1024) :
    Cert.Moe.normed (stream x A B C) lw lb (ix2 R d) = (nums x A B C lw lb).out R.val d := by
  rw [Cert.Moe.normed_at]
  simp only [stream_res x A B C lw lb]
  rfl

end Cert.Dense

end
-- ==== Proof.MixPay.lean ====
/- The output projection's payloads at an index. -/
module

public import proofs.«01_k».proof.Proof.Gen.Kernel3Ideal.Skeleton
public import proofs.«01_k».proof.Proof.Math

@[expose] public section

set_option maxRecDepth 16384

noncomputable section

namespace Cert.Mix

open Cert.Kernel3Ideal Cert.Kernel3Ideal.Gen
open Idealize.ShloMosaic
open Idealize.ShloMosaic.TcCoe

/-- The stream before the norm: the residual and the four groups' products. -/
theorem stream_at (a b c d : Vec Ideal S1024x256 .f32) (u v w z : Vec Ideal S256x1024 .bf16) (x : Vec Ideal S1024x1024 .f32) (r e : Fin 1024) :
    k0_pay2 (F := Ideal) a u b v c w d z x (ix2 r e) = Ideal.ofBits .f32 1068827891#32 * x (ix2 r e)
      + (∑ q, a (ix2 r q) * u (ix2 q e) + ∑ q, b (ix2 r q) * v (ix2 q e) + ∑ q, c (ix2 r q) * w (ix2 q e) + ∑ q, d (ix2 r q) * z (ix2 q e)) := by
  unfold k0_pay2
  pointwise

theorem norm_at (o : Vec Ideal S1024x1024 .f32) (w b : Vec Ideal S1x1024 .f32) (r d : Fin 1024) (f : Fin 1024 → EReal) (hf : ∀ k, o (ix2 r k) = f k) :
    k0_pay1 (F := Ideal) o (k0_pay3 w) (k0_pay4 b) (ix2 r d) = (f d - Cert.Moe.Data.mean f) * Ideal.rsqrt (Cert.Moe.Data.mean (fun k => (f k - Cert.Moe.Data.mean f) * (f k - Cert.Moe.Data.mean f))
      + Ideal.ofBits .f32 925353388#32) * w (ix2 0 d) + b (ix2 0 d) := by
  unfold k0_pay1 k0_pay3 k0_pay4
  pointwise
  simp only [hf]
  rfl

end Cert.Mix

end
-- ==== Proof.MixRef.lean ====
/- The output projection's reference, entry by entry. -/
module

public import proofs.«01_k».proof.Proof.Gen.Reference3Ideal.Run
public import proofs.«01_k».proof.Proof.RefVal

@[expose] public section

set_option maxRecDepth 16384

noncomputable section

namespace Cert.Mix

open Cert.Reference3Ideal Cert.Reference3Ideal.Gen
open Idealize.ShloMosaic
open Idealize.ShloMosaic.TcCoe

/-- The stream of the reference before the norm. -/
def stream (a b c d : FVec Ideal S32768x256 .f32) (w : FVec Ideal S1024x1024 .f32) (x : FVec Ideal S32768x1024 .f32) : FVec Ideal S32768x1024 .f32 :=
  addf (F := Ideal) (φ := .f32) (mulf (broadcastInDim S32768x1024 ![] bcast_S_S32768x1024 (constant S_ .f32 0x3FB504F3#32)) x)
    (Host.dotGeneral dot_S32768x1024_S1024x1024_S32768x1024_1_0_0_1_n_n none
      (concatenate S32768x1024 1 [⟨S32768x256, a⟩, ⟨S32768x256, b⟩, ⟨S32768x256, c⟩, ⟨S32768x256, d⟩]
        concatenates_S32768x256_S32768x256_S32768x256_S32768x256_S32768x1024_d1) w)

/-- The residual stream at an entry: one product over the four groups' columns, group by group. -/
def res (a b c d : FVec Ideal S32768x256 .f32) (w : FVec Ideal S1024x1024 .f32) (x : FVec Ideal S32768x1024 .f32) (R : Fin 32768) (e : Fin 1024) : EReal :=
  Ideal.ofBits .f32 1068827891#32 * x (ix2 R e)
    + (∑ q : Fin 256, a (ix2 R q) * w (ix2 ⟨q.val, by omega⟩ e) + ∑ q : Fin 256, b (ix2 R q) * w (ix2 ⟨256 + q.val, by omega⟩ e)
      + ∑ q : Fin 256, c (ix2 R q) * w (ix2 ⟨512 + q.val, by omega⟩ e) + ∑ q : Fin 256, d (ix2 R q) * w (ix2 ⟨768 + q.val, by omega⟩ e))

theorem stream_res (a b c d : FVec Ideal S32768x256 .f32) (w : FVec Ideal S1024x1024 .f32) (x : FVec Ideal S32768x1024 .f32) (R : Fin 32768) (e : Fin 1024) :
    stream a b c d w x (ix2 R e) = res a b c d w x R e := by
  unfold stream res
  pointwise [sumSplitAll]
  have h2 : ∀ q : ℕ, 256 + (256 + q) = 512 + q := by omega
  have h3 : ∀ q : ℕ, 256 + (512 + q) = 768 + q := by omega
  simp only [h2, h3, add_assoc]

/-- The result at an entry. -/
def out (a b c d : FVec Ideal S32768x256 .f32) (w : FVec Ideal S1024x1024 .f32) (x : FVec Ideal S32768x1024 .f32) (lw lb : FVec Ideal S1024 .f32) (R : Fin 32768) (e : Fin 1024) : EReal :=
  (res a b c d w x R e - Cert.Moe.Data.mean (res a b c d w x R)) * Ideal.rsqrt (Cert.Moe.Data.mean (fun k => (res a b c d w x R k - Cert.Moe.Data.mean (res a b c d w x R))
    * (res a b c d w x R k - Cert.Moe.Data.mean (res a b c d w x R))) + Ideal.ofBits .f32 925353388#32) * lw (ix1 e) + lb (ix1 e)

theorem ref_at (a b c d : FVec Ideal S32768x256 .f32) (w : FVec Ideal S1024x1024 .f32) (x : FVec Ideal S32768x1024 .f32) (lw lb : FVec Ideal S1024 .f32) (R : Fin 32768) (e : Fin 1024) :
    Cert.Moe.normed (stream a b c d w x) lw lb (ix2 R e) = out a b c d w x lw lb R e := by
  rw [Cert.Moe.normed_at]
  simp only [stream_res]
  rfl

/-- The reference's result. -/
theorem ref_eq (m : (ℓ : Loc nD τ sig) → Buf (Elt Ideal) ℓ) (c : Dev nD) : Value.res_out0 m c =
    Cert.Moe.normed (stream (m (c.tc.loc main_arg0)) (m (c.tc.loc main_arg1)) (m (c.tc.loc main_arg2)) (m (c.tc.loc main_arg3)) (m (c.tc.loc main_arg4)) (m (c.tc.loc main_arg5)))
      (m (c.tc.loc main_arg6)) (m (c.tc.loc main_arg7)) := rfl

end Cert.Mix

end
-- ==== Proof.Mix.lean ====
/- The output projection's result, entry by entry. -/
module

public import proofs.«01_k».proof.Proof.Gen.Kernel3Ideal.Value
public import proofs.«01_k».proof.Proof.MixPay
public import proofs.«01_k».proof.Proof.MixRef
public import Idealize.ShloMosaic.Lib.StableHlo.RunRead

@[expose] public section

set_option maxRecDepth 16384

noncomputable section

namespace Cert.Mix

open Cert.Kernel3Ideal Cert.Kernel3Ideal.Gen
open Idealize.ShloMosaic
open Idealize.ShloMosaic.TcCoe
open Idealize.ShloMosaic.StableHlo

theorem t_lt (t : Fin grid0.N) : t.val < 32 := N_0 ▸ t.isLt

theorem coord0 (t : Fin grid0.N) : (grid0.coords t 0).val = t.val := by
  rw [Pipeline.Grid.coords_val t 0 (S := 1) (B := 32) (by decide) rfl]
  have h := t_lt t
  omega

theorem index0 (t : Fin grid0.N) : cc0_transform_0 (grid0.coords t) = ![t.val, 0] := by
  have h := t_lt t
  unfold cc0_transform_0
  dsimp only
  rw [coord0]
  simp only [BitVec.toNat_ofNat]
  congr 1 <;> first | rfl | omega

/-- A block's row as a row of the whole. -/
def row (t : Fin cfg0.N) (r : Fin 1024) : Fin 32768 := ⟨1024 * t.val + r.val, by have := t_lt t; omega⟩

section
variable (m : (ℓ : Loc nD τ sig) → Buf (Elt Ideal) ℓ) (c : Dev nD)

theorem found_w : V m c main_v0 = truncf (F := Ideal) .bf16 (m (c, main_arg4)) bitsLt_bf16_f32 := by
  show after hostOps0 (fun b => m (c, b)) (Proc.devRef .tc main_v0) = _
  dsimp only [hostOps0]
  after_results

theorem found_lw : V m c main_v1 = shapeCast S1x1024 (m (c, main_arg6)) shapeCasts_S1024_S1x1024 := by
  show after hostOps0 (fun b => m (c, b)) (Proc.devRef .tc main_v1) = _
  dsimp only [hostOps0]
  after_results
  rfl

theorem found_lb : V m c main_v2 = shapeCast S1x1024 (m (c, main_arg7)) shapeCasts_S1024_S1x1024 := by
  show after hostOps0 (fun b => m (c, b)) (Proc.devRef .tc main_v2) = _
  dsimp only [hostOps0]
  after_results
  rfl

theorem read_y0 (t : Fin cfg0.N) (r : Fin 1024) (k : Fin 256) : (iblk m c 0 t : Vec Ideal S1024x256 .f32) (ix2 r k) = (m (c, main_arg0) : FVec Ideal S32768x256 .f32) (ix2 (row t r) k) := by
  unfold iblk
  rw [View.read_apply]
  show V m c main_arg0 _ = _
  rw [V_main_arg0]
  congr 1
  funext a
  apply Fin.ext
  match a with
  | ⟨0, _⟩ =>
    show cc0_transform_0 (grid0.coords t) 0 * 1024 + 1 * r.val = 1024 * t.val + r.val
    rw [index0]; show t.val * 1024 + 1 * r.val = _; omega
  | ⟨1, _⟩ =>
    show cc0_transform_0 (grid0.coords t) 1 * 256 + 1 * k.val = k.val
    rw [index0]; show 0 * 256 + 1 * k.val = _; omega

theorem read_y1 (t : Fin cfg0.N) (r : Fin 1024) (k : Fin 256) : (iblk m c 1 t : Vec Ideal S1024x256 .f32) (ix2 r k) = (m (c, main_arg1) : FVec Ideal S32768x256 .f32) (ix2 (row t r) k) := by
  unfold iblk
  rw [View.read_apply]
  show V m c main_arg1 _ = _
  rw [V_main_arg1]
  congr 1
  funext a
  apply Fin.ext
  match a with
  | ⟨0, _⟩ =>
    show cc0_transform_0 (grid0.coords t) 0 * 1024 + 1 * r.val = 1024 * t.val + r.val
    rw [index0]; show t.val * 1024 + 1 * r.val = _; omega
  | ⟨1, _⟩ =>
    show cc0_transform_0 (grid0.coords t) 1 * 256 + 1 * k.val = k.val
    rw [index0]; show 0 * 256 + 1 * k.val = _; omega

theorem read_y2 (t : Fin cfg0.N) (r : Fin 1024) (k : Fin 256) : (iblk m c 2 t : Vec Ideal S1024x256 .f32) (ix2 r k) = (m (c, main_arg2) : FVec Ideal S32768x256 .f32) (ix2 (row t r) k) := by
  unfold iblk
  rw [View.read_apply]
  show V m c main_arg2 _ = _
  rw [V_main_arg2]
  congr 1
  funext a
  apply Fin.ext
  match a with
  | ⟨0, _⟩ =>
    show cc0_transform_0 (grid0.coords t) 0 * 1024 + 1 * r.val = 1024 * t.val + r.val
    rw [index0]; show t.val * 1024 + 1 * r.val = _; omega
  | ⟨1, _⟩ =>
    show cc0_transform_0 (grid0.coords t) 1 * 256 + 1 * k.val = k.val
    rw [index0]; show 0 * 256 + 1 * k.val = _; omega

theorem read_y3 (t : Fin cfg0.N) (r : Fin 1024) (k : Fin 256) : (iblk m c 3 t : Vec Ideal S1024x256 .f32) (ix2 r k) = (m (c, main_arg3) : FVec Ideal S32768x256 .f32) (ix2 (row t r) k) := by
  unfold iblk
  rw [View.read_apply]
  show V m c main_arg3 _ = _
  rw [V_main_arg3]
  congr 1
  funext a
  apply Fin.ext
  match a with
  | ⟨0, _⟩ =>
    show cc0_transform_0 (grid0.coords t) 0 * 1024 + 1 * r.val = 1024 * t.val + r.val
    rw [index0]; show t.val * 1024 + 1 * r.val = _; omega
  | ⟨1, _⟩ =>
    show cc0_transform_0 (grid0.coords t) 1 * 256 + 1 * k.val = k.val
    rw [index0]; show 0 * 256 + 1 * k.val = _; omega

theorem read_x (t : Fin cfg0.N) (r : Fin 1024) (k : Fin 1024) : (iblk m c 5 t : Vec Ideal S1024x1024 .f32) (ix2 r k) = (m (c, main_arg5) : FVec Ideal S32768x1024 .f32) (ix2 (row t r) k) := by
  unfold iblk
  rw [View.read_apply]
  show V m c main_arg5 _ = _
  rw [V_main_arg5]
  congr 1
  funext a
  apply Fin.ext
  match a with
  | ⟨0, _⟩ =>
    show cc0_transform_0 (grid0.coords t) 0 * 1024 + 1 * r.val = 1024 * t.val + r.val
    rw [index0]; show t.val * 1024 + 1 * r.val = _; omega
  | ⟨1, _⟩ =>
    show cc0_transform_0 (grid0.coords t) 1 * 1024 + 1 * k.val = k.val
    rw [index0]; show 0 * 1024 + 1 * k.val = _; omega

theorem read_w (t : Fin cfg0.N) (k e : Fin 1024) : (iblk m c 4 t : Vec Ideal S1024x1024 .bf16) (ix2 k e) = (m (c, main_arg4) : FVec Ideal S1024x1024 .f32) (ix2 k e) := by
  unfold iblk
  rw [View.read_apply]
  show V m c main_v0 _ = _
  rw [found_w]
  refine Eq.trans (b := (m (c, main_arg4)) _) rfl ?_
  congr 1
  funext a
  apply Fin.ext
  match a with
  | ⟨0, _⟩ => show 0 * 1024 + 1 * k.val = k.val; omega
  | ⟨1, _⟩ => show 0 * 1024 + 1 * e.val = e.val; omega

/-- A row reshaped is the row. -/
theorem row_at (v : Vec Ideal S1024 .f32) (h) (d : Fin 1024) : shapeCast S1x1024 v h (ix2 (0 : Fin 1) d) = v (ix1 d) := by
  pointwise

theorem read_lw (t : Fin cfg0.N) (d : Fin 1024) : (iblk m c 6 t : Vec Ideal S1x1024 .f32) (ix2 (0 : Fin 1) d) = (m (c, main_arg6) : FVec Ideal S1024 .f32) (ix1 d) := by
  refine Eq.trans ?_ (row_at (m (c, main_arg6)) shapeCasts_S1024_S1x1024 d)
  unfold iblk
  rw [View.read_apply]
  show V m c main_v1 _ = _
  rw [found_lw]
  congr 1
  funext a
  apply Fin.ext
  match a with
  | ⟨0, _⟩ => show 0 * 1 + 1 * 0 = 0; rfl
  | ⟨1, _⟩ => show 0 * 1024 + 1 * d.val = d.val; omega

theorem read_lb (t : Fin cfg0.N) (d : Fin 1024) : (iblk m c 7 t : Vec Ideal S1x1024 .f32) (ix2 (0 : Fin 1) d) = (m (c, main_arg7) : FVec Ideal S1024 .f32) (ix1 d) := by
  refine Eq.trans ?_ (row_at (m (c, main_arg7)) shapeCasts_S1024_S1x1024 d)
  unfold iblk
  rw [View.read_apply]
  show V m c main_v2 _ = _
  rw [found_lb]
  congr 1
  funext a
  apply Fin.ext
  match a with
  | ⟨0, _⟩ => show 0 * 1 + 1 * 0 = 0; rfl
  | ⟨1, _⟩ => show 0 * 1024 + 1 * d.val = d.val; omega

theorem hz : (![0, 0] : Fin 2 → Nat) = fun _ => 0 := funext fun a => by fin_cases a <;> rfl

/-- What a point stores, of the blocks it reads. -/
theorem stored (y0 y1 y2 y3 : Vec Ideal S1024x256 .f32) (w : Vec Ideal S1024x1024 .bf16) (x : Vec Ideal S1024x1024 .f32) (lw lb : Vec Ideal S1x1024 .f32) :
    out0_8 y0 y1 y2 y3 w x lw lb = k0_pay1 (k0_pay2 y0 (View.ld w r0_1) y1 (View.ld w r0_2) y2 (View.ld w r0_3) y3 (View.ld w r0_4) x) (k0_pay3 lw) (k0_pay4 lb) := by
  unfold out0_8
  rw [View.canon_unit_zero hz]
  simp only [View.ld_unit_zero (S := S1024x256) hz, View.ld_unit_zero (S := S1024x1024) hz, View.ld_unit_zero (S := S1x1024) hz]

/-- A group's rows of the weights. -/
theorem part_at (w : Vec Ideal S1024x1024 .bf16) (n : ℕ) (h : ∀ a, (![n, 0] : Fin 2 → Nat) a + S256x1024.size a ≤ S1024x1024.size a) (hn : n + 256 ≤ 1024) (q : Fin 256) (e : Fin 1024) :
    (View.ld w (Rect.unit (s := S1024x1024) ![n, 0] S256x1024.size h) : Vec Ideal S256x1024 .bf16) (ix2 q e) = w (ix2 ⟨n + q.val, by omega⟩ e) := by
  show w _ = w _
  congr 1
  funext a
  apply Fin.ext
  match a with
  | ⟨0, _⟩ => show n + 1 * q.val = n + q.val; omega
  | ⟨1, _⟩ => show 0 + 1 * e.val = e.val; omega

/-- A row block's result. -/
theorem block_out (t : Fin cfg0.N) (r d : Fin 1024) :
    (out0_8 (iblk m c 0 t) (iblk m c 1 t) (iblk m c 2 t) (iblk m c 3 t) (iblk m c 4 t) (iblk m c 5 t) (iblk m c 6 t) (iblk m c 7 t) : Vec Ideal S1024x1024 .f32) (ix2 r d)
      = out (m (c, main_arg0)) (m (c, main_arg1)) (m (c, main_arg2)) (m (c, main_arg3)) (m (c, main_arg4)) (m (c, main_arg5)) (m (c, main_arg6)) (m (c, main_arg7)) (row t r) d := by
  rw [stored]
  refine (norm_at _ _ _ r d (res (m (c, main_arg0)) (m (c, main_arg1)) (m (c, main_arg2)) (m (c, main_arg3)) (m (c, main_arg4)) (m (c, main_arg5)) (row t r)) fun k => ?_).trans ?_
  · rw [stream_at, read_x m c t]
    have p0 := fun q => part_at (iblk m c 4 t) 0 inb_S1024x1024_S256x1024_0_0 (by decide) q k
    have p1 := fun q => part_at (iblk m c 4 t) 256 inb_S1024x1024_S256x1024_256_0 (by decide) q k
    have p2 := fun q => part_at (iblk m c 4 t) 512 inb_S1024x1024_S256x1024_512_0 (by decide) q k
    have p3 := fun q => part_at (iblk m c 4 t) 768 inb_S1024x1024_S256x1024_768_0 (by decide) q k
    simp only [p0, p1, p2, p3, read_y0 m c t, read_y1 m c t, read_y2 m c t, read_y3 m c t, read_w m c t, Nat.zero_add]
    rfl
  · rw [read_lw m c t, read_lb m c t]
    rfl

/-- The call's result. -/
def result : FVec Ideal S32768x1024 .f32 := fun j =>
  out (m (c, main_arg0)) (m (c, main_arg1)) (m (c, main_arg2)) (m (c, main_arg3)) (m (c, main_arg4)) (m (c, main_arg5)) (m (c, main_arg6)) (m (c, main_arg7)) (j 0) (j 1)

theorem entry_at (R : Fin 32768) (d : Fin 1024) : (dats m 0 c).arrAt 8 cfg0.N (ix2 R d) = result m c (ix2 R d) := by
  have hN : R.val / 1024 < cfg0.N := lt_of_lt_of_eq (by omega) N_0.symm
  have h := congrFun (Value.blocks8 m c ⟨R.val / 1024, hN⟩ (flush0_8 _)) (ix2 (⟨R.val % 1024, by omega⟩ : Fin 1024) d)
  rw [Value.flushed8, View.read_apply] at h
  refine Eq.trans ?_ (h.trans ((block_out m c ⟨R.val / 1024, hN⟩ ⟨R.val % 1024, by omega⟩ d).trans ?_))
  · congr 1
    funext a
    apply Fin.ext
    match a with
    | ⟨0, _⟩ =>
      show R.val = cc0_transform_0 (grid0.coords ⟨R.val / 1024, hN⟩) 0 * 1024 + 1 * (R.val % 1024)
      rw [index0]; show _ = R.val / 1024 * 1024 + 1 * (R.val % 1024); omega
    | ⟨1, _⟩ =>
      show d.val = cc0_transform_0 (grid0.coords ⟨R.val / 1024, hN⟩) 1 * 1024 + 1 * d.val
      rw [index0]; show _ = 0 * 1024 + 1 * d.val; omega
  · have : row ⟨R.val / 1024, hN⟩ ⟨R.val % 1024, by omega⟩ = R := Fin.ext (by show 1024 * (R.val / 1024) + R.val % 1024 = R.val; omega)
    rw [this]
    rfl

theorem result_at : (dats m 0 c).arrAt 8 cfg0.N = result m c := by
  funext j
  rw [eq_ix2 j]
  exact entry_at m c _ _
end

end Cert.Mix

end
-- ==== Proof.ProjRef.lean ====
/- The input projection's reference, entry by entry. -/
module

public import proofs.«01_k».proof.Proof.Gen.Reference4Ideal.Run
public import proofs.«01_k».proof.Proof.RefVal

@[expose] public section

set_option maxRecDepth 16384

noncomputable section

namespace Cert.Proj

open Cert.Reference4Ideal Cert.Reference4Ideal.Gen
open Idealize.ShloMosaic
open Idealize.ShloMosaic.TcCoe

/-- The factor of the keys. -/
abbrev scale : EReal := Ideal.ofBits .f32 1040187392#32

/-- A row turned by half a head: the second halves negated, before the first halves. -/
def turned (q : ℕ → EReal) (e : ℕ) : EReal := if e % 64 < 32 then -q (e + 32) else q (e - 32)

/-- Column `j` of the packed row, of the `3088` projected values `p`: queries, scaled keys, the rest, turned queries and keys, the gates, nothing. -/
def packed (p : ℕ → EReal) (j : ℕ) : EReal :=
  if j < 256 then p j else if j < 512 then p j * scale else if j < 3072 then p j
  else if j < 3328 then turned p (j - 3072) else if j < 3584 then turned (fun e => p (256 + e) * scale) (j - 3328)
  else if j < 3600 then p (3072 + (j - 3584)) else 0

/-- The turned columns of the reference. -/
def turn (q : FVec Ideal S32768x256 .f32) : FVec Ideal S32768x256 .f32 :=
  shapeCast _ (concatenate S32768x4x64 2 [⟨S32768x4x32, (Host.negf (F := Ideal) (φ := .f32) (extractStridedSlice S32768x4x32 ![0, 0, 32] (shapeCast _ q shapeCasts_S32768x256_S32768x4x64) slices_S32768x4x64_S32768x4x32_0_0_32))⟩,
    ⟨S32768x4x32, (extractStridedSlice S32768x4x32 ![0, 0, 0] (shapeCast _ q shapeCasts_S32768x256_S32768x4x64) slices_S32768x4x64_S32768x4x32_0_0_0)⟩]
    concatenates_S32768x4x32_S32768x4x32_S32768x4x64_d2) shapeCasts_S32768x4x64_S32768x256

theorem turn_at (q : FVec Ideal S32768x256 .f32) (p : ℕ → EReal) (R : Fin 32768) (hq : ∀ e : Fin 256, q (ix2 R e) = p e.val) (e : Fin 256) : turn q (ix2 R e) = turned p e.val := by
  unfold turn turned
  pointwise
  simp only [hq]
  by_cases h : e.val % 64 < 32
  · rw [dif_pos h, if_pos h, show e.val / 64 * 64 + (32 + e.val % 64) = e.val + 32 by omega]
  · rw [dif_neg h, if_neg h, show e.val / 64 * 64 + (e.val % 64 - 32) = e.val - 32 by omega]

theorem zero_word : FloatOps.sitofp (F := Ideal) .f32 0#32 = (0 : EReal) := by
  show ((((0#32 : BitVec 32).toInt : ℤ) : ℝ) : EReal) = 0
  simp

/-- The gates' columns of the reference. -/
def gates (P : FVec Ideal S32768x3088 .f32) : FVec Ideal S32768x128 .f32 :=
  pad S32768x128 ![0, 0] ![0, 112] ![0, 0] (extractStridedSlice S32768x16 ![0, 3072] P slices_S32768x3088_S32768x16_0_3072) (sitofp .f32 (constantI S_ 32 0#32)) pads_S32768x16_S32768x128_000_01120 h_S_

theorem gates_at (P : FVec Ideal S32768x3088 .f32) (R : Fin 32768) (e : Fin 128) : gates P (ix2 R e) = if h : e.val < 16 then P (ix2 R ⟨3072 + e.val, by omega⟩) else 0 := by
  have hz := zero_word
  unfold gates
  pointwise
  rw [hz]

/-- The seven pieces side by side. -/
theorem beside (a b : FVec Ideal S32768x256 .f32) (c : FVec Ideal S32768x2560 .f32) (d e : FVec Ideal S32768x256 .f32) (f g : FVec Ideal S32768x128 .f32) (R : Fin 32768) (j : Fin 3840) :
    concatenate S32768x3840 1 [⟨S32768x256, a⟩, ⟨S32768x256, b⟩, ⟨S32768x2560, c⟩, ⟨S32768x256, d⟩, ⟨S32768x256, e⟩, ⟨S32768x128, f⟩, ⟨S32768x128, g⟩]
      concatenates_S32768x256_S32768x256_S32768x2560_S32768x256_S32768x256_S32768x128_S32768x128_S32768x3840_d1 (ix2 R j)
    = if h : j.val < 256 then a (ix2 R ⟨j.val, h⟩) else if h : j.val - 256 < 256 then b (ix2 R ⟨j.val - 256, h⟩) else if h : j.val - 256 - 256 < 2560 then c (ix2 R ⟨j.val - 256 - 256, h⟩)
      else if h : j.val - 256 - 256 - 2560 < 256 then d (ix2 R ⟨j.val - 256 - 256 - 2560, h⟩) else if h : j.val - 256 - 256 - 2560 - 256 < 256 then e (ix2 R ⟨j.val - 256 - 256 - 2560 - 256, h⟩)
      else if h : j.val - 256 - 256 - 2560 - 256 - 256 < 128 then f (ix2 R ⟨j.val - 256 - 256 - 2560 - 256 - 256, h⟩) else g (ix2 R ⟨j.val - 256 - 256 - 2560 - 256 - 256 - 128, by omega⟩) := by
  pointwise

/-- The queries, the scaled keys and the columns after them. -/
def queries (P : FVec Ideal S32768x3088 .f32) : FVec Ideal S32768x256 .f32 := extractStridedSlice S32768x256 ![0, 0] P slices_S32768x3088_S32768x256_0_0
def keys (P : FVec Ideal S32768x3088 .f32) : FVec Ideal S32768x256 .f32 :=
  mulf (F := Ideal) (φ := .f32) (extractStridedSlice S32768x256 ![0, 256] P slices_S32768x3088_S32768x256_0_256) (broadcastInDim S32768x256 ![] bcast_S_S32768x256 (constant S_ .f32 0x3E000000#32))
def middle (P : FVec Ideal S32768x3088 .f32) : FVec Ideal S32768x2560 .f32 := extractStridedSlice S32768x2560 ![0, 512] P slices_S32768x3088_S32768x2560_0_512

/-- The reference's packed rows. -/
def rows (P : FVec Ideal S32768x3088 .f32) : FVec Ideal S32768x3840 .bf16 :=
  truncf (F := Ideal) .bf16 (concatenate S32768x3840 1 [⟨S32768x256, queries P⟩, ⟨S32768x256, keys P⟩, ⟨S32768x2560, middle P⟩, ⟨S32768x256, turn (queries P)⟩, ⟨S32768x256, turn (keys P)⟩,
    ⟨S32768x128, gates P⟩, ⟨S32768x128, broadcastInDim S32768x128 ![] bcast_S_S32768x128 (constant (F := Ideal) S_ .f32 0x00000000#32)⟩]
    concatenates_S32768x256_S32768x256_S32768x2560_S32768x256_S32768x256_S32768x128_S32768x128_S32768x3840_d1) bitsLt_bf16_f32

theorem queries_at (P : FVec Ideal S32768x3088 .f32) (R : Fin 32768) (e : Fin 256) : queries P (ix2 R e) = P (ix2 R ⟨e.val, by omega⟩) := by
  unfold queries
  pointwise

theorem keys_at (P : FVec Ideal S32768x3088 .f32) (R : Fin 32768) (e : Fin 256) : keys P (ix2 R e) = P (ix2 R ⟨256 + e.val, by omega⟩) * scale := by
  unfold keys
  pointwise

theorem middle_at (P : FVec Ideal S32768x3088 .f32) (R : Fin 32768) (e : Fin 2560) : middle P (ix2 R e) = P (ix2 R ⟨512 + e.val, by omega⟩) := by
  unfold middle
  pointwise

theorem none_at (R : Fin 32768) (e : Fin 128) : broadcastInDim S32768x128 ![] bcast_S_S32768x128 (constant (F := Ideal) S_ .f32 0x00000000#32) (ix2 R e) = (0 : EReal) := by
  pointwise
  try exact Ideal.ofBits_zero_f32

theorem rows_at (P : FVec Ideal S32768x3088 .f32) (p : ℕ → EReal) (R : Fin 32768) (hp : ∀ n : Fin 3088, P (ix2 R n) = p n.val) (j : Fin 3840) : rows P (ix2 R j) = packed p j.val := by
  have hq := turn_at (queries P) p R (fun e => (queries_at P R e).trans (hp _))
  have hk := turn_at (keys P) (fun e => p (256 + e) * scale) R (fun e => (keys_at P R e).trans (by rw [hp]))
  refine (beside (queries P) (keys P) (middle P) (turn (queries P)) (turn (keys P)) (gates P) _ R j).trans ?_
  unfold packed
  by_cases h1 : j.val < 256
  · rw [dif_pos h1, if_pos h1, queries_at, hp]
  rw [dif_neg h1, if_neg h1]
  by_cases h2 : j.val < 512
  · rw [dif_pos (by omega), if_pos h2, keys_at, hp]
    dsimp only
    rw [show 256 + (j.val - 256) = j.val by omega]
  rw [dif_neg (by omega), if_neg h2]
  by_cases h3 : j.val < 3072
  · rw [dif_pos (by omega), if_pos h3, middle_at, hp]
    dsimp only
    rw [show 512 + (j.val - 256 - 256) = j.val by omega]
  rw [dif_neg (by omega), if_neg h3]
  by_cases h4 : j.val < 3328
  · rw [dif_pos (by omega), if_pos h4, hq]
    dsimp only
    rw [show j.val - 256 - 256 - 2560 = j.val - 3072 by omega]
  rw [dif_neg (by omega), if_neg h4]
  by_cases h5 : j.val < 3584
  · rw [dif_pos (by omega), if_pos h5, hk]
    dsimp only
    rw [show j.val - 256 - 256 - 2560 - 256 = j.val - 3328 by omega]
  rw [dif_neg (by omega), if_neg h5]
  by_cases h6 : j.val < 3600
  · rw [dif_pos (by omega), if_pos h6, gates_at, dif_pos (by dsimp only; omega), hp]
    dsimp only
    rw [show j.val - 256 - 256 - 2560 - 256 - 256 = j.val - 3584 by omega]
  rw [if_neg h6]
  by_cases h7 : j.val < 3712
  · rw [dif_pos (by omega), gates_at, dif_neg (by dsimp only; omega)]
  · rw [dif_neg (by omega), none_at]

/-- The projected values. -/
def product (x : FVec Ideal S32768x1024 .f32) (w : FVec Ideal S1024x3088 .f32) : FVec Ideal S32768x3088 .f32 :=
  Host.dotGeneral dot_S32768x1024_S1024x3088_S32768x3088_1_0_0_1_n_n none x w

/-- A projected value, nothing past the last column. -/
def projected (x : FVec Ideal S32768x1024 .f32) (w : FVec Ideal S1024x3088 .f32) (R : Fin 32768) (n : ℕ) : EReal :=
  ∑ k : Fin 1024, x (ix2 R k) * (if h : n < 3088 then w (ix2 k ⟨n, h⟩) else 0)

theorem product_at (x : FVec Ideal S32768x1024 .f32) (w : FVec Ideal S1024x3088 .f32) (R : Fin 32768) (n : Fin 3088) : product x w (ix2 R n) = projected x w R n.val := by
  have h : ∀ k : Fin 1024, (if h : n.val < 3088 then w (ix2 k ⟨n.val, h⟩) else 0) = w (ix2 k n) := fun k => dif_pos n.isLt
  unfold projected
  simp only [h]
  unfold product
  pointwise

end Cert.Proj

end
-- ==== Proof.ProjHost.lean ====
/- The in-projection's weights as they are packed, and its payloads, at an index. -/
module

public import proofs.«01_k».proof.Proof.Gen.Kernel4Ideal.Skeleton
public import proofs.«01_k».proof.Proof.ProjRef

@[expose] public section

set_option maxRecDepth 16384

noncomputable section

namespace Cert.Proj.Call

open Cert.Kernel4Ideal Cert.Kernel4Ideal.Gen
open Idealize.ShloMosaic
open Idealize.ShloMosaic.TcCoe

/-- A column of the weights, nothing past the last. -/
def column (w : FVec Ideal S1024x3088 .f32) (k : Fin 1024) (n : ℕ) : EReal := if h : n < 3088 then w (ix2 k ⟨n, h⟩) else 0

theorem column_at (w : FVec Ideal S1024x3088 .f32) (k : Fin 1024) (n : Fin 3088) : w (ix2 k n) = column w k n.val := by
  unfold column
  rw [dif_pos n.isLt]

/-- The columns turned. -/
def turn (q : FVec Ideal S1024x256 .f32) : FVec Ideal S1024x256 .f32 :=
  shapeCast S1024x256 (concatenate S1024x4x2x32 2
    [⟨S1024x4x1x32, broadcastInDim S1024x4x1x32 ![0, 1, 3] bcast_S1024x4x32_S1024x4x1x32_0_1_3 (Host.negf (F := Ideal) (φ := .f32) (shapeCast S1024x4x32
      (extractStridedSlice S1024x4x1x32 ![0, 0, 1, 0] (shapeCast S1024x4x2x32 q shapeCasts_S1024x256_S1024x4x2x32) slices_S1024x4x2x32_S1024x4x1x32_0_0_1_0) shapeCasts_S1024x4x1x32_S1024x4x32))⟩,
    ⟨S1024x4x1x32, broadcastInDim S1024x4x1x32 ![0, 1, 3] bcast_S1024x4x32_S1024x4x1x32_0_1_3 (shapeCast S1024x4x32
      (extractStridedSlice S1024x4x1x32 ![0, 0, 0, 0] (shapeCast S1024x4x2x32 q shapeCasts_S1024x256_S1024x4x2x32) slices_S1024x4x2x32_S1024x4x1x32_0_0_0_0) shapeCasts_S1024x4x1x32_S1024x4x32)⟩]
    concatenates_S1024x4x1x32_S1024x4x1x32_S1024x4x2x32_d2) shapeCasts_S1024x4x2x32_S1024x256

theorem turn_at (q : FVec Ideal S1024x256 .f32) (p : ℕ → EReal) (k : Fin 1024) (hq : ∀ e : Fin 256, q (ix2 k e) = p e.val) (e : Fin 256) : turn q (ix2 k e) = turned p e.val := by
  unfold turn turned
  pointwise
  simp only [hq]
  by_cases h : e.val % 64 < 32
  · rw [dif_pos (by omega), if_pos h, show e.val / 64 * 64 + 32 + e.val % 32 = e.val + 32 by omega]
  · rw [dif_neg (by omega), if_neg h, show e.val / 64 * 64 + e.val % 32 = e.val - 32 by omega]

/-- The queries', the scaled keys' and the other columns. -/
def queries (w : FVec Ideal S1024x3088 .f32) : FVec Ideal S1024x256 .f32 := extractStridedSlice S1024x256 ![0, 0] w slices_S1024x3088_S1024x256_0_0
def keys (w : FVec Ideal S1024x3088 .f32) : FVec Ideal S1024x256 .f32 :=
  mulf (F := Ideal) (φ := .f32) (extractStridedSlice S1024x256 ![0, 256] w slices_S1024x3088_S1024x256_0_256) (broadcastInDim S1024x256 ![] bcast_S_S1024x256 (constant S_ .f32 0x3E000000#32))
def middle (w : FVec Ideal S1024x3088 .f32) : FVec Ideal S1024x2560 .f32 := extractStridedSlice S1024x2560 ![0, 512] w slices_S1024x3088_S1024x2560_0_512
def gates (w : FVec Ideal S1024x3088 .f32) : FVec Ideal S1024x128 .f32 :=
  pad S1024x128 ![0, 0] ![0, 112] ![0, 0] (extractStridedSlice S1024x16 ![0, 3072] w slices_S1024x3088_S1024x16_0_3072) (sitofp .f32 (constantI S_ 32 0#32)) pads_S1024x16_S1024x128_000_01120 h_S_

/-- The first three side by side, and all of them. -/
def plain (w : FVec Ideal S1024x3088 .f32) : FVec Ideal S1024x3072 .f32 :=
  concatenate S1024x3072 1 [⟨S1024x256, queries w⟩, ⟨S1024x256, keys w⟩, ⟨S1024x2560, middle w⟩] concatenates_S1024x256_S1024x256_S1024x2560_S1024x3072_d1
def columns (w : FVec Ideal S1024x3088 .f32) : FVec Ideal S1024x3712 .f32 :=
  concatenate S1024x3712 1 [⟨S1024x3072, plain w⟩, ⟨S1024x256, turn (queries w)⟩, ⟨S1024x256, turn (keys w)⟩, ⟨S1024x128, gates w⟩] concatenates_S1024x3072_S1024x256_S1024x256_S1024x128_S1024x3712_d1

/-- The weights the call takes. -/
def packing (w : FVec Ideal S1024x3088 .f32) : FVec Ideal S1024x3840 .bf16 :=
  truncf (F := Ideal) .bf16 (pad S1024x3840 ![0, 0] ![0, 128] ![0, 0] (columns w) (sitofp .f32 (constantI S_ 32 0#32)) pads_S1024x3712_S1024x3840_000_01280 h_S_) bitsLt_bf16_f32

section
variable (w : FVec Ideal S1024x3088 .f32) (k : Fin 1024)

theorem queries_at (e : Fin 256) : queries w (ix2 k e) = column w k e.val := by
  refine Eq.trans ?_ (column_at w k ⟨e.val, by omega⟩)
  unfold queries
  pointwise

theorem keys_at (e : Fin 256) : keys w (ix2 k e) = column w k (256 + e.val) * scale := by
  refine Eq.trans ?_ (congrArg (· * scale) (column_at w k ⟨256 + e.val, by omega⟩))
  unfold keys
  pointwise

theorem middle_at (e : Fin 2560) : middle w (ix2 k e) = column w k (512 + e.val) := by
  refine Eq.trans ?_ (column_at w k ⟨512 + e.val, by omega⟩)
  unfold middle
  pointwise

theorem gates_at (e : Fin 128) : gates w (ix2 k e) = if e.val < 16 then column w k (3072 + e.val) else 0 := by
  have hz := zero_word
  have hc : ∀ n (h : n < 3088), w (ix2 k ⟨n, h⟩) = column w k n := fun n h => column_at w k ⟨n, h⟩
  unfold gates
  pointwise
  simp only [hz, hc, dite_eq_ite]

theorem plain_at (j : Fin 3072) : plain w (ix2 k j) = if j.val < 256 then column w k j.val else if j.val < 512 then column w k j.val * scale else column w k j.val := by
  unfold plain
  pointwise
  simp only [queries_at, keys_at, middle_at]
  by_cases h1 : j.val < 256
  · rw [dif_pos h1, if_pos h1]
  rw [dif_neg h1, if_neg h1]
  by_cases h2 : j.val < 512
  · rw [dif_pos (by omega), if_pos h2, show 256 + (j.val - 256) = j.val by omega]
  · rw [dif_neg (by omega), if_neg h2, show 512 + (j.val - 256 - 256) = j.val by omega]

theorem columns_at (j : Fin 3712) : columns w (ix2 k j) = packed (column w k) j.val := by
  have hq := turn_at (queries w) (column w k) k (queries_at w k)
  have hk := turn_at (keys w) (fun e => column w k (256 + e) * scale) k (keys_at w k)
  unfold columns
  pointwise
  simp only [hq, hk, plain_at, gates_at]
  unfold packed
  by_cases h3 : j.val < 3072
  · rw [dif_pos h3]
    split_ifs <;> rfl
  rw [dif_neg h3, if_neg (show ¬j.val < 256 by omega), if_neg (show ¬j.val < 512 by omega), if_neg h3]
  by_cases h4 : j.val < 3328
  · rw [dif_pos (by omega), if_pos h4]
  rw [dif_neg (by omega), if_neg h4]
  by_cases h5 : j.val < 3584
  · rw [dif_pos (by omega), if_pos h5, show j.val - 3072 - 256 = j.val - 3328 by omega]
  rw [dif_neg (by omega), if_neg h5]
  by_cases h6 : j.val < 3600
  · rw [if_pos (show j.val - 3072 - 256 - 256 < 16 by omega), if_pos h6, show j.val - 3072 - 256 - 256 = j.val - 3584 by omega]
  · rw [if_neg (show ¬j.val - 3072 - 256 - 256 < 16 by omega), if_neg h6]

theorem packing_at (j : Fin 3840) : packing w (ix2 k j) = packed (column w k) j.val := by
  have hz := zero_word
  unfold packing
  pointwise
  simp only [hz, columns_at]
  by_cases h : j.val < 3712
  · rw [dif_pos h]
  · rw [dif_neg h]
    unfold packed
    rw [if_neg (by omega), if_neg (by omega), if_neg (by omega), if_neg (by omega), if_neg (by omega), if_neg (by omega)]
end

/-- What a point stores, of the blocks it reads. -/
theorem rows_of (x : Vec Ideal S1024x1024 .f32) (w : Vec Ideal S1024x1280 .bf16) (r : Fin 1024) (j : Fin 1280) : k0_pay2 (F := Ideal) x w (ix2 r j) = ∑ k, x (ix2 r k) * w (ix2 k j) := by
  unfold k0_pay2 k0_pay1
  pointwise

theorem gates_of (x : Vec Ideal S1024x1024 .f32) (w : Vec Ideal S1024x1280 .bf16) (r : Fin 1024) (e : Fin 128) : k0_pay3 (F := Ideal) x w (ix2 r e) = ∑ k, x (ix2 r k) * w (ix2 k ⟨1024 + e.val, by omega⟩) := by
  unfold k0_pay3 k0_pay1
  pointwise

end Cert.Proj.Call

end
-- ==== Proof.Proj.lean ====
/- The in-projection's results, entry by entry. -/
module

public import proofs.«01_k».proof.Proof.Gen.Kernel4Ideal.Value
public import proofs.«01_k».proof.Proof.ProjHost
public import Idealize.ShloMosaic.Lib.StableHlo.RunRead

@[expose] public section

set_option maxRecDepth 16384

noncomputable section

namespace Cert.Proj.Call

open Cert.Kernel4Ideal Cert.Kernel4Ideal.Gen
open Idealize.ShloMosaic
open Idealize.ShloMosaic.TcCoe
open Idealize.ShloMosaic.StableHlo

theorem t_lt (t : Fin grid0.N) : t.val < 96 := N_0 ▸ t.isLt

theorem coord0 (t : Fin grid0.N) : (grid0.coords t 0).val = t.val / 3 := by
  rw [Pipeline.Grid.coords_val t 0 (S := 3) (B := 32) (by decide) rfl]
  have h := t_lt t
  omega

theorem coord1 (t : Fin grid0.N) : (grid0.coords t 1).val = t.val % 3 := by
  rw [Pipeline.Grid.coords_val t 1 (S := 1) (B := 3) (by decide) rfl]
  omega

theorem index0 (t : Fin grid0.N) : cc0_transform_0 (grid0.coords t) = ![t.val / 3, 0] := by
  have h := t_lt t
  unfold cc0_transform_0
  dsimp only
  rw [coord0]
  simp only [BitVec.toNat_ofNat]
  congr 1 <;> first | rfl | omega

theorem index1 (t : Fin grid0.N) : cc0_transform_1 (grid0.coords t) = ![0, t.val % 3] := by
  have h := t_lt t
  unfold cc0_transform_1
  dsimp only
  rw [coord1]
  simp only [BitVec.toNat_ofNat]
  rw [show t.val % 3 % 2 ^ 32 = t.val % 3 by omega]

theorem index2 (t : Fin grid0.N) : cc0_transform_2 (grid0.coords t) = ![t.val / 3, t.val % 3] := by
  have h := t_lt t
  unfold cc0_transform_2
  dsimp only
  rw [coord0, coord1]
  simp only [BitVec.toNat_ofNat]
  rw [show t.val % 3 % 2 ^ 32 = t.val % 3 by omega, show t.val / 3 % 2 ^ 32 = t.val / 3 by omega]

theorem index3 (t : Fin grid0.N) : cc0_transform_3 (grid0.coords t) = ![t.val / 3, 0] := by
  have h := t_lt t
  unfold cc0_transform_3
  dsimp only
  rw [coord0]
  simp only [BitVec.toNat_ofNat]
  congr 1 <;> first | rfl | omega

/-- A block's row as a row of the whole, and a block's column. -/
def row (t : Fin cfg0.N) (r : Fin 1024) : Fin 32768 := ⟨1024 * (t.val / 3) + r.val, by have := t_lt t; omega⟩
def place (t : Fin cfg0.N) (j : Fin 1280) : Fin 3840 := ⟨1280 * (t.val % 3) + j.val, by omega⟩

/-- A packed row's entry: a row times a packed column. -/
def entry (x : FVec Ideal S32768x1024 .f32) (w : FVec Ideal S1024x3088 .f32) (R : Fin 32768) (j : ℕ) : EReal := ∑ k : Fin 1024, x (ix2 R k) * packed (column w k) j

theorem hz : (![0, 0] : Fin 2 → Nat) = fun _ => 0 := funext fun a => by fin_cases a <;> rfl

section
variable (c : Dev nD) (i : grid0.Coords)
  {a2 : Memref sig .tc .vmem S1024x1024 .f32} (h2 : a2.IsWhole) {a3 : Memref sig .tc .vmem S1024x1280 .bf16} (h3 : a3.IsWhole)
  {a4 : Memref sig .tc .vmem S1024x1280 .bf16} (h4 : a4.IsWhole) {a5 : Memref sig .tc .vmem S1024x128 .f32} (h5 : a5.IsWhole)
  (x : Vec Ideal S1024x1024 .f32) (w : Vec Ideal S1024x1280 .bf16)

/-- A point stores its rows times its columns; -/
theorem rows_before (q : ¬cond0_0 i) : out0_A_2 c i a2 h2 a3 h3 a4 h4 a5 h5 q x w = k0_pay2 x w := by
  unfold out0_A_2
  rw [View.read_writes_eq_canon _ _ _ (cover0_A_2 c i a2 h2 a3 h3 a4 h4 a5 h5 q x w)]
  unfold kernelRun0_A
  dsimp only
  sl_unfold_words
  rw [View.canon_unit_zero hz]
  simp only [View.readAt_eq_ld, h2.read_unread, h3.read_unread, View.ld_unit_zero (S := S1024x1024) hz, View.ld_unit_zero (S := S1024x1280) hz]

/-- the last of a row block too, -/
theorem rows_last (q : cond0_0 i) : out0_B_2 c i a2 h2 a3 h3 a4 h4 a5 h5 q x w = k0_pay2 x w := by
  unfold out0_B_2
  rw [View.read_writes_eq_canon _ _ _ (cover0_B_2 c i a2 h2 a3 h3 a4 h4 a5 h5 q x w)]
  unfold kernelRun0_B
  dsimp only
  sl_unfold_words
  rw [View.canon_unit_zero hz]
  simp only [View.readAt_eq_ld, h2.read_unread, h3.read_unread, View.ld_unit_zero (S := S1024x1024) hz, View.ld_unit_zero (S := S1024x1280) hz]

/-- and that one also the gates. -/
theorem gates_last (q : cond0_0 i) : out0_B_3 c i a2 h2 a3 h3 a4 h4 a5 h5 q x w = k0_pay3 x w := by
  unfold out0_B_3
  rw [View.read_writes_eq_canon _ _ _ (cover0_B_3 c i a2 h2 a3 h3 a4 h4 a5 h5 q x w)]
  unfold kernelRun0_B
  dsimp only
  sl_unfold_words
  rw [View.canon_unit_zero hz]
  simp only [View.readAt_eq_ld, h2.read_unread, h3.read_unread, View.ld_unit_zero (S := S1024x1024) hz, View.ld_unit_zero (S := S1024x1280) hz]
end

section
variable (m : (ℓ : Loc nD τ sig) → Buf (Elt Ideal) ℓ) (c : Dev nD)

/-- The weights the call finds. -/
theorem found_w : V m c main_v30 = packing (m (c, main_arg1)) := by
  show after (List.flatten [hostOps0, hostOps0_1, hostOps0_2, hostOps0_3, hostOps0_4]) (fun b => m (c, b)) (Proc.devRef .tc main_v30) = _
  simp only [hostOps0, hostOps0_1, hostOps0_2, hostOps0_3, hostOps0_4, List.flatten_cons, List.flatten_nil, List.append_nil, List.cons_append, List.nil_append,
    TRef.binary, TRef.unary, TRef.toBuf, TRef.ofBuf, cast_eq]
  after_results <;> rfl

theorem read_x (t : Fin cfg0.N) (r : Fin 1024) (k : Fin 1024) : (iblk m c 0 t : Vec Ideal S1024x1024 .f32) (ix2 r k) = (m (c, main_arg0) : FVec Ideal S32768x1024 .f32) (ix2 (row t r) k) := by
  unfold iblk
  rw [View.read_apply]
  show V m c main_arg0 _ = _
  rw [V_main_arg0]
  congr 1
  funext a
  apply Fin.ext
  match a with
  | ⟨0, _⟩ =>
    show cc0_transform_0 (grid0.coords t) 0 * 1024 + 1 * r.val = 1024 * (t.val / 3) + r.val
    rw [index0]; show t.val / 3 * 1024 + 1 * r.val = _; omega
  | ⟨1, _⟩ =>
    show cc0_transform_0 (grid0.coords t) 1 * 1024 + 1 * k.val = k.val
    rw [index0]; show 0 * 1024 + 1 * k.val = _; omega

theorem read_w (t : Fin cfg0.N) (k : Fin 1024) (j : Fin 1280) : (iblk m c 1 t : Vec Ideal S1024x1280 .bf16) (ix2 k j) = packed (column (m (c, main_arg1)) k) (place t j).val := by
  refine Eq.trans ?_ (packing_at (m (c, main_arg1)) k (place t j))
  unfold iblk
  rw [View.read_apply]
  show V m c main_v30 _ = _
  rw [found_w]
  congr 1
  funext a
  apply Fin.ext
  match a with
  | ⟨0, _⟩ =>
    show cc0_transform_1 (grid0.coords t) 0 * 1024 + 1 * k.val = k.val
    rw [index1]; show 0 * 1024 + 1 * k.val = _; omega
  | ⟨1, _⟩ =>
    show cc0_transform_1 (grid0.coords t) 1 * 1280 + 1 * j.val = 1280 * (t.val % 3) + j.val
    rw [index1]; show t.val % 3 * 1280 + 1 * j.val = _; omega

/-- The packed rows' entries, of the arguments. -/
def value (R : Fin 32768) (j : ℕ) : EReal := entry (m (c, main_arg0)) (m (c, main_arg1)) R j

theorem block_rows (t : Fin cfg0.N) (r : Fin 1024) (j : Fin 1280) : (k0_pay2 (F := Ideal) (iblk m c 0 t) (iblk m c 1 t)) (ix2 r j) = value m c (row t r) (place t j).val := by
  rw [rows_of]
  simp only [read_x m c t, read_w m c t]
  rfl

theorem left_rows (t : Fin cfg0.N) (r : Fin 1024) (j : Fin 1280) : (outsAt0 m c t.val t.isLt).1 (ix2 r j) = value m c (row t r) (place t j).val := by
  by_cases h : t.val % 3 = 2
  · rw [outsAt0_B m c t h]
    dsimp only
    rw [rows_last]
    exact block_rows m c t r j
  · rw [outsAt0_A m c t h]
    dsimp only
    rw [rows_before]
    exact block_rows m c t r j

theorem left_gates (t : Fin cfg0.N) (h : t.val % 3 = 2) (r : Fin 1024) (e : Fin 128) : (outsAt0 m c t.val t.isLt).2 (ix2 r e) = value m c (row t r) (3584 + e.val) := by
  rw [outsAt0_B m c t h]
  dsimp only
  rw [gates_last, gates_of]
  have hp : ∀ n : Fin 1280, n.val = 1024 + e.val → (place t n).val = 3584 + e.val := fun n hn => by
    show 1280 * (t.val % 3) + n.val = _
    omega
  simp only [read_x m c t, read_w m c t, hp ⟨1024 + e.val, _⟩ rfl]
  rfl

/-- The call's results. -/
def rows : FVec Ideal S32768x3840 .bf16 := fun j => value m c (j 0) (j 1).val
def gateRows : FVec Ideal S32768x128 .f32 := fun j => value m c (j 0) (3584 + (j 1).val)

theorem row_entry (R : Fin 32768) (J : Fin 3840) : (dats m 0 c).arrAt 2 cfg0.N (ix2 R J) = rows m c (ix2 R J) := by
  have hN : 3 * (R.val / 1024) + J.val / 1280 < cfg0.N := lt_of_lt_of_eq (by omega) N_0.symm
  have h := congrFun (Value.blocks2 m c ⟨_, hN⟩ (flush0_2 _)) (ix2 (⟨R.val % 1024, by omega⟩ : Fin 1024) (⟨J.val % 1280, by omega⟩ : Fin 1280))
  rw [Value.flushed2, View.read_apply] at h
  refine Eq.trans ?_ (h.trans ((left_rows m c ⟨_, hN⟩ ⟨R.val % 1024, by omega⟩ ⟨J.val % 1280, by omega⟩).trans ?_))
  · congr 1
    funext a
    apply Fin.ext
    match a with
    | ⟨0, _⟩ =>
      show R.val = cc0_transform_2 (grid0.coords ⟨_, hN⟩) 0 * 1024 + 1 * (R.val % 1024)
      rw [index2]; show _ = (3 * (R.val / 1024) + J.val / 1280) / 3 * 1024 + 1 * (R.val % 1024); omega
    | ⟨1, _⟩ =>
      show J.val = cc0_transform_2 (grid0.coords ⟨_, hN⟩) 1 * 1280 + 1 * (J.val % 1280)
      rw [index2]; show _ = (3 * (R.val / 1024) + J.val / 1280) % 3 * 1280 + 1 * (J.val % 1280); omega
  · have h1 : row ⟨_, hN⟩ ⟨R.val % 1024, by omega⟩ = R := Fin.ext (by show 1024 * ((3 * (R.val / 1024) + J.val / 1280) / 3) + R.val % 1024 = R.val; omega)
    have h2 : place ⟨_, hN⟩ ⟨J.val % 1280, by omega⟩ = J := Fin.ext (by show 1280 * ((3 * (R.val / 1024) + J.val / 1280) % 3) + J.val % 1280 = J.val; omega)
    rw [h1, h2]
    rfl

/-- Two points that write gates back write different rows. -/
theorem apart (t t' : Fin cfg0.N) (h : (cfg0.win 3).flush t = true) (h' : (cfg0.win 3).flush t' = true) (hne : t ≠ t') :
    Disjoint ((cfg0.win 3).blk t).view.set ((cfg0.win 3).blk t').view.set := by
  refine (cfg0.win 3).disjoint_blk fun e => hne (Fin.ext ?_)
  have e' : cc0_transform_3 (grid0.coords t) 0 = cc0_transform_3 (grid0.coords t') 0 := congrFun e 0
  rw [index3, index3] at e'
  have e2 : t.val / 3 = t'.val / 3 := e'
  have p := (flush0_3 t).1 h
  have p' := (flush0_3 t').1 h'
  omega

theorem gate_entry (R : Fin 32768) (e : Fin 128) : (dats m 0 c).arrAt 3 cfg0.N (ix2 R e) = gateRows m c (ix2 R e) := by
  have hN : 3 * (R.val / 1024) + 2 < cfg0.N := lt_of_lt_of_eq (by omega) N_0.symm
  have hl : (3 * (R.val / 1024) + 2) % 3 = 2 := by omega
  have h := congrFun ((dats m 0 c).read_blk_arrAt_eq_flushed 3 apart cfg0.N ⟨_, hN⟩ hN ((flush0_3 ⟨_, hN⟩).2 hl)) (ix2 (⟨R.val % 1024, by omega⟩ : Fin 1024) e)
  rw [Value.flushed3, View.read_apply] at h
  refine Eq.trans ?_ (h.trans ((left_gates m c ⟨_, hN⟩ hl ⟨R.val % 1024, by omega⟩ e).trans ?_))
  · congr 1
    funext a
    apply Fin.ext
    match a with
    | ⟨0, _⟩ =>
      show R.val = cc0_transform_3 (grid0.coords ⟨_, hN⟩) 0 * 1024 + 1 * (R.val % 1024)
      rw [index3]; show _ = (3 * (R.val / 1024) + 2) / 3 * 1024 + 1 * (R.val % 1024); omega
    | ⟨1, _⟩ =>
      show e.val = cc0_transform_3 (grid0.coords ⟨_, hN⟩) 1 * 128 + 1 * e.val
      rw [index3]; show _ = 0 * 128 + 1 * e.val; omega
  · have h1 : row ⟨_, hN⟩ ⟨R.val % 1024, by omega⟩ = R := Fin.ext (by show 1024 * ((3 * (R.val / 1024) + 2) / 3) + R.val % 1024 = R.val; omega)
    rw [h1]
    rfl

theorem rows_eq : (dats m 0 c).arrAt 2 cfg0.N = rows m c := by
  funext j
  rw [eq_ix2 j]
  exact row_entry m c _ _

theorem gates_eq : (dats m 0 c).arrAt 3 cfg0.N = gateRows m c := by
  funext j
  rw [eq_ix2 j]
  exact gate_entry m c _ _
end

end Cert.Proj.Call

end
-- ==== Proof.ProjSum.lean ====
/- A row of packed columns times a row is the packed row of the products, where nothing is infinite. -/
module

public import proofs.«01_k».proof.Proof.ProjRef
public import proofs.«01_k».proof.Proof.RefVal

@[expose] public section

noncomputable section

namespace Cert.Proj

open Idealize.ShloMosaic

theorem scale_word : scale = ((1 / 8 : ℝ) : EReal) := by
  unfold scale
  simp [Ideal.ofBits, Ideal.ieee]
  rw [← EReal.coe_mul]
  norm_num

/-- Neither infinity. -/
def Fine (x : EReal) : Prop := x ≠ ⊥ ∧ x ≠ ⊤

theorem Fine.mul {x y : EReal} (hx : Fine x) (hy : Fine y) : Fine (x * y) := by
  obtain ⟨a, rfl⟩ : ∃ a : ℝ, (a : EReal) = x := ⟨x.toReal, EReal.coe_toReal hx.2 hx.1⟩
  obtain ⟨b, rfl⟩ : ∃ b : ℝ, (b : EReal) = y := ⟨y.toReal, EReal.coe_toReal hy.2 hy.1⟩
  rw [← EReal.coe_mul]
  exact ⟨EReal.coe_ne_bot _, EReal.coe_ne_top _⟩

theorem fine_scale : Fine scale := by
  rw [scale_word]
  exact ⟨EReal.coe_ne_bot _, EReal.coe_ne_top _⟩

theorem scale_nonneg : 0 ≤ scale := by
  rw [scale_word]
  exact EReal.coe_nonneg.2 (by norm_num)

/-- The negated sum is the sum of the negated. -/
theorem neg_sum_of {ι : Type} (s : Finset ι) (f : ι → EReal) (hf : ∀ i, Fine (f i)) : -∑ i ∈ s, f i = ∑ i ∈ s, -f i := by
  classical
  induction s using Finset.induction_on with
  | empty => simp
  | insert i s hi ih => rw [Finset.sum_insert hi, Finset.sum_insert hi, EReal.neg_add (.inl (hf i).1) (.inl (hf i).2), sub_eq_add_neg, ih]

section
variable (x : Fin 1024 → EReal) (hx : ∀ k, Fine (x k))
include hx

theorem turned_sum (q : Fin 1024 → ℕ → EReal) (hq : ∀ k n, n < 256 → 32 ≤ n % 64 → Fine (q k n)) (e : ℕ) (he : e < 256) : turned (fun n => ∑ k, x k * q k n) e = ∑ k, x k * turned (q k) e := by
  unfold turned
  split
  · rw [neg_sum_of _ _ fun k => (hx k).mul (hq k _ (by omega) (by omega))]
    simp only [mul_neg]
  · rfl

omit hx in
theorem scaled_sum (q : Fin 1024 → ℕ → EReal) (n : ℕ) : (∑ k, x k * q k n) * scale = ∑ k, x k * (q k n * scale) := by
  rw [mul_comm, Cert.Moe.mul_sum_of _ _ scale_nonneg fine_scale.2]
  exact Finset.sum_congr rfl fun k _ => by rw [mul_comm, mul_assoc]

theorem packed_sum (w : Fin 1024 → ℕ → EReal) (hw : ∀ k n, n < 512 → 32 ≤ n % 64 → Fine (w k n)) (j : ℕ) : packed (fun n => ∑ k, x k * w k n) j = ∑ k, x k * packed (w k) j := by
  unfold packed
  split_ifs
  · rfl
  · exact scaled_sum x w j
  · rfl
  · exact turned_sum x hx w (fun k n hn => hw k n (by omega)) _ (by omega)
  · refine Eq.trans ?_ (turned_sum x hx (fun k e => w k (256 + e) * scale) (fun k e h h' => (hw k _ (by omega) (by omega)).mul fine_scale) _ (by omega))
    congr 1
    funext e
    exact scaled_sum x w (256 + e)
  · rfl
  · simp
end

end Cert.Proj

end
-- ==== Proof.ProjPre.lean ====
/- What the in-projection's condition says, and the reference's results under it. -/
module

public import proofs.«01_k».proof.Pre_inputs_finite
public import proofs.«01_k».proof.Proof.Proj
public import proofs.«01_k».proof.Proof.ProjSum
public import proofs.«01_k».proof.Proof.Bridge

@[expose] public section

set_option maxRecDepth 16384

noncomputable section

namespace Cert.Proj

open Idealize.ShloMosaic
open Idealize.ShloMosaic.TcCoe

theorem bottom_word : Ideal.ofBits .f32 0xFF800000#32 = (⊥ : EReal) := by
  simp [Ideal.ofBits, Ideal.ieee]

section
open Cert.Pre_inputs_finite

theorem pre_facts : Facts := ⟨by decide, by decide, by decide, by decide, by decide, by decide, by decide, by decide⟩

variable [Facts] (x : FVec Ideal S32768x1024 .f32) (w : FVec Ideal S1024x3088 .f32)

/-- The weights' columns that are negated, as rows. -/
def negated : FVec Ideal S256x1024 .f32 :=
  transpose S256x1024 [1, 0] (shapeCast S1024x256 (shapeCast S1024x8x32 (extractStridedSlice S1024x8x1x32 ![0, 0, 1, 0]
    (shapeCast S1024x8x2x32 (extractStridedSlice S1024x512 ![0, 0] w Facts.slices_S1024x3088_S1024x512_0_0) Facts.shapeCasts_S1024x512_S1024x8x2x32)
    Facts.slices_S1024x8x2x32_S1024x8x1x32_0_0_1_0) Facts.shapeCasts_S1024x8x1x32_S1024x8x32) Facts.shapeCasts_S1024x8x32_S1024x256) Facts.transposes_S1024x256_S256x1024_1_0

theorem negated_at (q : Fin 256) (k : Fin 1024) : negated w (ix2 q k) = Call.column w k (q.val / 32 * 64 + 32 + q.val % 32) := by
  refine Eq.trans ?_ (Call.column_at w k ⟨q.val / 32 * 64 + 32 + q.val % 32, by omega⟩)
  unfold negated
  pointwise

/-- The rows and, below them, those columns. -/
def below : FVec Ideal S33024x1024 .f32 :=
  concatenate S33024x1024 0 [⟨S32768x1024, x⟩, ⟨S256x1024, negated w⟩] Facts.concatenates_S32768x1024_S256x1024_S33024x1024_d0

theorem below_at (i : Fin 33024) (k : Fin 1024) : below x w (ix2 i k) = if h : i.val < 32768 then x (ix2 ⟨i.val, h⟩ k) else negated w (ix2 ⟨i.val - 32768, by omega⟩ k) := by
  unfold below
  pointwise

theorem fine_of (h : fn (F := Ideal) x w = fun _ => 1#1) (i : Fin 33024) (k : Fin 1024) : Fine (below x w (ix2 i k)) := by
  have h' := congrFun h (ix2 i k)
  generalize hv : below x w (ix2 i k) = v
  have h2 : (BitVec.ofBool (decide (Ideal.ofBits .f32 0xFF800000#32 < v)) &&& BitVec.ofBool (decide (v < Ideal.ofBits .f32 0x7F800000#32))) = 1#1 := by
    rw [← hv]
    exact h'
  rw [bottom_word, Cert.Moe.top_word] at h2
  by_cases p : (⊥ : EReal) < v
  · by_cases q : v < (⊤ : EReal)
    · exact ⟨p.ne', q.ne⟩
    · simp [q] at h2
  · simp [p] at h2

theorem fine_x (h : fn (F := Ideal) x w = fun _ => 1#1) (R : Fin 32768) (k : Fin 1024) : Fine (x (ix2 R k)) := by
  have h' := fine_of x w h ⟨R.val, by omega⟩ k
  rwa [below_at, dif_pos R.isLt] at h'

theorem fine_w (h : fn (F := Ideal) x w = fun _ => 1#1) (k : Fin 1024) (n : ℕ) (hn : n < 512) (hr : 32 ≤ n % 64) : Fine (Call.column w k n) := by
  have h' := fine_of x w h ⟨32768 + (n / 64 * 32 + (n % 64 - 32)), by omega⟩ k
  rw [below_at, dif_neg (by dsimp only; omega), negated_at] at h'
  dsimp only at h'
  rwa [show (32768 + (n / 64 * 32 + (n % 64 - 32)) - 32768) / 32 * 64 + 32 + (32768 + (n / 64 * 32 + (n % 64 - 32)) - 32768) % 32 = n by omega] at h'
end

section
variable (x : FVec Ideal Cert.Reference4Ideal.S32768x1024 .f32) (w : FVec Ideal Cert.Reference4Ideal.S1024x3088 .f32)
  (hx : ∀ R k, Fine (x (ix2 R k))) (hw : ∀ k n, n < 512 → 32 ≤ n % 64 → Fine (Call.column w k n))
include hx hw

theorem rows_fine (R : Fin 32768) (j : Fin 3840) : rows (product x w) (ix2 R j) = Call.entry x w R j.val := by
  rw [rows_at (product x w) (projected x w R) R (product_at x w R) j]
  exact packed_sum (fun k => x (ix2 R k)) (hx R) (Call.column w) hw j.val

theorem gates_fine (R : Fin 32768) (e : Fin 128) : gates (product x w) (ix2 R e) = Call.entry x w R (3584 + e.val) := by
  unfold Call.entry
  rw [← packed_sum (fun k => x (ix2 R k)) (hx R) (Call.column w) hw, gates_at]
  unfold packed
  rw [if_neg (by omega), if_neg (by omega), if_neg (by omega), if_neg (by omega), if_neg (by omega)]
  by_cases h : e.val < 16
  · rw [dif_pos h, if_pos (by omega), product_at, show 3584 + e.val - 3584 = e.val by omega]
    rfl
  · rw [dif_neg h, if_neg (by omega)]
end

end Cert.Proj

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Frames
public import proofs.«01_k».proof.Proof.Same
public import proofs.«01_k».proof.Proof.Out
public import proofs.«01_k».proof.Proof.Bridge
public import proofs.«01_k».proof.Proof.DenseRef
public import proofs.«01_k».proof.Proof.Mix
public import proofs.«01_k».proof.Proof.ProjPre
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import Idealize.ShloMosaic.Adequacy
public import Idealize.ShloMosaic.Init

@[expose] public section

noncomputable section

namespace Cert.Proof

open Idealize.ShloMosaic Idealize.ShloMosaic.StableHlo Idealize.ShloMosaic.TcCoe Idealize.SL.Sem Cert.Kernel

/-- The program as printed runs to its end, the arguments and counters as they were: the run of `Cert.Moe.run_frame`, which holds at
    every float instance, read at the machine's words. -/
theorem frame_kernel : Cert.quiescent_Kernel := fun m g _ =>
  Cert.Moe.run_same Cert.Kernel.defs Cert.Kernel.main Cert.Moe.defs_eq Cert.Moe.main_eq _ _ (Cert.Moe.run_frame (F := Bits) m g)

/-- The same of the idealized program. -/
theorem frame_ideal : Cert.quiescent_KernelIdeal := fun m g _ => Cert.Moe.run_frame (F := Ideal) m g

/-- The reference runs to its end, its arguments as they were; it has no counter. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- The reference ends with the layer's result, if the gates are finite and not negative. -/
theorem ref_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hnums : Cert.Moe.numsRef (launchContents m' c) = Cert.Moe.layer m c) (hG : Cert.Moe.Gates (Cert.Moe.layer m c)) :
    Cert.Moe.normed (Cert.ReferenceIdeal.Value.res_main_v123 (launchContents m' c)) (launchContents m' c (Proc.devRef .tc Cert.ReferenceIdeal.main_arg5))
      (launchContents m' c (Proc.devRef .tc Cert.ReferenceIdeal.main_arg6)) = Cert.Moe.result m c := by
  rw [Cert.Moe.ref_at (launchContents m' c) (hnums ▸ hG), hnums]
  rfl

/-- The kernel and the reference end with the same result. -/
theorem values : Cert.algebraic_KernelIdeal_ReferenceIdeal_pre_gates_finite (hPre_gates_finite := Cert.Moe.pre_facts) := by
  intro m g m' g' hpre hargs
  refine ⟨fun c => Cert.Moe.result m c, Cert.Moe.run_value m g, ?_⟩
  refine (θ_run Cert.ReferenceIdeal.defs _ _).mono (fun r h c => ⟨(h c).1.trans ?_, (h c).2⟩) (Cert.ReferenceIdeal.Value.run (F := Ideal) m' g')
  obtain ⟨h0, h1, h2, h3, h4, h5, h6⟩ := hargs c
  refine ref_value m m' c ?_ (Cert.Moe.gates_of_pre _ _ _ _ _ _ _ (hpre c))
  have congr7 : ∀ {a0 b0 a1 b1 a2 b2 a3 b3 a4 b4 a5 b5 a6 b6}, a0 = b0 → a1 = b1 → a2 = b2 → a3 = b3 → a4 = b4 → a5 = b5 → a6 = b6 →
      Cert.Moe.nums a0 a1 a2 a3 a4 a5 a6 = Cert.Moe.nums b0 b1 b2 b3 b4 b5 b6 := by
    intros
    simp only [*]
  exact congr7 h0 h1 h2 h3 h4 h5 h6

/-- The reference of the dense feed-forward runs to its end, its arguments as they were. -/
theorem frame_reference2 : Cert.quiescent_Reference2Ideal := fun m g _ =>
  (θ_run Cert.Reference2Ideal.defs _ _).mono (fun r h => ⟨fun c => (h c).2, sem_eq_zero_of_no_sems (by decide) r.2⟩)
    (Cert.Reference2Ideal.Value.run (F := Ideal) m g)

/-- The dense feed-forward's call ends with its reference's result. -/
theorem ref_value2 (m : (ℓ : Loc Cert.Kernel2Ideal.nD Cert.Kernel2Ideal.τ Cert.Kernel2Ideal.sig) → Buf (Elt Ideal) ℓ) (c : Dev Cert.Kernel2Ideal.nD) :
    Cert.Moe.normed (Cert.Dense.stream (m (c, Cert.Kernel2Ideal.main_arg0)) (m (c, Cert.Kernel2Ideal.main_arg1)) (m (c, Cert.Kernel2Ideal.main_arg2)) (m (c, Cert.Kernel2Ideal.main_arg3)))
      (m (c, Cert.Kernel2Ideal.main_arg4)) (m (c, Cert.Kernel2Ideal.main_arg5)) = Cert.Kernel2Ideal.Value.G6 m c := by
  funext j
  rw [eq_ix2 j]
  exact (Cert.Dense.ref_at _ _ _ _ _ _ _ _).trans (Cert.Dense.result_at m c _ _).symm

/-- The dense feed-forward and its reference end with the same result. -/
theorem values2 : Cert.algebraic_Kernel2Ideal_Reference2Ideal := by
  intro m g m' g' _ hargs
  refine ⟨fun c => Cert.Kernel2Ideal.Value.G6 m c, Cert.Kernel2Ideal.Value.run (F := Ideal) m g, ?_⟩
  refine (θ_run Cert.Reference2Ideal.defs _ _).mono (fun r h c => ⟨(h c).1.trans ?_, (h c).2⟩) (Cert.Reference2Ideal.Value.run (F := Ideal) m' g')
  obtain ⟨h0, h1, h2, h3, h4, h5⟩ := hargs c
  refine ((Cert.Dense.ref_eq m' c).trans ?_).trans (ref_value2 m c)
  have congr6 : ∀ {a0 b0 a1 b1 a2 b2 a3 b3 a4 b4 a5 b5}, a0 = b0 → a1 = b1 → a2 = b2 → a3 = b3 → a4 = b4 → a5 = b5 →
      Cert.Moe.normed (Cert.Dense.stream a0 a1 a2 a3) a4 a5 = Cert.Moe.normed (Cert.Dense.stream b0 b1 b2 b3) b4 b5 := by
    intros
    simp only [*]
  exact congr6 h0 h1 h2 h3 h4 h5

/-- The reference of the output projection runs to its end, its arguments as they were. -/
theorem frame_reference3 : Cert.quiescent_Reference3Ideal := fun m g _ =>
  (θ_run Cert.Reference3Ideal.defs _ _).mono (fun r h => ⟨fun c => (h c).2, sem_eq_zero_of_no_sems (by decide) r.2⟩)
    (Cert.Reference3Ideal.Value.run (F := Ideal) m g)

/-- The output projection's reference ends with the call's result. -/
theorem ref_value3 (m : (ℓ : Loc Cert.Kernel3Ideal.nD Cert.Kernel3Ideal.τ Cert.Kernel3Ideal.sig) → Buf (Elt Ideal) ℓ) (c : Dev Cert.Kernel3Ideal.nD) :
    Cert.Moe.normed (Cert.Mix.stream (m (c, Cert.Kernel3Ideal.main_arg0)) (m (c, Cert.Kernel3Ideal.main_arg1)) (m (c, Cert.Kernel3Ideal.main_arg2)) (m (c, Cert.Kernel3Ideal.main_arg3))
      (m (c, Cert.Kernel3Ideal.main_arg4)) (m (c, Cert.Kernel3Ideal.main_arg5))) (m (c, Cert.Kernel3Ideal.main_arg6)) (m (c, Cert.Kernel3Ideal.main_arg7)) = Cert.Mix.result m c := by
  funext j
  rw [eq_ix2 j]
  exact Cert.Mix.ref_at _ _ _ _ _ _ _ _ _ _

/-- The output projection and its reference end with the same result. -/
theorem values3 : Cert.algebraic_Kernel3Ideal_Reference3Ideal := by
  intro m g m' g' _ hargs
  refine ⟨fun c => Cert.Mix.result m c, (θ_run Cert.Kernel3Ideal.defs _ _).mono (fun r h c => ⟨(h c).1.trans (Cert.Mix.result_at m c), (h c).2⟩)
    (Cert.Kernel3Ideal.Value.run_blocks (F := Ideal) m g), ?_⟩
  refine (θ_run Cert.Reference3Ideal.defs _ _).mono (fun r h c => ⟨(h c).1.trans ?_, (h c).2⟩) (Cert.Reference3Ideal.Value.run (F := Ideal) m' g')
  obtain ⟨h0, h1, h2, h3, h4, h5, h6, h7⟩ := hargs c
  refine ((Cert.Mix.ref_eq m' c).trans ?_).trans (ref_value3 m c)
  have congr8 : ∀ {a0 b0 a1 b1 a2 b2 a3 b3 a4 b4 a5 b5 a6 b6 a7 b7}, a0 = b0 → a1 = b1 → a2 = b2 → a3 = b3 → a4 = b4 → a5 = b5 → a6 = b6 → a7 = b7 →
      Cert.Moe.normed (Cert.Mix.stream a0 a1 a2 a3 a4 a5) a6 a7 = Cert.Moe.normed (Cert.Mix.stream b0 b1 b2 b3 b4 b5) b6 b7 := by
    intros
    simp only [*]
  exact congr8 h0 h1 h2 h3 h4 h5 h6 h7

/-- The reference of the in-projection runs to its end, its arguments as they were. -/
theorem frame_reference4 : Cert.quiescent_Reference4Ideal := fun m g _ =>
  (θ_run Cert.Reference4Ideal.defs _ _).mono (fun r h => ⟨fun c => (h c).2.2, sem_eq_zero_of_no_sems (by decide) r.2⟩)
    (Cert.Reference4Ideal.Value.run (F := Ideal) m g)

/-- The in-projection's reference ends with the call's packed rows and its gates, if no entry and no weight of a negated column is infinite. -/
theorem ref_value4 (m : (ℓ : Loc Cert.Kernel4Ideal.nD Cert.Kernel4Ideal.τ Cert.Kernel4Ideal.sig) → Buf (Elt Ideal) ℓ) (c : Dev Cert.Kernel4Ideal.nD)
    (hx : ∀ R k, Cert.Proj.Fine ((m (c, Cert.Kernel4Ideal.main_arg0) : FVec Ideal Cert.Reference4Ideal.S32768x1024 .f32) (ix2 R k)))
    (hw : ∀ k n, n < 512 → 32 ≤ n % 64 → Cert.Proj.Fine (Cert.Proj.Call.column (m (c, Cert.Kernel4Ideal.main_arg1)) k n)) :
    Cert.Proj.rows (Cert.Proj.product (m (c, Cert.Kernel4Ideal.main_arg0)) (m (c, Cert.Kernel4Ideal.main_arg1))) = Cert.Proj.Call.rows m c
      ∧ Cert.Proj.gates (Cert.Proj.product (m (c, Cert.Kernel4Ideal.main_arg0)) (m (c, Cert.Kernel4Ideal.main_arg1))) = Cert.Proj.Call.gateRows m c := by
  constructor
  · funext j
    rw [eq_ix2 j]
    exact Cert.Proj.rows_fine _ _ hx hw _ _
  · funext j
    rw [eq_ix2 j]
    exact Cert.Proj.gates_fine _ _ hx hw _ _

/-- The in-projection and its reference end with the same results. -/
theorem values4 : Cert.algebraic_Kernel4Ideal_Reference4Ideal_pre_inputs_finite (hPre_inputs_finite := Cert.Proj.pre_facts) := by
  intro m g m' g' hpre hargs
  refine ⟨fun c => Cert.Proj.Call.rows m c, fun c => Cert.Proj.Call.gateRows m c, (θ_run Cert.Kernel4Ideal.defs _ _).mono
    (fun r h c => ⟨(h c).1.trans (Cert.Proj.Call.rows_eq m c), (h c).2.1.trans (Cert.Proj.Call.gates_eq m c), (h c).2.2⟩) (Cert.Kernel4Ideal.Value.run_blocks (F := Ideal) m g), ?_⟩
  letI := Cert.Proj.pre_facts
  have same : ∀ c, _ ∧ _ := fun c => ref_value4 m c (Cert.Proj.fine_x _ _ (hpre c)) (Cert.Proj.fine_w _ _ (hpre c))
  have both : ∀ {a0 b0 a1 b1}, a0 = b0 → a1 = b1 → Cert.Proj.product a0 a1 = Cert.Proj.product b0 b1 := by
    intros
    simp only [*]
  refine (θ_run Cert.Reference4Ideal.defs _ _).mono (fun r h c => ⟨(h c).1.trans ?_, (h c).2.1.trans ?_, (h c).2.2⟩) (Cert.Reference4Ideal.Value.run (F := Ideal) m' g')
  · exact (congrArg Cert.Proj.rows (both (hargs c).1 (hargs c).2)).trans (same c).1
  · exact (congrArg Cert.Proj.gates (both (hargs c).1 (hargs c).2)).trans (same c).2

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts,
  Cert.Kernel4.Gen.facts, Cert.Kernel4Ideal.Gen.facts, Cert.Reference4Ideal.Gen.facts, Cert.Moe.pre_facts, Cert.Proj.pre_facts,
  frame_kernel, frame_ideal, fun m g _ => frame_ideal m g trivial, frame_reference, fun m g _ => frame_reference m g trivial,
  fun m g _ => Cert.Kernel2.Gen.frame m g, fun m g _ => Cert.Kernel2Ideal.Gen.frame m g, frame_reference2,
  fun m g _ => Cert.Kernel3.Gen.frame m g, fun m g _ => Cert.Kernel3Ideal.Gen.frame m g, frame_reference3,
  fun m g _ => Cert.Kernel4.Gen.frame m g, fun m g _ => Cert.Kernel4Ideal.Gen.frame m g, fun m g _ => Cert.Kernel4Ideal.Gen.frame m g,
  frame_reference4, fun m g _ => frame_reference4 m g trivial, trivial, values, trivial, values2, trivial, values3, trivial, values4⟩

end Cert.Proof

end
